-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x64x64 : Shape := ⟨4, ![2, 128, 64, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x64x64 : S_.BroadcastsInDim S2x128x64x64 (![] : Fin 0 → Fin S2x128x64x64.rank)

variable [Facts]

def fn {F : FTy → Type} [FloatOps F] (main_arg0 : FVec F S2x128x512 .f32) (main_arg1 : FVec F S512x256 .f32) (main_arg2 : FVec F S2x128x64x64 .f32) (main_arg3 : FVec F S2x128x64x64 .f32) (main_arg4 : FVec F S256x512 .f32) : IVec S2x128x512 1 × IVec S512x256 1 × IVec S2x128x64x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x128x64x64 .f32 := Host.absf main_arg2
  let main_cst_1 : FVec F S_ .f32 := constant S_ .f32 0x7F800000#32
  let main_v7 : FVec F S2x128x64x64 .f32 := broadcastInDim S2x128x64x64 ![] bcast_S_S2x128x64x64 main_cst_1
  let main_v8 : IVec S2x128x64x64 1 := cmpf .olt main_v6 main_v7
  (main_v2, main_v5, main_v8)
-- ==== Pre_finite_ReferenceIdeal.lean ====
abbrev S2x128x512 : Shape := ⟨3, ![2, 128, 512]⟩
abbrev S512x4096 : Shape := ⟨2, ![512, 4096]⟩
abbrev S2x128x64x64 : Shape := ⟨4, ![2, 128, 64, 64]⟩
abbrev S4096x512 : Shape := ⟨2, ![4096, 512]⟩
abbrev S_ : Shape := ⟨0, ![]⟩

class Facts : Prop where
  bcast_S_S2x128x512 : S_.BroadcastsInDim S2x128x512 (![] : Fin 0 → Fin S2x128x512.rank)
  bcast_S_S512x4096 : S_.BroadcastsInDim S512x4096 (![] : Fin 0 → Fin S512x4096.rank)
  bcast_S_S2x128x64x64 : S_.BroadcastsInDim S2x128x64x64 (![] : Fin 0 → Fin S2x128x64x64.rank)

variable [Facts]

def fn {F : FTy → Type} [FloatOps F] (main_arg0 : FVec F S2x128x512 .f32) (main_arg1 : FVec F S512x4096 .f32) (main_arg2 : FVec F S2x128x64x64 .f32) (main_arg3 : FVec F S2x128x64x64 .f32) (main_arg4 : FVec F S4096x512 .f32) : IVec S2x128x512 1 × IVec S512x4096 1 × IVec S2x128x64x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x4096 .f32 := Host.absf main_arg1
  let main_cst_0 : FVec F S_ .f32 := constant S_ .f32 0x7F800000#32
  let main_v4 : FVec F S512x4096 .f32 := broadcastInDim S512x4096 ![] bcast_S_S512x4096 main_cst_0
  let main_v5 : IVec S512x4096 1 := cmpf .olt main_v3 main_v4
  let main_v6 : FVec F S2x128x64x64 .f32 := Host.absf main_arg2
  let main_cst_1 : FVec F S_ .f32 := constant S_ .f32 0x7F800000#32
  let main_v7 : FVec F S2x128x64x64 .f32 := broadcastInDim S2x128x64x64 ![] bcast_S_S2x128x64x64 main_cst_1
  let main_v8 : IVec S2x128x64x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x64x64 : Shape := ⟨4, ![2, 128, 64, 64]⟩
abbrev S256x512 : Shape := ⟨2, ![256, 512]⟩
abbrev S_ : Shape := ⟨0, ![]⟩
abbrev S2x128x4x64 : Shape := ⟨4, ![2, 128, 4, 64]⟩
abbrev S2x4x128x64 : Shape := ⟨4, ![2, 4, 128, 64]⟩
abbrev S256x256 : Shape := ⟨2, ![256, 256]⟩
abbrev S15x16x512 : Shape := ⟨3, ![15, 16, 512]⟩
abbrev S15 : Shape := ⟨1, ![15]⟩
abbrev S128x128 : Shape := ⟨2, ![128, 128]⟩
abbrev S128x64 : Shape := ⟨2, ![128, 64]⟩
abbrev S1x1x128x64 : Shape := ⟨4, ![1, 1, 128, 64]⟩
abbrev S128 : Shape := ⟨1, ![128]⟩
abbrev S128x1 : Shape := ⟨2, ![128, 1]⟩
abbrev S128x256 : Shape := ⟨2, ![128, 256]⟩
abbrev S128x512 : Shape := ⟨2, ![128, 512]⟩
abbrev S1 : Shape := ⟨1, ![1]⟩
abbrev S1x16x512 : Shape := ⟨3, ![1, 16, 512]⟩
abbrev S16x512 : Shape := ⟨2, ![16, 512]⟩

abbrev nBuf : Space → Nat
  | .hbm => 36
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x64x64, .f32⟩
  | .hbm, ⟨3, _⟩ => ⟨S2x128x64x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x4x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x4x64, .f32⟩
  | .hbm, ⟨33, _⟩ => ⟨S2x4x128x64, .f32⟩
  | .hbm, ⟨34, _⟩ => ⟨S2x4x128x64, .f32⟩
  | .hbm, ⟨35, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x4x128x64, .f32⟩
  | .local _ .vmem, ⟨3, _⟩ => ⟨S2x4x128x64, .f32⟩
  | .local _ .vmem, ⟨4, _⟩ => ⟨S256x512, .f32⟩
  | .local _ .vmem, ⟨5, _⟩ => ⟨S2x128x512, .f32⟩
  | .local _ .vmem, ⟨6, _⟩ => ⟨S256x512, .f32⟩
  | .local _ .vmem, ⟨7, _⟩ => ⟨S256x256, .f32⟩
  | .local _ .vmem, ⟨8, _⟩ => ⟨S256x512, .bf16⟩
  | .local _ .vmem, ⟨9, _⟩ => ⟨S15x16x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_141 : BitVec 32 := 1#32
  let v208 : BitVec 32 := Scalar.addi v2 c1_i32_141
  let c16_i32_142 : BitVec 32 := 16#32
  let v209 : BitVec 32 := Scalar.remsi v208 c16_i32_142
  let c0_i32_144 : BitVec 32 := 0#32
  let v211 : BitVec 1 := Scalar.cmpi .sge v209 c0_i32_144
  let c8_i32_145 : BitVec 32 := 8#32
  let v212 : BitVec 1 := Scalar.cmpi .slt v209 c8_i32_145
  let v213 : BitVec 1 := Scalar.andi v211 v212
  let v214 : BitVec 32 := Scalar.extui v213
  let c0_i32_149 : BitVec 32 := 0#32
  let v215 : BitVec 1 := Scalar.cmpi .ne v214 c0_i32_149
  v215

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_141 : BitVec 32 := 1#32
  let v208 : BitVec 32 := Scalar.addi v2 c1_i32_141
  let c16_i32_142 : BitVec 32 := 16#32
  let v209 : BitVec 32 := Scalar.remsi v208 c16_i32_142
  let c16_i32_143 : BitVec 32 := 16#32
  let v210 : BitVec 32 := Scalar.muli v209 c16_i32_143
  let c0_i32_1034 : BitVec 32 := 0#32
  ![v210.toNat, 0]
def k0_dev16 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_141 : BitVec 32 := 1#32
  let v208 : BitVec 32 := Scalar.addi v2 c1_i32_141
  let c16_i32_142 : BitVec 32 := 16#32
  let v209 : BitVec 32 := Scalar.remsi v208 c16_i32_142
  let c1_i32_1030 : BitVec 32 := 1#32
  let v1084 : BitVec 32 := Scalar.muli v209 c1_i32_1030
  let v1085 : BitVec 32 := Scalar.addi c0_i32_1031 v1084
  v1085.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_150 : BitVec 32 := 2#32
  let v216 : BitVec 32 := Scalar.addi v2 c2_i32_150
  let c16_i32_151 : BitVec 32 := 16#32
  let v217 : BitVec 32 := Scalar.remsi v216 c16_i32_151
  let c0_i32_153 : BitVec 32 := 0#32
  let v219 : BitVec 1 := Scalar.cmpi .sge v217 c0_i32_153
  let c8_i32_154 : BitVec 32 := 8#32
  let v220 : BitVec 1 := Scalar.cmpi .slt v217 c8_i32_154
  let v221 : BitVec 1 := Scalar.andi v219 v220
  let v222 : BitVec 32 := Scalar.extui v221
  let c0_i32_158 : BitVec 32 := 0#32
  let v223 : BitVec 1 := Scalar.cmpi .ne v222 c0_i32_158
  v223

def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_150 : BitVec 32 := 2#32
  let v216 : BitVec 32 := Scalar.addi v2 c2_i32_150
  let c16_i32_151 : BitVec 32 := 16#32
  let v217 : BitVec 32 := Scalar.remsi v216 c16_i32_151
  let c16_i32_152 : BitVec 32 := 16#32
  let v218 : BitVec 32 := Scalar.muli v217 c16_i32_152
  let c0_i32_1034 : BitVec 32 := 0#32
  ![v218.toNat, 0]
def k0_dev17 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_150 : BitVec 32 := 2#32
  let v216 : BitVec 32 := Scalar.addi v2 c2_i32_150
  let c16_i32_151 : BitVec 32 := 16#32
  let v217 : BitVec 32 := Scalar.remsi v216 c16_i32_151
  let c1_i32_1030 : BitVec 32 := 1#32
  let v1084 : BitVec 32 := Scalar.muli v217 c1_i32_1030
  let v1085 : BitVec 32 := Scalar.addi c0_i32_1031 v1084
  v1085.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_159 : BitVec 32 := 3#32
  let v224 : BitVec 32 := Scalar.addi v2 c3_i32_159
  let c16_i32_160 : BitVec 32 := 16#32
  let v225 : BitVec 32 := Scalar.remsi v224 c16_i32_160
  let c0_i32_162 : BitVec 32 := 0#32
  let v227 : BitVec 1 := Scalar.cmpi .sge v225 c0_i32_162
  let c8_i32_163 : BitVec 32 := 8#32
  let v228 : BitVec 1 := Scalar.cmpi .slt v225 c8_i32_163
  let v229 : BitVec 1 := Scalar.andi v227 v228
  let v230 : BitVec 32 := Scalar.extui v229
  let c0_i32_167 : BitVec 32 := 0#32
  let v231 : BitVec 1 := Scalar.cmpi .ne v230 c0_i32_167
  v231

def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_159 : BitVec 32 := 3#32
  let v224 : BitVec 32 := Scalar.addi v2 c3_i32_159
  let c16_i32_160 : BitVec 32 := 16#32
  let v225 : BitVec 32 := Scalar.remsi v224 c16_i32_160
  let c16_i32_161 : BitVec 32 := 16#32
  let v226 : BitVec 32 := Scalar.muli v225 c16_i32_161
  let c0_i32_1034 : BitVec 32 := 0#32
  ![v226.toNat, 0]
def k0_dev18 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_159 : BitVec 32 := 3#32
  let v224 : BitVec 32 := Scalar.addi v2 c3_i32_159
  let c16_i32_160 : BitVec 32 := 16#32
  let v225 : BitVec 32 := Scalar.remsi v224 c16_i32_160
  let c1_i32_1030 : BitVec 32 := 1#32
  let v1084 : BitVec 32 := Scalar.muli v225 c1_i32_1030
  let v1085 : BitVec 32 := Scalar.addi c0_i32_1031 v1084
  v1085.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_168 : BitVec 32 := 4#32
  let v232 : BitVec 32 := Scalar.addi v2 c4_i32_168
  let c16_i32_169 : BitVec 32 := 16#32
  let v233 : BitVec 32 := Scalar.remsi v232 c16_i32_169
  let c0_i32_171 : BitVec 32 := 0#32
  let v235 : BitVec 1 := Scalar.cmpi .sge v233 c0_i32_171
  let c8_i32_172 : BitVec 32 := 8#32
  let v236 : BitVec 1 := Scalar.cmpi .slt v233 c8_i32_172
  let v237 : BitVec 1 := Scalar.andi v235 v236
  let v238 : BitVec 32 := Scalar.extui v237
  let c0_i32_176 : BitVec 32 := 0#32
  let v239 : BitVec 1 := Scalar.cmpi .ne v238 c0_i32_176
  v239

def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_168 : BitVec 32 := 4#32
  let v232 : BitVec 32 := Scalar.addi v2 c4_i32_168
  let c16_i32_169 : BitVec 32 := 16#32
  let v233 : BitVec 32 := Scalar.remsi v232 c16_i32_169
  let c16_i32_170 : BitVec 32 := 16#32
  let v234 : BitVec 32 := Scalar.muli v233 c16_i32_170
  let c0_i32_1034 : BitVec 32 := 0#32
  ![v234.toNat, 0]
def k0_dev19 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_168 : BitVec 32 := 4#32
  let v232 : BitVec 32 := Scalar.addi v2 c4_i32_168
  let c16_i32_169 : BitVec 32 := 16#32
  let v233 : BitVec 32 := Scalar.remsi v232 c16_i32_169
  let c1_i32_1030 : BitVec 32 := 1#32
  let v1084 : BitVec 32 := Scalar.muli v233 c1_i32_1030
  let v1085 : BitVec 32 := Scalar.addi c0_i32_1031 v1084
  v1085.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_177 : BitVec 32 := 5#32
  let v240 : BitVec 32 := Scalar.addi v2 c5_i32_177
  let c16_i32_178 : BitVec 32 := 16#32
  let v241 : BitVec 32 := Scalar.remsi v240 c16_i32_178
  let c0_i32_180 : BitVec 32 := 0#32
  let v243 : BitVec 1 := Scalar.cmpi .sge v241 c0_i32_180
  let c8_i32_181 : BitVec 32 := 8#32
  let v244 : BitVec 1 := Scalar.cmpi .slt v241 c8_i32_181
  let v245 : BitVec 1 := Scalar.andi v243 v244
  let v246 : BitVec 32 := Scalar.extui v245
  let c0_i32_185 : BitVec 32 := 0#32
  let v247 : BitVec 1 := Scalar.cmpi .ne v246 c0_i32_185
  v247

def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_177 : BitVec 32 := 5#32
  let v240 : BitVec 32 := Scalar.addi v2 c5_i32_177
  let c16_i32_178 : BitVec 32 := 16#32
  let v241 : BitVec 32 := Scalar.remsi v240 c16_i32_178
  let c16_i32_179 : BitVec 32 := 16#32
  let v242 : BitVec 32 := Scalar.muli v241 c16_i32_179
  let c0_i32_1034 : BitVec 32 := 0#32
  ![v242.toNat, 0]
def k0_dev20 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_177 : BitVec 32 := 5#32
  let v240 : BitVec 32 := Scalar.addi v2 c5_i32_177
  let c16_i32_178 : BitVec 32 := 16#32
  let v241 : BitVec 32 := Scalar.remsi v240 c16_i32_178
  let c1_i32_1030 : BitVec 32 := 1#32
  let v1084 : BitVec 32 := Scalar.muli v241 c1_i32_1030
  let v1085 : BitVec 32 := Scalar.addi c0_i32_1031 v1084
  v1085.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_186 : BitVec 32 := 6#32
  let v248 : BitVec 32 := Scalar.addi v2 c6_i32_186
  let c16_i32_187 : BitVec 32 := 16#32
  let v249 : BitVec 32 := Scalar.remsi v248 c16_i32_187
  let c0_i32_189 : BitVec 32 := 0#32
  let v251 : BitVec 1 := Scalar.cmpi .sge v249 c0_i32_189
  let c8_i32_190 : BitVec 32 := 8#32
  let v252 : BitVec 1 := Scalar.cmpi .slt v249 c8_i32_190
  let v253 : BitVec 1 := Scalar.andi v251 v252
  let v254 : BitVec 32 := Scalar.extui v253
  let c0_i32_194 : BitVec 32 := 0#32
  let v255 : BitVec 1 := Scalar.cmpi .ne v254 c0_i32_194
  v255

def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_186 : BitVec 32 := 6#32
  let v248 : BitVec 32 := Scalar.addi v2 c6_i32_186
  let c16_i32_187 : BitVec 32 := 16#32
  let v249 : BitVec 32 := Scalar.remsi v248 c16_i32_187
  let c16_i32_188 : BitVec 32 := 16#32
  let v250 : BitVec 32 := Scalar.muli v249 c16_i32_188
  let c0_i32_1034 : BitVec 32 := 0#32
  ![v250.toNat, 0]
def k0_dev21 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_186 : BitVec 32 := 6#32
  let v248 : BitVec 32 := Scalar.addi v2 c6_i32_186
  let c16_i32_187 : BitVec 32 := 16#32
  let v249 : BitVec 32 := Scalar.remsi v248 c16_i32_187
  let c1_i32_1030 : BitVec 32 := 1#32
  let v1084 : BitVec 32 := Scalar.muli v249 c1_i32_1030
  let v1085 : BitVec 32 := Scalar.addi c0_i32_1031 v1084
  v1085.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_195 : BitVec 32 := 7#32
  let v256 : BitVec 32 := Scalar.addi v2 c7_i32_195
  let c16_i32_196 : BitVec 32 := 16#32
  let v257 : BitVec 32 := Scalar.remsi v256 c16_i32_196
  let c0_i32_198 : BitVec 32 := 0#32
  let v259 : BitVec 1 := Scalar.cmpi .sge v257 c0_i32_198
  let c8_i32_199 : BitVec 32 := 8#32
  let v260 : BitVec 1 := Scalar.cmpi .slt v257 c8_i32_199
  let v261 : BitVec 1 := Scalar.andi v259 v260
  let v262 : BitVec 32 := Scalar.extui v261
  let c0_i32_203 : BitVec 32 := 0#32
  let v263 : BitVec 1 := Scalar.cmpi .ne v262 c0_i32_203
  v263

def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_195 : BitVec 32 := 7#32
  let v256 : BitVec 32 := Scalar.addi v2 c7_i32_195
  let c16_i32_196 : BitVec 32 := 16#32
  let v257 : BitVec 32 := Scalar.remsi v256 c16_i32_196
  let c16_i32_197 : BitVec 32 := 16#32
  let v258 : BitVec 32 := Scalar.muli v257 c16_i32_197
  let c0_i32_1034 : BitVec 32 := 0#32
  ![v258.toNat, 0]
def k0_dev22 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_195 : BitVec 32 := 7#32
  let v256 : BitVec 32 := Scalar.addi v2 c7_i32_195
  let c16_i32_196 : BitVec 32 := 16#32
  let v257 : BitVec 32 := Scalar.remsi v256 c16_i32_196
  let c1_i32_1030 : BitVec 32 := 1#32
  let v1084 : BitVec 32 := Scalar.muli v257 c1_i32_1030
  let v1085 : BitVec 32 := Scalar.addi c0_i32_1031 v1084
  v1085.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_204 : BitVec 32 := 8#32
  let v264 : BitVec 32 := Scalar.addi v2 c8_i32_204
  let c16_i32_205 : BitVec 32 := 16#32
  let v265 : BitVec 32 := Scalar.remsi v264 c16_i32_205
  let c0_i32_207 : BitVec 32 := 0#32
  let v267 : BitVec 1 := Scalar.cmpi .sge v265 c0_i32_207
  let c8_i32_208 : BitVec 32 := 8#32
  let v268 : BitVec 1 := Scalar.cmpi .slt v265 c8_i32_208
  let v269 : BitVec 1 := Scalar.andi v267 v268
  let v270 : BitVec 32 := Scalar.extui v269
  let c0_i32_212 : BitVec 32 := 0#32
  let v271 : BitVec 1 := Scalar.cmpi .ne v270 c0_i32_212
  v271

def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_204 : BitVec 32 := 8#32
  let v264 : BitVec 32 := Scalar.addi v2 c8_i32_204
  let c16_i32_205 : BitVec 32 := 16#32
  let v265 : BitVec 32 := Scalar.remsi v264 c16_i32_205
  let c16_i32_206 : BitVec 32 := 16#32
  let v266 : BitVec 32 := Scalar.muli v265 c16_i32_206
  let c0_i32_1034 : BitVec 32 := 0#32
  ![v266.toNat, 0]
def k0_dev23 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_204 : BitVec 32 := 8#32
  let v264 : BitVec 32 := Scalar.addi v2 c8_i32_204
  let c16_i32_205 : BitVec 32 := 16#32
  let v265 : BitVec 32 := Scalar.remsi v264 c16_i32_205
  let c1_i32_1030 : BitVec 32 := 1#32
  let v1084 : BitVec 32 := Scalar.muli v265 c1_i32_1030
  let v1085 : BitVec 32 := Scalar.addi c0_i32_1031 v1084
  v1085.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_213 : BitVec 32 := 9#32
  let v272 : BitVec 32 := Scalar.addi v2 c9_i32_213
  let c16_i32_214 : BitVec 32 := 16#32
  let v273 : BitVec 32 := Scalar.remsi v272 c16_i32_214
  let c0_i32_216 : BitVec 32 := 0#32
  let v275 : BitVec 1 := Scalar.cmpi .sge v273 c0_i32_216
  let c8_i32_217 : BitVec 32 := 8#32
  let v276 : BitVec 1 := Scalar.cmpi .slt v273 c8_i32_217
  let v277 : BitVec 1 := Scalar.andi v275 v276
  let v278 : BitVec 32 := Scalar.extui v277
  let c0_i32_221 : BitVec 32 := 0#32
  let v279 : BitVec 1 := Scalar.cmpi .ne v278 c0_i32_221
  v279

def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_213 : BitVec 32 := 9#32
  let v272 : BitVec 32 := Scalar.addi v2 c9_i32_213
  let c16_i32_214 : BitVec 32 := 16#32
  let v273 : BitVec 32 := Scalar.remsi v272 c16_i32_214
  let c16_i32_215 : BitVec 32 := 16#32
  let v274 : BitVec 32 := Scalar.muli v273 c16_i32_215
  let c0_i32_1034 : BitVec 32 := 0#32
  ![v274.toNat, 0]
def k0_dev24 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_213 : BitVec 32 := 9#32
  let v272 : BitVec 32 := Scalar.addi v2 c9_i32_213
  let c16_i32_214 : BitVec 32 := 16#32
  let v273 : BitVec 32 := Scalar.remsi v272 c16_i32_214
  let c1_i32_1030 : BitVec 32 := 1#32
  let v1084 : BitVec 32 := Scalar.muli v273 c1_i32_1030
  let v1085 : BitVec 32 := Scalar.addi c0_i32_1031 v1084
  v1085.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_222 : BitVec 32 := 10#32
  let v280 : BitVec 32 := Scalar.addi v2 c10_i32_222
  let c16_i32_223 : BitVec 32 := 16#32
  let v281 : BitVec 32 := Scalar.remsi v280 c16_i32_223
  let c0_i32_225 : BitVec 32 := 0#32
  let v283 : BitVec 1 := Scalar.cmpi .sge v281 c0_i32_225
  let c8_i32_226 : BitVec 32 := 8#32
  let v284 : BitVec 1 := Scalar.cmpi .slt v281 c8_i32_226
  let v285 : BitVec 1 := Scalar.andi v283 v284
  let v286 : BitVec 32 := Scalar.extui v285
  let c0_i32_230 : BitVec 32 := 0#32
  let v287 : BitVec 1 := Scalar.cmpi .ne v286 c0_i32_230
  v287

def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_222 : BitVec 32 := 10#32
  let v280 : BitVec 32 := Scalar.addi v2 c10_i32_222
  let c16_i32_223 : BitVec 32 := 16#32
  let v281 : BitVec 32 := Scalar.remsi v280 c16_i32_223
  let c16_i32_224 : BitVec 32 := 16#32
  let v282 : BitVec 32 := Scalar.muli v281 c16_i32_224
  let c0_i32_1034 : BitVec 32 := 0#32
  ![v282.toNat, 0]
def k0_dev25 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_222 : BitVec 32 := 10#32
  let v280 : BitVec 32 := Scalar.addi v2 c10_i32_222
  let c16_i32_223 : BitVec 32 := 16#32
  let v281 : BitVec 32 := Scalar.remsi v280 c16_i32_223
  let c1_i32_1030 : BitVec 32 := 1#32
  let v1084 : BitVec 32 := Scalar.muli v281 c1_i32_1030
  let v1085 : BitVec 32 := Scalar.addi c0_i32_1031 v1084
  v1085.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_231 : BitVec 32 := 11#32
  let v288 : BitVec 32 := Scalar.addi v2 c11_i32_231
  let c16_i32_232 : BitVec 32 := 16#32
  let v289 : BitVec 32 := Scalar.remsi v288 c16_i32_232
  let c0_i32_234 : BitVec 32 := 0#32
  let v291 : BitVec 1 := Scalar.cmpi .sge v289 c0_i32_234
  let c8_i32_235 : BitVec 32 := 8#32
  let v292 : BitVec 1 := Scalar.cmpi .slt v289 c8_i32_235
  let v293 : BitVec 1 := Scalar.andi v291 v292
  let v294 : BitVec 32 := Scalar.extui v293
  let c0_i32_239 : BitVec 32 := 0#32
  let v295 : BitVec 1 := Scalar.cmpi .ne v294 c0_i32_239
  v295

def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_231 : BitVec 32 := 11#32
  let v288 : BitVec 32 := Scalar.addi v2 c11_i32_231
  let c16_i32_232 : BitVec 32 := 16#32
  let v289 : BitVec 32 := Scalar.remsi v288 c16_i32_232
  let c16_i32_233 : BitVec 32 := 16#32
  let v290 : BitVec 32 := Scalar.muli v289 c16_i32_233
  let c0_i32_1034 : BitVec 32 := 0#32
  ![v290.toNat, 0]
def k0_dev26 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_231 : BitVec 32 := 11#32
  let v288 : BitVec 32 := Scalar.addi v2 c11_i32_231
  let c16_i32_232 : BitVec 32 := 16#32
  let v289 : BitVec 32 := Scalar.remsi v288 c16_i32_232
  let c1_i32_1030 : BitVec 32 := 1#32
  let v1084 : BitVec 32 := Scalar.muli v289 c1_i32_1030
  let v1085 : BitVec 32 := Scalar.addi c0_i32_1031 v1084
  v1085.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_240 : BitVec 32 := 12#32
  let v296 : BitVec 32 := Scalar.addi v2 c12_i32_240
  let c16_i32_241 : BitVec 32 := 16#32
  let v297 : BitVec 32 := Scalar.remsi v296 c16_i32_241
  let c0_i32_243 : BitVec 32 := 0#32
  let v299 : BitVec 1 := Scalar.cmpi .sge v297 c0_i32_243
  let c8_i32_244 : BitVec 32 := 8#32
  let v300 : BitVec 1 := Scalar.cmpi .slt v297 c8_i32_244
  let v301 : BitVec 1 := Scalar.andi v299 v300
  let v302 : BitVec 32 := Scalar.extui v301
  let c0_i32_248 : BitVec 32 := 0#32
  let v303 : BitVec 1 := Scalar.cmpi .ne v302 c0_i32_248
  v303

def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_240 : BitVec 32 := 12#32
  let v296 : BitVec 32 := Scalar.addi v2 c12_i32_240
  let c16_i32_241 : BitVec 32 := 16#32
  let v297 : BitVec 32 := Scalar.remsi v296 c16_i32_241
  let c16_i32_242 : BitVec 32 := 16#32
  let v298 : BitVec 32 := Scalar.muli v297 c16_i32_242
  let c0_i32_1034 : BitVec 32 := 0#32
  ![v298.toNat, 0]
def k0_dev27 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_240 : BitVec 32 := 12#32
  let v296 : BitVec 32 := Scalar.addi v2 c12_i32_240
  let c16_i32_241 : BitVec 32 := 16#32
  let v297 : BitVec 32 := Scalar.remsi v296 c16_i32_241
  let c1_i32_1030 : BitVec 32 := 1#32
  let v1084 : BitVec 32 := Scalar.muli v297 c1_i32_1030
  let v1085 : BitVec 32 := Scalar.addi c0_i32_1031 v1084
  v1085.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_249 : BitVec 32 := 13#32
  let v304 : BitVec 32 := Scalar.addi v2 c13_i32_249
  let c16_i32_250 : BitVec 32 := 16#32
  let v305 : BitVec 32 := Scalar.remsi v304 c16_i32_250
  let c0_i32_252 : BitVec 32 := 0#32
  let v307 : BitVec 1 := Scalar.cmpi .sge v305 c0_i32_252
  let c8_i32_253 : BitVec 32 := 8#32
  let v308 : BitVec 1 := Scalar.cmpi .slt v305 c8_i32_253
  let v309 : BitVec 1 := Scalar.andi v307 v308
  let v310 : BitVec 32 := Scalar.extui v309
  let c0_i32_257 : BitVec 32 := 0#32
  let v311 : BitVec 1 := Scalar.cmpi .ne v310 c0_i32_257
  v311

def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_249 : BitVec 32 := 13#32
  let v304 : BitVec 32 := Scalar.addi v2 c13_i32_249
  let c16_i32_250 : BitVec 32 := 16#32
  let v305 : BitVec 32 := Scalar.remsi v304 c16_i32_250
  let c16_i32_251 : BitVec 32 := 16#32
  let v306 : BitVec 32 := Scalar.muli v305 c16_i32_251
  let c0_i32_1034 : BitVec 32 := 0#32
  ![v306.toNat, 0]
def k0_dev28 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_249 : BitVec 32 := 13#32
  let v304 : BitVec 32 := Scalar.addi v2 c13_i32_249
  let c16_i32_250 : BitVec 32 := 16#32
  let v305 : BitVec 32 := Scalar.remsi v304 c16_i32_250
  let c1_i32_1030 : BitVec 32 := 1#32
  let v1084 : BitVec 32 := Scalar.muli v305 c1_i32_1030
  let v1085 : BitVec 32 := Scalar.addi c0_i32_1031 v1084
  v1085.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_258 : BitVec 32 := 14#32
  let v312 : BitVec 32 := Scalar.addi v2 c14_i32_258
  let c16_i32_259 : BitVec 32 := 16#32
  let v313 : BitVec 32 := Scalar.remsi v312 c16_i32_259
  let c0_i32_261 : BitVec 32 := 0#32
  let v315 : BitVec 1 := Scalar.cmpi .sge v313 c0_i32_261
  let c8_i32_262 : BitVec 32 := 8#32
  let v316 : BitVec 1 := Scalar.cmpi .slt v313 c8_i32_262
  let v317 : BitVec 1 := Scalar.andi v315 v316
  let v318 : BitVec 32 := Scalar.extui v317
  let c0_i32_266 : BitVec 32 := 0#32
  let v319 : BitVec 1 := Scalar.cmpi .ne v318 c0_i32_266
  v319

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_258 : BitVec 32 := 14#32
  let v312 : BitVec 32 := Scalar.addi v2 c14_i32_258
  let c16_i32_259 : BitVec 32 := 16#32
  let v313 : BitVec 32 := Scalar.remsi v312 c16_i32_259
  let c16_i32_260 : BitVec 32 := 16#32
  let v314 : BitVec 32 := Scalar.muli v313 c16_i32_260
  let c0_i32_1034 : BitVec 32 := 0#32
  ![v314.toNat, 0]
def k0_dev29 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_258 : BitVec 32 := 14#32
  let v312 : BitVec 32 := Scalar.addi v2 c14_i32_258
  let c16_i32_259 : BitVec 32 := 16#32
  let v313 : BitVec 32 := Scalar.remsi v312 c16_i32_259
  let c1_i32_1030 : BitVec 32 := 1#32
  let v1084 : BitVec 32 := Scalar.muli v313 c1_i32_1030
  let v1085 : BitVec 32 := Scalar.addi c0_i32_1031 v1084
  v1085.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_267 : BitVec 32 := 15#32
  let v320 : BitVec 32 := Scalar.addi v2 c15_i32_267
  let c16_i32_268 : BitVec 32 := 16#32
  let v321 : BitVec 32 := Scalar.remsi v320 c16_i32_268
  let c0_i32_270 : BitVec 32 := 0#32
  let v323 : BitVec 1 := Scalar.cmpi .sge v321 c0_i32_270
  let c8_i32_271 : BitVec 32 := 8#32
  let v324 : BitVec 1 := Scalar.cmpi .slt v321 c8_i32_271
  let v325 : BitVec 1 := Scalar.andi v323 v324
  let v326 : BitVec 32 := Scalar.extui v325
  let c0_i32_275 : BitVec 32 := 0#32
  let v327 : BitVec 1 := Scalar.cmpi .ne v326 c0_i32_275
  v327

def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_267 : BitVec 32 := 15#32
  let v320 : BitVec 32 := Scalar.addi v2 c15_i32_267
  let c16_i32_268 : BitVec 32 := 16#32
  let v321 : BitVec 32 := Scalar.remsi v320 c16_i32_268
  let c16_i32_269 : BitVec 32 := 16#32
  let v322 : BitVec 32 := Scalar.muli v321 c16_i32_269
  let c0_i32_1034 : BitVec 32 := 0#32
  ![v322.toNat, 0]
def k0_dev30 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_267 : BitVec 32 := 15#32
  let v320 : BitVec 32 := Scalar.addi v2 c15_i32_267
  let c16_i32_268 : BitVec 32 := 16#32
  let v321 : BitVec 32 := Scalar.remsi v320 c16_i32_268
  let c1_i32_1030 : BitVec 32 := 1#32
  let v1084 : BitVec 32 := Scalar.muli v321 c1_i32_1030
  let v1085 : BitVec 32 := Scalar.addi c0_i32_1031 v1084
  v1085.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_343 : BitVec 32 := 1#32
  let v412 : BitVec 32 := Scalar.addi v2 c1_i32_343
  let c16_i32_344 : BitVec 32 := 16#32
  let v413 : BitVec 32 := Scalar.remsi v412 c16_i32_344
  let c8_i32_346 : BitVec 32 := 8#32
  let v415 : BitVec 1 := Scalar.cmpi .sge v413 c8_i32_346
  let c16_i32_347 : BitVec 32 := 16#32
  let v416 : BitVec 1 := Scalar.cmpi .slt v413 c16_i32_347
  let v417 : BitVec 1 := Scalar.andi v415 v416
  let v418 : BitVec 32 := Scalar.extui v417
  let c0_i32_351 : BitVec 32 := 0#32
  let v419 : BitVec 1 := Scalar.cmpi .ne v418 c0_i32_351
  v419

def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_343 : BitVec 32 := 1#32
  let v412 : BitVec 32 := Scalar.addi v2 c1_i32_343
  let c16_i32_344 : BitVec 32 := 16#32
  let v413 : BitVec 32 := Scalar.remsi v412 c16_i32_344
  let c16_i32_345 : BitVec 32 := 16#32
  let v414 : BitVec 32 := Scalar.muli v413 c16_i32_345
  let c0_i32_1034 : BitVec 32 := 0#32
  ![v414.toNat, 0]
def k0_dev31 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_343 : BitVec 32 := 1#32
  let v412 : BitVec 32 := Scalar.addi v2 c1_i32_343
  let c16_i32_344 : BitVec 32 := 16#32
  let v413 : BitVec 32 := Scalar.remsi v412 c16_i32_344
  let c1_i32_1030 : BitVec 32 := 1#32
  let v1084 : BitVec 32 := Scalar.muli v413 c1_i32_1030
  let v1085 : BitVec 32 := Scalar.addi c0_i32_1031 v1084
  v1085.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_352 : BitVec 32 := 2#32
  let v420 : BitVec 32 := Scalar.addi v2 c2_i32_352
  let c16_i32_353 : BitVec 32 := 16#32
  let v421 : BitVec 32 := Scalar.remsi v420 c16_i32_353
  let c8_i32_355 : BitVec 32 := 8#32
  let v423 : BitVec 1 := Scalar.cmpi .sge v421 c8_i32_355
  let c16_i32_356 : BitVec 32 := 16#32
  let v424 : BitVec 1 := Scalar.cmpi .slt v421 c16_i32_356
  let v425 : BitVec 1 := Scalar.andi v423 v424
  let v426 : BitVec 32 := Scalar.extui v425
  let c0_i32_360 : BitVec 32 := 0#32
  let v427 : BitVec 1 := Scalar.cmpi .ne v426 c0_i32_360
  v427

def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_352 : BitVec 32 := 2#32
  let v420 : BitVec 32 := Scalar.addi v2 c2_i32_352
  let c16_i32_353 : BitVec 32 := 16#32
  let v421 : BitVec 32 := Scalar.remsi v420 c16_i32_353
  let c16_i32_354 : BitVec 32 := 16#32
  let v422 : BitVec 32 := Scalar.muli v421 c16_i32_354
  let c0_i32_1034 : BitVec 32 := 0#32
  ![v422.toNat, 0]
def k0_dev32 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_352 : BitVec 32 := 2#32
  let v420 : BitVec 32 := Scalar.addi v2 c2_i32_352
  let c16_i32_353 : BitVec 32 := 16#32
  let v421 : BitVec 32 := Scalar.remsi v420 c16_i32_353
  let c1_i32_1030 : BitVec 32 := 1#32
  let v1084 : BitVec 32 := Scalar.muli v421 c1_i32_1030
  let v1085 : BitVec 32 := Scalar.addi c0_i32_1031 v1084
  v1085.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_361 : BitVec 32 := 3#32
  let v428 : BitVec 32 := Scalar.addi v2 c3_i32_361
  let c16_i32_362 : BitVec 32 := 16#32
  let v429 : BitVec 32 := Scalar.remsi v428 c16_i32_362
  let c8_i32_364 : BitVec 32 := 8#32
  let v431 : BitVec 1 := Scalar.cmpi .sge v429 c8_i32_364
  let c16_i32_365 : BitVec 32 := 16#32
  let v432 : BitVec 1 := Scalar.cmpi .slt v429 c16_i32_365
  let v433 : BitVec 1 := Scalar.andi v431 v432
  let v434 : BitVec 32 := Scalar.extui v433
  let c0_i32_369 : BitVec 32 := 0#32
  let v435 : BitVec 1 := Scalar.cmpi .ne v434 c0_i32_369
  v435

def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_361 : BitVec 32 := 3#32
  let v428 : BitVec 32 := Scalar.addi v2 c3_i32_361
  let c16_i32_362 : BitVec 32 := 16#32
  let v429 : BitVec 32 := Scalar.remsi v428 c16_i32_362
  let c16_i32_363 : BitVec 32 := 16#32
  let v430 : BitVec 32 := Scalar.muli v429 c16_i32_363
  let c0_i32_1034 : BitVec 32 := 0#32
  ![v430.toNat, 0]
def k0_dev33 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_361 : BitVec 32 := 3#32
  let v428 : BitVec 32 := Scalar.addi v2 c3_i32_361
  let c16_i32_362 : BitVec 32 := 16#32
  let v429 : BitVec 32 := Scalar.remsi v428 c16_i32_362
  let c1_i32_1030 : BitVec 32 := 1#32
  let v1084 : BitVec 32 := Scalar.muli v429 c1_i32_1030
  let v1085 : BitVec 32 := Scalar.addi c0_i32_1031 v1084
  v1085.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_370 : BitVec 32 := 4#32
  let v436 : BitVec 32 := Scalar.addi v2 c4_i32_370
  let c16_i32_371 : BitVec 32 := 16#32
  let v437 : BitVec 32 := Scalar.remsi v436 c16_i32_371
  let c8_i32_373 : BitVec 32 := 8#32
  let v439 : BitVec 1 := Scalar.cmpi .sge v437 c8_i32_373
  let c16_i32_374 : BitVec 32 := 16#32
  let v440 : BitVec 1 := Scalar.cmpi .slt v437 c16_i32_374
  let v441 : BitVec 1 := Scalar.andi v439 v440
  let v442 : BitVec 32 := Scalar.extui v441
  let c0_i32_378 : BitVec 32 := 0#32
  let v443 : BitVec 1 := Scalar.cmpi .ne v442 c0_i32_378
  v443

def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_370 : BitVec 32 := 4#32
  let v436 : BitVec 32 := Scalar.addi v2 c4_i32_370
  let c16_i32_371 : BitVec 32 := 16#32
  let v437 : BitVec 32 := Scalar.remsi v436 c16_i32_371
  let c16_i32_372 : BitVec 32 := 16#32
  let v438 : BitVec 32 := Scalar.muli v437 c16_i32_372
  let c0_i32_1034 : BitVec 32 := 0#32
  ![v438.toNat, 0]
def k0_dev34 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_370 : BitVec 32 := 4#32
  let v436 : BitVec 32 := Scalar.addi v2 c4_i32_370
  let c16_i32_371 : BitVec 32 := 16#32
  let v437 : BitVec 32 := Scalar.remsi v436 c16_i32_371
  let c1_i32_1030 : BitVec 32 := 1#32
  let v1084 : BitVec 32 := Scalar.muli v437 c1_i32_1030
  let v1085 : BitVec 32 := Scalar.addi c0_i32_1031 v1084
  v1085.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_379 : BitVec 32 := 5#32
  let v444 : BitVec 32 := Scalar.addi v2 c5_i32_379
  let c16_i32_380 : BitVec 32 := 16#32
  let v445 : BitVec 32 := Scalar.remsi v444 c16_i32_380
  let c8_i32_382 : BitVec 32 := 8#32
  let v447 : BitVec 1 := Scalar.cmpi .sge v445 c8_i32_382
  let c16_i32_383 : BitVec 32 := 16#32
  let v448 : BitVec 1 := Scalar.cmpi .slt v445 c16_i32_383
  let v449 : BitVec 1 := Scalar.andi v447 v448
  let v450 : BitVec 32 := Scalar.extui v449
  let c0_i32_387 : BitVec 32 := 0#32
  let v451 : BitVec 1 := Scalar.cmpi .ne v450 c0_i32_387
  v451

def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_379 : BitVec 32 := 5#32
  let v444 : BitVec 32 := Scalar.addi v2 c5_i32_379
  let c16_i32_380 : BitVec 32 := 16#32
  let v445 : BitVec 32 := Scalar.remsi v444 c16_i32_380
  let c16_i32_381 : BitVec 32 := 16#32
  let v446 : BitVec 32 := Scalar.muli v445 c16_i32_381
  let c0_i32_1034 : BitVec 32 := 0#32
  ![v446.toNat, 0]
def k0_dev35 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_379 : BitVec 32 := 5#32
  let v444 : BitVec 32 := Scalar.addi v2 c5_i32_379
  let c16_i32_380 : BitVec 32 := 16#32
  let v445 : BitVec 32 := Scalar.remsi v444 c16_i32_380
  let c1_i32_1030 : BitVec 32 := 1#32
  let v1084 : BitVec 32 := Scalar.muli v445 c1_i32_1030
  let v1085 : BitVec 32 := Scalar.addi c0_i32_1031 v1084
  v1085.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_388 : BitVec 32 := 6#32
  let v452 : BitVec 32 := Scalar.addi v2 c6_i32_388
  let c16_i32_389 : BitVec 32 := 16#32
  let v453 : BitVec 32 := Scalar.remsi v452 c16_i32_389
  let c8_i32_391 : BitVec 32 := 8#32
  let v455 : BitVec 1 := Scalar.cmpi .sge v453 c8_i32_391
  let c16_i32_392 : BitVec 32 := 16#32
  let v456 : BitVec 1 := Scalar.cmpi .slt v453 c16_i32_392
  let v457 : BitVec 1 := Scalar.andi v455 v456
  let v458 : BitVec 32 := Scalar.extui v457
  let c0_i32_396 : BitVec 32 := 0#32
  let v459 : BitVec 1 := Scalar.cmpi .ne v458 c0_i32_396
  v459

def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_388 : BitVec 32 := 6#32
  let v452 : BitVec 32 := Scalar.addi v2 c6_i32_388
  let c16_i32_389 : BitVec 32 := 16#32
  let v453 : BitVec 32 := Scalar.remsi v452 c16_i32_389
  let c16_i32_390 : BitVec 32 := 16#32
  let v454 : BitVec 32 := Scalar.muli v453 c16_i32_390
  let c0_i32_1034 : BitVec 32 := 0#32
  ![v454.toNat, 0]
def k0_dev36 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_388 : BitVec 32 := 6#32
  let v452 : BitVec 32 := Scalar.addi v2 c6_i32_388
  let c16_i32_389 : BitVec 32 := 16#32
  let v453 : BitVec 32 := Scalar.remsi v452 c16_i32_389
  let c1_i32_1030 : BitVec 32 := 1#32
  let v1084 : BitVec 32 := Scalar.muli v453 c1_i32_1030
  let v1085 : BitVec 32 := Scalar.addi c0_i32_1031 v1084
  v1085.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_397 : BitVec 32 := 7#32
  let v460 : BitVec 32 := Scalar.addi v2 c7_i32_397
  let c16_i32_398 : BitVec 32 := 16#32
  let v461 : BitVec 32 := Scalar.remsi v460 c16_i32_398
  let c8_i32_400 : BitVec 32 := 8#32
  let v463 : BitVec 1 := Scalar.cmpi .sge v461 c8_i32_400
  let c16_i32_401 : BitVec 32 := 16#32
  let v464 : BitVec 1 := Scalar.cmpi .slt v461 c16_i32_401
  let v465 : BitVec 1 := Scalar.andi v463 v464
  let v466 : BitVec 32 := Scalar.extui v465
  let c0_i32_405 : BitVec 32 := 0#32
  let v467 : BitVec 1 := Scalar.cmpi .ne v466 c0_i32_405
  v467

def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_397 : BitVec 32 := 7#32
  let v460 : BitVec 32 := Scalar.addi v2 c7_i32_397
  let c16_i32_398 : BitVec 32 := 16#32
  let v461 : BitVec 32 := Scalar.remsi v460 c16_i32_398
  let c16_i32_399 : BitVec 32 := 16#32
  let v462 : BitVec 32 := Scalar.muli v461 c16_i32_399
  let c0_i32_1034 : BitVec 32 := 0#32
  ![v462.toNat, 0]
def k0_dev37 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_397 : BitVec 32 := 7#32
  let v460 : BitVec 32 := Scalar.addi v2 c7_i32_397
  let c16_i32_398 : BitVec 32 := 16#32
  let v461 : BitVec 32 := Scalar.remsi v460 c16_i32_398
  let c1_i32_1030 : BitVec 32 := 1#32
  let v1084 : BitVec 32 := Scalar.muli v461 c1_i32_1030
  let v1085 : BitVec 32 := Scalar.addi c0_i32_1031 v1084
  v1085.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_406 : BitVec 32 := 8#32
  let v468 : BitVec 32 := Scalar.addi v2 c8_i32_406
  let c16_i32_407 : BitVec 32 := 16#32
  let v469 : BitVec 32 := Scalar.remsi v468 c16_i32_407
  let c8_i32_409 : BitVec 32 := 8#32
  let v471 : BitVec 1 := Scalar.cmpi .sge v469 c8_i32_409
  let c16_i32_410 : BitVec 32 := 16#32
  let v472 : BitVec 1 := Scalar.cmpi .slt v469 c16_i32_410
  let v473 : BitVec 1 := Scalar.andi v471 v472
  let v474 : BitVec 32 := Scalar.extui v473
  let c0_i32_414 : BitVec 32 := 0#32
  let v475 : BitVec 1 := Scalar.cmpi .ne v474 c0_i32_414
  v475

def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_406 : BitVec 32 := 8#32
  let v468 : BitVec 32 := Scalar.addi v2 c8_i32_406
  let c16_i32_407 : BitVec 32 := 16#32
  let v469 : BitVec 32 := Scalar.remsi v468 c16_i32_407
  let c16_i32_408 : BitVec 32 := 16#32
  let v470 : BitVec 32 := Scalar.muli v469 c16_i32_408
  let c0_i32_1034 : BitVec 32 := 0#32
  ![v470.toNat, 0]
def k0_dev38 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_406 : BitVec 32 := 8#32
  let v468 : BitVec 32 := Scalar.addi v2 c8_i32_406
  let c16_i32_407 : BitVec 32 := 16#32
  let v469 : BitVec 32 := Scalar.remsi v468 c16_i32_407
  let c1_i32_1030 : BitVec 32 := 1#32
  let v1084 : BitVec 32 := Scalar.muli v469 c1_i32_1030
  let v1085 : BitVec 32 := Scalar.addi c0_i32_1031 v1084
  v1085.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_415 : BitVec 32 := 9#32
  let v476 : BitVec 32 := Scalar.addi v2 c9_i32_415
  let c16_i32_416 : BitVec 32 := 16#32
  let v477 : BitVec 32 := Scalar.remsi v476 c16_i32_416
  let c8_i32_418 : BitVec 32 := 8#32
  let v479 : BitVec 1 := Scalar.cmpi .sge v477 c8_i32_418
  let c16_i32_419 : BitVec 32 := 16#32
  let v480 : BitVec 1 := Scalar.cmpi .slt v477 c16_i32_419
  let v481 : BitVec 1 := Scalar.andi v479 v480
  let v482 : BitVec 32 := Scalar.extui v481
  let c0_i32_423 : BitVec 32 := 0#32
  let v483 : BitVec 1 := Scalar.cmpi .ne v482 c0_i32_423
  v483

def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_415 : BitVec 32 := 9#32
  let v476 : BitVec 32 := Scalar.addi v2 c9_i32_415
  let c16_i32_416 : BitVec 32 := 16#32
  let v477 : BitVec 32 := Scalar.remsi v476 c16_i32_416
  let c16_i32_417 : BitVec 32 := 16#32
  let v478 : BitVec 32 := Scalar.muli v477 c16_i32_417
  let c0_i32_1034 : BitVec 32 := 0#32
  ![v478.toNat, 0]
def k0_dev39 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_415 : BitVec 32 := 9#32
  let v476 : BitVec 32 := Scalar.addi v2 c9_i32_415
  let c16_i32_416 : BitVec 32 := 16#32
  let v477 : BitVec 32 := Scalar.remsi v476 c16_i32_416
  let c1_i32_1030 : BitVec 32 := 1#32
  let v1084 : BitVec 32 := Scalar.muli v477 c1_i32_1030
  let v1085 : BitVec 32 := Scalar.addi c0_i32_1031 v1084
  v1085.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_424 : BitVec 32 := 10#32
  let v484 : BitVec 32 := Scalar.addi v2 c10_i32_424
  let c16_i32_425 : BitVec 32 := 16#32
  let v485 : BitVec 32 := Scalar.remsi v484 c16_i32_425
  let c8_i32_427 : BitVec 32 := 8#32
  let v487 : BitVec 1 := Scalar.cmpi .sge v485 c8_i32_427
  let c16_i32_428 : BitVec 32 := 16#32
  let v488 : BitVec 1 := Scalar.cmpi .slt v485 c16_i32_428
  let v489 : BitVec 1 := Scalar.andi v487 v488
  let v490 : BitVec 32 := Scalar.extui v489
  let c0_i32_432 : BitVec 32 := 0#32
  let v491 : BitVec 1 := Scalar.cmpi .ne v490 c0_i32_432
  v491

def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_424 : BitVec 32 := 10#32
  let v484 : BitVec 32 := Scalar.addi v2 c10_i32_424
  let c16_i32_425 : BitVec 32 := 16#32
  let v485 : BitVec 32 := Scalar.remsi v484 c16_i32_425
  let c16_i32_426 : BitVec 32 := 16#32
  let v486 : BitVec 32 := Scalar.muli v485 c16_i32_426
  let c0_i32_1034 : BitVec 32 := 0#32
  ![v486.toNat, 0]
def k0_dev40 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_424 : BitVec 32 := 10#32
  let v484 : BitVec 32 := Scalar.addi v2 c10_i32_424
  let c16_i32_425 : BitVec 32 := 16#32
  let v485 : BitVec 32 := Scalar.remsi v484 c16_i32_425
  let c1_i32_1030 : BitVec 32 := 1#32
  let v1084 : BitVec 32 := Scalar.muli v485 c1_i32_1030
  let v1085 : BitVec 32 := Scalar.addi c0_i32_1031 v1084
  v1085.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_433 : BitVec 32 := 11#32
  let v492 : BitVec 32 := Scalar.addi v2 c11_i32_433
  let c16_i32_434 : BitVec 32 := 16#32
  let v493 : BitVec 32 := Scalar.remsi v492 c16_i32_434
  let c8_i32_436 : BitVec 32 := 8#32
  let v495 : BitVec 1 := Scalar.cmpi .sge v493 c8_i32_436
  let c16_i32_437 : BitVec 32 := 16#32
  let v496 : BitVec 1 := Scalar.cmpi .slt v493 c16_i32_437
  let v497 : BitVec 1 := Scalar.andi v495 v496
  let v498 : BitVec 32 := Scalar.extui v497
  let c0_i32_441 : BitVec 32 := 0#32
  let v499 : BitVec 1 := Scalar.cmpi .ne v498 c0_i32_441
  v499

def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_433 : BitVec 32 := 11#32
  let v492 : BitVec 32 := Scalar.addi v2 c11_i32_433
  let c16_i32_434 : BitVec 32 := 16#32
  let v493 : BitVec 32 := Scalar.remsi v492 c16_i32_434
  let c16_i32_435 : BitVec 32 := 16#32
  let v494 : BitVec 32 := Scalar.muli v493 c16_i32_435
  let c0_i32_1034 : BitVec 32 := 0#32
  ![v494.toNat, 0]
def k0_dev41 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_433 : BitVec 32 := 11#32
  let v492 : BitVec 32 := Scalar.addi v2 c11_i32_433
  let c16_i32_434 : BitVec 32 := 16#32
  let v493 : BitVec 32 := Scalar.remsi v492 c16_i32_434
  let c1_i32_1030 : BitVec 32 := 1#32
  let v1084 : BitVec 32 := Scalar.muli v493 c1_i32_1030
  let v1085 : BitVec 32 := Scalar.addi c0_i32_1031 v1084
  v1085.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_442 : BitVec 32 := 12#32
  let v500 : BitVec 32 := Scalar.addi v2 c12_i32_442
  let c16_i32_443 : BitVec 32 := 16#32
  let v501 : BitVec 32 := Scalar.remsi v500 c16_i32_443
  let c8_i32_445 : BitVec 32 := 8#32
  let v503 : BitVec 1 := Scalar.cmpi .sge v501 c8_i32_445
  let c16_i32_446 : BitVec 32 := 16#32
  let v504 : BitVec 1 := Scalar.cmpi .slt v501 c16_i32_446
  let v505 : BitVec 1 := Scalar.andi v503 v504
  let v506 : BitVec 32 := Scalar.extui v505
  let c0_i32_450 : BitVec 32 := 0#32
  let v507 : BitVec 1 := Scalar.cmpi .ne v506 c0_i32_450
  v507

def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_442 : BitVec 32 := 12#32
  let v500 : BitVec 32 := Scalar.addi v2 c12_i32_442
  let c16_i32_443 : BitVec 32 := 16#32
  let v501 : BitVec 32 := Scalar.remsi v500 c16_i32_443
  let c16_i32_444 : BitVec 32 := 16#32
  let v502 : BitVec 32 := Scalar.muli v501 c16_i32_444
  let c0_i32_1034 : BitVec 32 := 0#32
  ![v502.toNat, 0]
def k0_dev42 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_442 : BitVec 32 := 12#32
  let v500 : BitVec 32 := Scalar.addi v2 c12_i32_442
  let c16_i32_443 : BitVec 32 := 16#32
  let v501 : BitVec 32 := Scalar.remsi v500 c16_i32_443
  let c1_i32_1030 : BitVec 32 := 1#32
  let v1084 : BitVec 32 := Scalar.muli v501 c1_i32_1030
  let v1085 : BitVec 32 := Scalar.addi c0_i32_1031 v1084
  v1085.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_451 : BitVec 32 := 13#32
  let v508 : BitVec 32 := Scalar.addi v2 c13_i32_451
  let c16_i32_452 : BitVec 32 := 16#32
  let v509 : BitVec 32 := Scalar.remsi v508 c16_i32_452
  let c8_i32_454 : BitVec 32 := 8#32
  let v511 : BitVec 1 := Scalar.cmpi .sge v509 c8_i32_454
  let c16_i32_455 : BitVec 32 := 16#32
  let v512 : BitVec 1 := Scalar.cmpi .slt v509 c16_i32_455
  let v513 : BitVec 1 := Scalar.andi v511 v512
  let v514 : BitVec 32 := Scalar.extui v513
  let c0_i32_459 : BitVec 32 := 0#32
  let v515 : BitVec 1 := Scalar.cmpi .ne v514 c0_i32_459
  v515

def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_451 : BitVec 32 := 13#32
  let v508 : BitVec 32 := Scalar.addi v2 c13_i32_451
  let c16_i32_452 : BitVec 32 := 16#32
  let v509 : BitVec 32 := Scalar.remsi v508 c16_i32_452
  let c16_i32_453 : BitVec 32 := 16#32
  let v510 : BitVec 32 := Scalar.muli v509 c16_i32_453
  let c0_i32_1034 : BitVec 32 := 0#32
  ![v510.toNat, 0]
def k0_dev43 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_451 : BitVec 32 := 13#32
  let v508 : BitVec 32 := Scalar.addi v2 c13_i32_451
  let c16_i32_452 : BitVec 32 := 16#32
  let v509 : BitVec 32 := Scalar.remsi v508 c16_i32_452
  let c1_i32_1030 : BitVec 32 := 1#32
  let v1084 : BitVec 32 := Scalar.muli v509 c1_i32_1030
  let v1085 : BitVec 32 := Scalar.addi c0_i32_1031 v1084
  v1085.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_460 : BitVec 32 := 14#32
  let v516 : BitVec 32 := Scalar.addi v2 c14_i32_460
  let c16_i32_461 : BitVec 32 := 16#32
  let v517 : BitVec 32 := Scalar.remsi v516 c16_i32_461
  let c8_i32_463 : BitVec 32 := 8#32
  let v519 : BitVec 1 := Scalar.cmpi .sge v517 c8_i32_463
  let c16_i32_464 : BitVec 32 := 16#32
  let v520 : BitVec 1 := Scalar.cmpi .slt v517 c16_i32_464
  let v521 : BitVec 1 := Scalar.andi v519 v520
  let v522 : BitVec 32 := Scalar.extui v521
  let c0_i32_468 : BitVec 32 := 0#32
  let v523 : BitVec 1 := Scalar.cmpi .ne v522 c0_i32_468
  v523

def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_460 : BitVec 32 := 14#32
  let v516 : BitVec 32 := Scalar.addi v2 c14_i32_460
  let c16_i32_461 : BitVec 32 := 16#32
  let v517 : BitVec 32 := Scalar.remsi v516 c16_i32_461
  let c16_i32_462 : BitVec 32 := 16#32
  let v518 : BitVec 32 := Scalar.muli v517 c16_i32_462
  let c0_i32_1034 : BitVec 32 := 0#32
  ![v518.toNat, 0]
def k0_dev44 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_460 : BitVec 32 := 14#32
  let v516 : BitVec 32 := Scalar.addi v2 c14_i32_460
  let c16_i32_461 : BitVec 32 := 16#32
  let v517 : BitVec 32 := Scalar.remsi v516 c16_i32_461
  let c1_i32_1030 : BitVec 32 := 1#32
  let v1084 : BitVec 32 := Scalar.muli v517 c1_i32_1030
  let v1085 : BitVec 32 := Scalar.addi c0_i32_1031 v1084
  v1085.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_469 : BitVec 32 := 15#32
  let v524 : BitVec 32 := Scalar.addi v2 c15_i32_469
  let c16_i32_470 : BitVec 32 := 16#32
  let v525 : BitVec 32 := Scalar.remsi v524 c16_i32_470
  let c8_i32_472 : BitVec 32 := 8#32
  let v527 : BitVec 1 := Scalar.cmpi .sge v525 c8_i32_472
  let c16_i32_473 : BitVec 32 := 16#32
  let v528 : BitVec 1 := Scalar.cmpi .slt v525 c16_i32_473
  let v529 : BitVec 1 := Scalar.andi v527 v528
  let v530 : BitVec 32 := Scalar.extui v529
  let c0_i32_477 : BitVec 32 := 0#32
  let v531 : BitVec 1 := Scalar.cmpi .ne v530 c0_i32_477
  v531

def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_469 : BitVec 32 := 15#32
  let v524 : BitVec 32 := Scalar.addi v2 c15_i32_469
  let c16_i32_470 : BitVec 32 := 16#32
  let v525 : BitVec 32 := Scalar.remsi v524 c16_i32_470
  let c16_i32_471 : BitVec 32 := 16#32
  let v526 : BitVec 32 := Scalar.muli v525 c16_i32_471
  let c0_i32_1034 : BitVec 32 := 0#32
  ![v526.toNat, 0]
def k0_dev45 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_469 : BitVec 32 := 15#32
  let v524 : BitVec 32 := Scalar.addi v2 c15_i32_469
  let c16_i32_470 : BitVec 32 := 16#32
  let v525 : BitVec 32 := Scalar.remsi v524 c16_i32_470
  let c1_i32_1030 : BitVec 32 := 1#32
  let v1084 : BitVec 32 := Scalar.muli v525 c1_i32_1030
  let v1085 : BitVec 32 := Scalar.addi c0_i32_1031 v1084
  v1085.toNat
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_478 : BitVec 32 := 16#32
  let v532 : BitVec 32 := Scalar.muli v2 c16_i32_478
  let v533 : Index := Scalar.indexCast v532
  let c0_479 : Index := 0#32
  ![v533.toNat, 0]
def k0_off32 (d0 : Dev nD) (c1_i32_343 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v412 : BitVec 32 := Scalar.addi v2 c1_i32_343
  let c16_i32_344 : BitVec 32 := 16#32
  let v413 : BitVec 32 := Scalar.remsi v412 c16_i32_344
  let c16_i32_345 : BitVec 32 := 16#32
  let v414 : BitVec 32 := Scalar.muli v413 c16_i32_345
  let c0_i32_487 : BitVec 32 := 0#32
  ![v414.toNat, 0]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_478 : BitVec 32 := 16#32
  let v532 : BitVec 32 := Scalar.muli v2 c16_i32_478
  let c0_i32_641 : BitVec 32 := 0#32
  ![v532.toNat, 0]
def k0_dev46 (d0 : Dev nD) : Nat :=
  let c0_i32_640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_635 : BitVec 32 := 1#32
  let v705 : BitVec 32 := Scalar.addi v2 c1_i32_635
  let c16_i32_636 : BitVec 32 := 16#32
  let v706 : BitVec 32 := Scalar.remsi v705 c16_i32_636
  let c1_i32_639 : BitVec 32 := 1#32
  let v707 : BitVec 32 := Scalar.muli v706 c1_i32_639
  let v708 : BitVec 32 := Scalar.addi c0_i32_640 v707
  v708.toNat
def k0_dev47 (d0 : Dev nD) : Nat :=
  let c0_i32_648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_643 : BitVec 32 := 2#32
  let v715 : BitVec 32 := Scalar.addi v2 c2_i32_643
  let c16_i32_644 : BitVec 32 := 16#32
  let v716 : BitVec 32 := Scalar.remsi v715 c16_i32_644
  let c1_i32_647 : BitVec 32 := 1#32
  let v717 : BitVec 32 := Scalar.muli v716 c1_i32_647
  let v718 : BitVec 32 := Scalar.addi c0_i32_648 v717
  v718.toNat
def k0_dev48 (d0 : Dev nD) : Nat :=
  let c0_i32_656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_651 : BitVec 32 := 3#32
  let v725 : BitVec 32 := Scalar.addi v2 c3_i32_651
  let c16_i32_652 : BitVec 32 := 16#32
  let v726 : BitVec 32 := Scalar.remsi v725 c16_i32_652
  let c1_i32_655 : BitVec 32 := 1#32
  let v727 : BitVec 32 := Scalar.muli v726 c1_i32_655
  let v728 : BitVec 32 := Scalar.addi c0_i32_656 v727
  v728.toNat
def k0_dev49 (d0 : Dev nD) : Nat :=
  let c0_i32_664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_659 : BitVec 32 := 4#32
  let v735 : BitVec 32 := Scalar.addi v2 c4_i32_659
  let c16_i32_660 : BitVec 32 := 16#32
  let v736 : BitVec 32 := Scalar.remsi v735 c16_i32_660
  let c1_i32_663 : BitVec 32 := 1#32
  let v737 : BitVec 32 := Scalar.muli v736 c1_i32_663
  let v738 : BitVec 32 := Scalar.addi c0_i32_664 v737
  v738.toNat
def k0_dev50 (d0 : Dev nD) : Nat :=
  let c0_i32_672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_667 : BitVec 32 := 5#32
  let v745 : BitVec 32 := Scalar.addi v2 c5_i32_667
  let c16_i32_668 : BitVec 32 := 16#32
  let v746 : BitVec 32 := Scalar.remsi v745 c16_i32_668
  let c1_i32_671 : BitVec 32 := 1#32
  let v747 : BitVec 32 := Scalar.muli v746 c1_i32_671
  let v748 : BitVec 32 := Scalar.addi c0_i32_672 v747
  v748.toNat
def k0_dev51 (d0 : Dev nD) : Nat :=
  let c0_i32_680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_675 : BitVec 32 := 6#32
  let v755 : BitVec 32 := Scalar.addi v2 c6_i32_675
  let c16_i32_676 : BitVec 32 := 16#32
  let v756 : BitVec 32 := Scalar.remsi v755 c16_i32_676
  let c1_i32_679 : BitVec 32 := 1#32
  let v757 : BitVec 32 := Scalar.muli v756 c1_i32_679
  let v758 : BitVec 32 := Scalar.addi c0_i32_680 v757
  v758.toNat
def k0_dev52 (d0 : Dev nD) : Nat :=
  let c0_i32_688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_683 : BitVec 32 := 7#32
  let v765 : BitVec 32 := Scalar.addi v2 c7_i32_683
  let c16_i32_684 : BitVec 32 := 16#32
  let v766 : BitVec 32 := Scalar.remsi v765 c16_i32_684
  let c1_i32_687 : BitVec 32 := 1#32
  let v767 : BitVec 32 := Scalar.muli v766 c1_i32_687
  let v768 : BitVec 32 := Scalar.addi c0_i32_688 v767
  v768.toNat
def k0_dev53 (d0 : Dev nD) : Nat :=
  let c0_i32_696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_691 : BitVec 32 := 8#32
  let v775 : BitVec 32 := Scalar.addi v2 c8_i32_691
  let c16_i32_692 : BitVec 32 := 16#32
  let v776 : BitVec 32 := Scalar.remsi v775 c16_i32_692
  let c1_i32_695 : BitVec 32 := 1#32
  let v777 : BitVec 32 := Scalar.muli v776 c1_i32_695
  let v778 : BitVec 32 := Scalar.addi c0_i32_696 v777
  v778.toNat
def k0_dev54 (d0 : Dev nD) : Nat :=
  let c0_i32_704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_699 : BitVec 32 := 9#32
  let v785 : BitVec 32 := Scalar.addi v2 c9_i32_699
  let c16_i32_700 : BitVec 32 := 16#32
  let v786 : BitVec 32 := Scalar.remsi v785 c16_i32_700
  let c1_i32_703 : BitVec 32 := 1#32
  let v787 : BitVec 32 := Scalar.muli v786 c1_i32_703
  let v788 : BitVec 32 := Scalar.addi c0_i32_704 v787
  v788.toNat
def k0_dev55 (d0 : Dev nD) : Nat :=
  let c0_i32_712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_707 : BitVec 32 := 10#32
  let v795 : BitVec 32 := Scalar.addi v2 c10_i32_707
  let c16_i32_708 : BitVec 32 := 16#32
  let v796 : BitVec 32 := Scalar.remsi v795 c16_i32_708
  let c1_i32_711 : BitVec 32 := 1#32
  let v797 : BitVec 32 := Scalar.muli v796 c1_i32_711
  let v798 : BitVec 32 := Scalar.addi c0_i32_712 v797
  v798.toNat
def k0_dev56 (d0 : Dev nD) : Nat :=
  let c0_i32_720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_715 : BitVec 32 := 11#32
  let v805 : BitVec 32 := Scalar.addi v2 c11_i32_715
  let c16_i32_716 : BitVec 32 := 16#32
  let v806 : BitVec 32 := Scalar.remsi v805 c16_i32_716
  let c1_i32_719 : BitVec 32 := 1#32
  let v807 : BitVec 32 := Scalar.muli v806 c1_i32_719
  let v808 : BitVec 32 := Scalar.addi c0_i32_720 v807
  v808.toNat
def k0_dev57 (d0 : Dev nD) : Nat :=
  let c0_i32_728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_723 : BitVec 32 := 12#32
  let v815 : BitVec 32 := Scalar.addi v2 c12_i32_723
  let c16_i32_724 : BitVec 32 := 16#32
  let v816 : BitVec 32 := Scalar.remsi v815 c16_i32_724
  let c1_i32_727 : BitVec 32 := 1#32
  let v817 : BitVec 32 := Scalar.muli v816 c1_i32_727
  let v818 : BitVec 32 := Scalar.addi c0_i32_728 v817
  v818.toNat
def k0_dev58 (d0 : Dev nD) : Nat :=
  let c0_i32_736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_731 : BitVec 32 := 13#32
  let v825 : BitVec 32 := Scalar.addi v2 c13_i32_731
  let c16_i32_732 : BitVec 32 := 16#32
  let v826 : BitVec 32 := Scalar.remsi v825 c16_i32_732
  let c1_i32_735 : BitVec 32 := 1#32
  let v827 : BitVec 32 := Scalar.muli v826 c1_i32_735
  let v828 : BitVec 32 := Scalar.addi c0_i32_736 v827
  v828.toNat
def k0_dev59 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_739 : BitVec 32 := 14#32
  let v835 : BitVec 32 := Scalar.addi v2 c14_i32_739
  let c16_i32_740 : BitVec 32 := 16#32
  let v836 : BitVec 32 := Scalar.remsi v835 c16_i32_740
  let c1_i32_743 : BitVec 32 := 1#32
  let v837 : BitVec 32 := Scalar.muli v836 c1_i32_743
  let v838 : BitVec 32 := Scalar.addi c0_i32_744 v837
  v838.toNat
def k0_dev60 (d0 : Dev nD) : Nat :=
  let c0_i32_752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_747 : BitVec 32 := 15#32
  let v845 : BitVec 32 := Scalar.addi v2 c15_i32_747
  let c16_i32_748 : BitVec 32 := 16#32
  let v846 : BitVec 32 := Scalar.remsi v845 c16_i32_748
  let c1_i32_751 : BitVec 32 := 1#32
  let v847 : BitVec 32 := Scalar.muli v846 c1_i32_751
  let v848 : BitVec 32 := Scalar.addi c0_i32_752 v847
  v848.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x4096 : Shape := ⟨2, ![512, 4096]⟩
abbrev S2x128x64x64 : Shape := ⟨4, ![2, 128, 64, 64]⟩
abbrev S4096x512 : Shape := ⟨2, ![4096, 512]⟩
abbrev S2x128x4096 : Shape := ⟨3, ![2, 128, 4096]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x64x128x128 : Shape := ⟨4, ![2, 64, 128, 128]⟩
abbrev S1x1x128x128 : Shape := ⟨4, ![1, 1, 128, 128]⟩
abbrev S2x64x128 : Shape := ⟨3, ![2, 64, 128]⟩
abbrev S2x64x128x1 : Shape := ⟨4, ![2, 64, 128, 1]⟩
abbrev S1x1x128x1 : Shape := ⟨4, ![1, 1, 128, 1]⟩
abbrev S2x64x64x128 : Shape := ⟨4, ![2, 64, 64, 128]⟩

abbrev nBuf : Space → Nat
  | .hbm => 89
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x4096, .f32⟩
  | .hbm, ⟨2, _⟩ => ⟨S2x128x64x64, .f32⟩
  | .hbm, ⟨3, _⟩ => ⟨S2x128x64x64, .f32⟩
  | .hbm, ⟨4, _⟩ => ⟨S4096x512, .f32⟩
  | .hbm, ⟨5, _⟩ => ⟨S2x128x4096, .f32⟩
  | .hbm, ⟨6, _⟩ => ⟨S2x128x64x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S1x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S2x64x128x128, .f32⟩
  | .hbm, ⟨51, _⟩ => ⟨S_, .f32⟩
  | .hbm, ⟨52, _⟩ => ⟨S2x64x128x128, .f32⟩
  | .hbm, ⟨53, _⟩ => ⟨S2x64x128x128, .f32⟩
  | .hbm, ⟨54, _⟩ => ⟨S1x1x128x128, .i1⟩
  | .hbm, ⟨55, _⟩ => ⟨S_, .f32⟩
  | .hbm, ⟨56, _⟩ => ⟨S_, .f32⟩
  | .hbm, ⟨57, _⟩ => ⟨S2x64x128x128, .i1⟩
  | .hbm, ⟨58, _⟩ => ⟨S2x64x128x128, .f32⟩
  | .hbm, ⟨59, _⟩ => ⟨S2x64x128x128, .f32⟩
  | .hbm, ⟨60, _⟩ => ⟨S_, .f32⟩
  | .hbm, ⟨61, _⟩ => ⟨S2x64x128, .f32⟩
  | .hbm, ⟨62, _⟩ => ⟨S2x64x128x1, .f32⟩
  | .hbm, ⟨63, _⟩ => ⟨S2x64x128x128, .f32⟩
  | .hbm, ⟨64, _⟩ => ⟨S2x64x128x128, .f32⟩
  | .hbm, ⟨65, _⟩ => ⟨S2x64x128x128, .f32⟩
  | .hbm, ⟨66, _⟩ => ⟨S_, .i1⟩
  | .hbm, ⟨67, _⟩ => ⟨S128, .i1⟩
  | .hbm, ⟨68, _⟩ => ⟨S1x1x128x1, .i1⟩
  | .hbm, ⟨69, _⟩ => ⟨S_, .f32⟩
  | .hbm, ⟨70, _⟩ => ⟨S2x64x128, .f32⟩
  | .hbm, ⟨71, _⟩ => ⟨S2x64x128x1, .f32⟩
  | .hbm, ⟨72, _⟩ => ⟨S_, .f32⟩
  | .hbm, ⟨73, _⟩ => ⟨S_, .f32⟩
  | .hbm, ⟨74, _⟩ => ⟨S2x64x128x1, .i1⟩
  | .hbm, ⟨75, _⟩ => ⟨S2x64x128x1, .f32⟩
  | .hbm, ⟨76, _⟩ => ⟨S2x64x128x1, .f32⟩
  | .hbm, ⟨77, _⟩ => ⟨S2x64x128x128, .f32⟩
  | .hbm, ⟨78, _⟩ => ⟨S2x64x128x128, .f32⟩
  | .hbm, ⟨79, _⟩ => ⟨S1x1x128x1, .i1⟩
  | .hbm, ⟨80, _⟩ => ⟨S_, .f32⟩
  | .hbm, ⟨81, _⟩ => ⟨S_, .f32⟩
  | .hbm, ⟨82, _⟩ => ⟨S2x64x128x128, .i1⟩
  | .hbm, ⟨83, _⟩ => ⟨S2x64x128x128, .f32⟩
  | .hbm, ⟨84, _⟩ => ⟨S2x64x128x128, .f32⟩
  | .hbm, ⟨85, _⟩ => ⟨S2x64x64x128, .f32⟩
  | .hbm, ⟨86, _⟩ => ⟨S2x128x64x64, .f32⟩
  | .hbm, ⟨87, _⟩ => ⟨S2x128x4096, .f32⟩
  | .hbm, ⟨88, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Views.lean ====
/-
  The buffers and peers of the exchange: which device a transfer of index k goes to, the sixteen 16-row chunks of the
  communication buffer, its two 128-row halves, and the fifteen slots of the staging buffer. All sixteen chunks
  partition the communication buffer, eight of them each half; the slots partition the staging buffer.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Rounds.Family
public import Idealize.ShloMosaic.Lib.StableHlo
public import Idealize.ShloMosaic.Lib.Tactic
public import Idealize.ShloMosaic.Lib.ViewIndex
public import Idealize.ShloMosaic.Lib.Writes

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

/-! ## Peers -/

/-- The device that device `c` sends to with index `k`: `k + 1` places further round the ring. -/
def peer (c : Dev nD) (k : Fin 15) : Dev nD := ⟨(c.val + k.val + 1) % 16, Nat.mod_lt _ (by decide)⟩

theorem peer_val (c : Dev nD) (k : Fin 15) : (peer c k).val = (c.val + k.val + 1) % 16 := rfl

/-- Going round by `k` and then by the index counted from the other end leads back. -/
theorem peer_rev (c : Dev nD) (k : Fin 15) : peer (peer c k) k.rev = c := by
  have hc : c.val < 16 := c.isLt
  have hk := k.isLt
  apply Fin.ext
  simp only [peer_val, Fin.val_rev]
  omega

theorem peer_rev' (c : Dev nD) (k : Fin 15) : peer (peer c k.rev) k = c := by
  have h := peer_rev c k.rev
  rwa [Fin.rev_rev] at h

theorem peer_inj (c : Dev nD) {k k' : Fin 15} (h : peer c k = peer c k') : k = k' := by
  have hc : c.val < 16 := c.isLt
  have hk := k.isLt
  have hk' := k'.isLt
  have h' := congrArg Fin.val h
  simp only [peer_val] at h'
  apply Fin.ext
  omega

theorem peer_ne (c : Dev nD) (k : Fin 15) : peer c k ≠ c := by
  have hc : c.val < 16 := c.isLt
  have hk := k.isLt
  intro h
  have h' := congrArg Fin.val h
  simp only [peer_val] at h'
  omega

/-- Every other device is a peer. -/
theorem peer_surj (c d : Dev nD) (h : d ≠ c) : ∃ k, peer c k = d := by
  have hc : c.val < 16 := c.isLt
  have hd : d.val < 16 := d.isLt
  have hne : d.val ≠ c.val := fun e => h (Fin.ext e)
  refine ⟨⟨(d.val + 15 - c.val) % 16, by omega⟩, Fin.ext ?_⟩
  simp only [peer_val]
  omega

/-- The peer of index `k` is among the first eight devices: its rows are computed in the first batch. -/
abbrev low (c : Dev nD) (k : Fin 15) : Prop := (peer c k).val < 8

/-! ## The communication buffer -/

abbrev commM : Memref sig .tc .vmem S256x512 .bf16 := Memref.whole cc0_scratch2
abbrev stageM : Memref sig .tc .vmem S15x16x512 .bf16 := Memref.whole cc0_scratch3

theorem chunk_inb (i : Fin 16) : ∀ a, (![16 * i.val, 0] : Fin 2 → ℕ) a + S16x512.size a ≤ S256x512.size a := by
  revert i; decide

/-- Rows `16 i … 16 i + 15` of the communication buffer. -/
abbrev chunkM (i : Fin 16) : Memref sig .tc .vmem S16x512 .bf16 :=
  commM.slice (Rect.unit (s := S256x512) ![16 * i.val, 0] S16x512.size (chunk_inb i)) (fun _ => rfl)

theorem half_inb (b : Fin 2) : ∀ a, (![128 * b.val, 0] : Fin 2 → ℕ) a + S128x512.size a ≤ S256x512.size a := by
  revert b; decide

/-- Rows `128 b … 128 b + 127`. -/
abbrev halfR (b : Fin 2) : Rect S256x512 := Rect.unit (s := S256x512) ![128 * b.val, 0] S128x512.size (half_inb b)

/-- The index set of a half of the communication buffer. -/
def halfSet (b : Fin 2) : Finset S256x512.Idx := Finset.univ.filter fun i => (i 0).val / 128 = b.val
/-- The index set of a chunk. -/
def chunkSet (j : Fin 16) : Finset S256x512.Idx := Finset.univ.filter fun i => (i 0).val / 16 = j.val

theorem chunkM_set (j : Fin 16) : (chunkM j).view.set = chunkSet j := by
  show (commM.view.slice _).set = _
  rw [View.set_slice_whole]
  ext i
  have h0 := (i 0).isLt
  have h1 := (i 1).isLt
  rw [Rect.mem_set_unit, chunkSet, Finset.mem_filter]
  simp only [Finset.mem_univ, true_and]
  constructor
  · intro h
    have := h 0
    simp at this
    omega
  · intro h a
    match a with
    | ⟨0, _⟩ => simp; omega
    | ⟨1, _⟩ => simp; exact h1

theorem half_set (b : Fin 2) : (halfR b).set = halfSet b := by
  ext i
  have h0 := (i 0).isLt
  have h1 := (i 1).isLt
  rw [Rect.mem_set_unit, halfSet, Finset.mem_filter]
  simp only [Finset.mem_univ, true_and]
  constructor
  · intro h
    have := h 0
    simp at this
    omega
  · intro h a
    match a with
    | ⟨0, _⟩ => simp; omega
    | ⟨1, _⟩ => simp; exact h1

theorem half_disjoint : Disjoint (halfSet 0) (halfSet 1) := by
  rw [Finset.disjoint_left]
  intro i h h'
  simp only [halfSet, Finset.mem_filter, Fin.val_zero, Fin.val_one] at h h'
  omega

theorem half_union : halfSet 0 ∪ halfSet 1 = Finset.univ := by
  ext i
  have h0 : (i 0).val < 256 := (i 0).isLt
  simp only [halfSet, Finset.mem_union, Finset.mem_filter, Finset.mem_univ, true_and, iff_true, Fin.val_zero, Fin.val_one]
  omega

theorem chunk_disjoint (i j : Fin 16) (h : i ≠ j) : Disjoint (chunkSet i) (chunkSet j) := by
  rw [Finset.disjoint_left]
  intro x hx hx'
  simp only [chunkSet, Finset.mem_filter] at hx hx'
  exact h (Fin.ext (by omega))

/-- The chunks of a half. -/
def halfChunks (b : Fin 2) : Finset (Fin 16) := Finset.univ.filter fun i => i.val / 8 = b.val

theorem half_chunks (b : Fin 2) : (halfChunks b).biUnion chunkSet = halfSet b := by
  ext x
  have h0 : (x 0).val < 256 := (x 0).isLt
  simp only [Finset.mem_biUnion, halfChunks, chunkSet, halfSet, Finset.mem_filter, Finset.mem_univ, true_and]
  constructor
  · rintro ⟨i, hi, hx⟩; omega
  · intro h
    refine ⟨⟨(x 0).val / 16, by omega⟩, ?_, rfl⟩
    simp only
    omega

theorem all_chunks : (Finset.univ : Finset (Fin 16)).biUnion chunkSet = Finset.univ := by
  ext x
  have h0 : (x 0).val < 256 := (x 0).isLt
  simp only [Finset.mem_biUnion, chunkSet, Finset.mem_filter, Finset.mem_univ, true_and, iff_true]
  exact ⟨⟨(x 0).val / 16, by omega⟩, rfl⟩

/-! ## The staging buffer -/

theorem slot_inb (k : Fin 15) : ∀ a, (![k.val, 0, 0] : Fin 3 → ℕ) a + S1x16x512.size a ≤ S15x16x512.size a := by
  revert k; decide

abbrev slotR (k : Fin 15) : Rect S15x16x512 := Rect.unit (s := S15x16x512) ![k.val, 0, 0] S1x16x512.size (slot_inb k)

/-- Slot `k` of the staging buffer: where what the peer of index counted from the other end sends is put. -/
abbrev slotM (k : Fin 15) : Memref sig .tc .vmem S16x512 .bf16 :=
  (stageM.slice (slotR k) (fun _ => rfl)).squeeze S16x512 squeezes_S1x16x512_S16x512

def slotSet (k : Fin 15) : Finset S15x16x512.Idx := Finset.univ.filter fun i => (i 0).val = k.val

theorem slotR_set (k : Fin 15) : (slotR k).set = slotSet k := by
  ext i
  have h0 := (i 0).isLt
  have h1 := (i 1).isLt
  have h2 := (i 2).isLt
  rw [Rect.mem_set_unit, slotSet, Finset.mem_filter]
  simp only [Finset.mem_univ, true_and]
  constructor
  · intro h
    have := h 0
    simp at this
    omega
  · intro h a
    match a with
    | ⟨0, _⟩ => simp; omega
    | ⟨1, _⟩ => simp; exact h1
    | ⟨2, _⟩ => simp; exact h2

theorem slotM_set (k : Fin 15) : (slotM k).view.set = slotSet k := by
  show ((stageM.view.slice _).reshape _ _).set = _
  rw [View.set_reshape, View.set_slice_whole, slotR_set]

theorem slot_disjoint (i j : Fin 15) (h : i ≠ j) : Disjoint (slotSet i) (slotSet j) := by
  rw [Finset.disjoint_left]
  intro x hx hx'
  simp only [slotSet, Finset.mem_filter] at hx hx'
  exact h (Fin.ext (by omega))

theorem all_slots : (Finset.univ : Finset (Fin 15)).biUnion slotSet = Finset.univ := by
  ext x
  simp only [Finset.mem_biUnion, slotSet, Finset.mem_filter, Finset.mem_univ, true_and, iff_true]
  exact ⟨⟨(x 0).val, (x 0).isLt⟩, rfl⟩

end Cert.Exchange

end
-- ==== Proof.Protocol.lean ====
/-
  The exchange's protocol. Device `c` and its peer `p = peer c k` (the device `k + 1` places further round):

  * entry handshake: `c` signals `p`'s barrier, handing it the slot of `c`'s staging buffer that `p` will fill, and that
    the two receive cells of `c` which `p` will pay are open;
  * scatter: `c` copies chunk `p` of its own partial product into slot `k` of `p`'s staging buffer; the copy pays `p`'s
    receive cell with the filled slot AND with chunk `p` of `c`'s communication buffer, which `p` will overwrite;
  * gather: `c` sums its chunk, stores it, and copies it over chunk `c` of every peer's communication buffer; the source
    is lent by shares, and comes back through the send cells.

  The schedule is stated over two named contents: `A c`, device `c`'s partial product, and `Z`, the final product, the same
  on every device.
-/
module

public import proofs.«01_k».proof.Proof.Views

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

/-! ## The resource algebra -/

/-- The pipeline's copy and the exchange's. -/
abbrev UU : Type := UR sig nD τ × URounds (GSem nD τ sig) (Fin 15)

local notation "𝕄" => MT nD τ sig Unit (Elt F) ℕ UU ℕ

abbrev EP : Emb (UR sig nD τ) (MT nD τ sig Unit (Elt F) ℕ UU ℕ) := embL
abbrev ER : Emb (URounds (GSem nD τ sig) (Fin 15)) (MT nD τ sig Unit (Elt F) ℕ UU ℕ) := embR

/-! ## Cells -/

/-- The barrier semaphore of the exchange. -/
abbrev barS : Sem sig := sig.barrier 0 rfl
/-- The semaphore of index `k` in array `a`: 0 scatter sends, 1 scatter receives, 2 gather sends, 3 gather receives. -/
def dmaS (a : Fin 4) (k : Fin 15) : DmaSem sig := ⟨6 + 15 * a.val + k.val, by have := a.isLt; have := k.isLt; show _ < 66; omega⟩

abbrev barCell (c : Dev nD) : GSem nD τ sig := ((c : Thread nD τ), .reg barS)
abbrev dmaCell (c : Dev nD) (a : Fin 4) (k : Fin 15) : GSem nD τ sig := ((c : Thread nD τ), .dma (dmaS a k))

/-- The array a DMA semaphore is of. -/
def arrOf (s : DmaSem sig) : ℕ := (s.val - 6) / 15
/-- Its index there. -/
def ixOf (s : DmaSem sig) : Fin 15 := ⟨(s.val - 6) % 15, Nat.mod_lt _ (by decide)⟩

theorem arrOf_dmaS (a : Fin 4) (k : Fin 15) : arrOf (dmaS a k) = a.val := by
  have hk := k.isLt
  simp only [arrOf, dmaS]; omega
theorem ixOf_dmaS (a : Fin 4) (k : Fin 15) : ixOf (dmaS a k) = k := by
  have hk := k.isLt
  apply Fin.ext; simp only [ixOf, dmaS]; omega
theorem dmaS_ge (a : Fin 4) (k : Fin 15) : 6 ≤ (dmaS a k).val := by simp only [dmaS]; omega
theorem dmaS_inj {a a' : Fin 4} {k k' : Fin 15} (h : dmaS a k = dmaS a' k') : a = a' ∧ k = k' := by
  have h1 := congrArg arrOf h
  have h2 := congrArg ixOf h
  rw [arrOf_dmaS, arrOf_dmaS] at h1
  rw [ixOf_dmaS, ixOf_dmaS] at h2
  exact ⟨Fin.ext h1, h2⟩

/-- What one transfer of a chunk credits. -/
abbrev N : ℕ := (chunkM 0).view.dmaCredit
theorem N_pos : 0 < N := View.dmaCredit_pos _ (by decide)

/-! ## Shares of a chunk lent to the gather's copies -/

/-- What is left of the full share after `n` loans. -/
def restShare : ℕ → PosShare TreeShare
  | 0 => fullShare
  | n + 1 => (restShare n).right
/-- The share lent to the copy of index `n`. -/
def lendShare (n : ℕ) : PosShare TreeShare := (restShare n).left

/-! ## Contents and points-tos -/

/-- Contents of the communication buffer, of the staging buffer. -/
abbrev CommC (F : FTy → Type) : Type := (cc0_scratch2 : Ref sig .tc).ty.Contents (Elt F)
abbrev StageC (F : FTy → Type) : Type := (cc0_scratch3 : Ref sig .tc).ty.Contents (Elt F)

/-- Chunk `j` of device `c`'s communication buffer, at share `q`. -/
abbrev chunkPt (c : Dev nD) (j : Fin 16) (q : PosShare TreeShare) (f : CommC F) : sProp 𝕄 :=
  (chunkM j).view.loc (c : Thread nD τ) ↦[(chunkM j).view.set]{q} f
/-- Slot `k` of device `c`'s staging buffer. -/
abbrev slotPt (c : Dev nD) (k : Fin 15) (f : StageC F) : sProp 𝕄 :=
  (slotM k).view.loc (c : Thread nD τ) ↦[(slotM k).view.set]{fullShare} f

/-! ## The schedule -/

variable (A : Dev nD → CommC F) (Z : CommC F)

/-- Paid to `p`'s barrier by `peer p k`: its slot `k`, and that its two receive cells of index `k` are open. -/
def barPay (p : Dev nD) (k : Fin 15) : sProp 𝕄 :=
  iprop((∃ f, slotPt (peer p k) k f) ∗ reached ER (dmaCell (peer p k) 1 k) 0 ∗ reached ER (dmaCell (peer p k) 3 k) 0)
/-- Paid to `p`'s scatter receive cell `k`: the slot, holding chunk `p` of the sender's partial product, and the sender's
    chunk `p`, to be overwritten later. -/
def rsPay (p : Dev nD) (k : Fin 15) : sProp 𝕄 :=
  iprop((∃ f, slotPt p k f ∗ ⌜(slotM k).view.read (Elt F) f = (chunkM p).view.read (Elt F) (A (peer p k.rev))⌝)
    ∗ ∃ g, chunkPt (peer p k.rev) p fullShare g)
/-- Paid back to `c` by its own gather copy of index `k`: the share of its chunk it lent. -/
def agsPay (c : Dev nD) (k : Fin 15) : sProp 𝕄 := chunkPt c c (lendShare k.val) Z
/-- Paid to `p`'s gather receive cell `k`: the sender's chunk of `p`'s communication buffer, final. -/
def agPay (p : Dev nD) (k : Fin 15) : sProp 𝕄 := chunkPt p (peer p k.rev) fullShare Z

/-- What the units on a DMA cell hand over. -/
def dmaPay (c : Dev nD) (a : ℕ) (k : Fin 15) : sProp 𝕄 :=
  if a = 1 then rsPay A c k else if a = 2 then agsPay Z c k else if a = 3 then agPay Z c k else iprop(emp)

/-- One round everywhere: fifteen one-unit duties on a barrier cell, one on every DMA cell of the four arrays. -/
def exRd : Rounds.Schedule (GSem nD τ sig) (Fin 15) 𝕄 where
  duties g r := if r = 0 ∧ g.1.2 = .tc then
      (match g.2 with | .reg _ => Finset.univ | .dma s => if 6 ≤ s.val then {0} else ∅) else ∅
  unitless _ := False
  amount g _ _ := match g.2 with | .reg _ => 1 | .dma _ => N
  payload g _ d := match g.2 with | .reg _ => barPay g.1.1 d | .dma s => dmaPay A Z g.1.1 (arrOf s) (ixOf s)
  amount_pos g _ _ _ := by
    cases g.2 with
    | reg s => exact Nat.one_pos
    | dma s => exact N_pos

instance exRd_payload_storable (g : GSem nD τ sig) (r : ℕ) (d : Fin 15) :
    BI.Storable (upEmb : UEmb _ 𝕄) ((exRd A Z).payload g r d) := by
  show BI.Storable upEmb (match g.2 with | .reg _ => barPay g.1.1 d | .dma s => dmaPay A Z g.1.1 (arrOf s) (ixOf s))
  unfold barPay dmaPay rsPay agsPay agPay
  (repeat' split) <;> infer_instance

theorem duties_bar (c : Dev nD) : (exRd A Z).duties (barCell c) 0 = Finset.univ := by dsimp only [exRd]; exact if_pos ⟨rfl, rfl⟩
theorem duties_dma (c : Dev nD) (a : Fin 4) (k : Fin 15) : (exRd A Z).duties (dmaCell c a k) 0 = {0} := by
  dsimp only [exRd]
  rw [if_pos ⟨rfl, rfl⟩]
  exact if_pos (dmaS_ge a k)
theorem duties_later (g : GSem nD τ sig) : ∀ r, 1 ≤ r → (exRd A Z).duties g r = ∅ :=
  fun r hr => if_neg (fun h => by omega)
theorem amount_bar (c : Dev nD) (k : Fin 15) : (exRd A Z).amount (barCell c) 0 k = 1 := rfl
theorem amount_dma (c : Dev nD) (a : Fin 4) (k d : Fin 15) : (exRd A Z).amount (dmaCell c a k) 0 d = N := rfl
theorem expect_bar (c : Dev nD) : (exRd A Z).expect (barCell c) 0 = 15 := by
  unfold Schedule.expect Schedule.amountOf
  rw [duties_bar]; rfl
theorem expect_dma (c : Dev nD) (a : Fin 4) (k : Fin 15) : (exRd A Z).expect (dmaCell c a k) 0 = N := by
  unfold Schedule.expect Schedule.amountOf
  rw [duties_dma, Finset.sum_singleton, amount_dma]
theorem payload_bar (c : Dev nD) (k : Fin 15) : (exRd A Z).payload (barCell c) 0 k = barPay c k := rfl
theorem payload_dma (c : Dev nD) (a : Fin 4) (k d : Fin 15) :
    (exRd A Z).payload (dmaCell c a k) 0 d = dmaPay A Z c a.val k := by
  show dmaPay A Z c (arrOf (dmaS a k)) (ixOf (dmaS a k)) = _
  rw [arrOf_dmaS, ixOf_dmaS]

theorem rest_bar (c : Dev nD) :
    bigSep ((exRd A Z).duties (barCell c) 0 \ ∅) (fun d => (exRd A Z).payload (barCell c) 0 d)
      = bigSep Finset.univ fun k : Fin 15 => barPay (F := F) c k := by
  rw [Finset.sdiff_empty, duties_bar]; rfl
theorem rest_dma (c : Dev nD) (a : Fin 4) (k : Fin 15) :
    bigSep ((exRd A Z).duties (dmaCell c a k) 0 \ ∅) (fun d => (exRd A Z).payload (dmaCell c a k) 0 d) = dmaPay A Z c a.val k := by
  rw [Finset.sdiff_empty, duties_dma, bigSep_singleton, payload_dma]

/-! ## What each core owes; the levels -/

def tBar (c : Dev nD) (k : Fin 15) : CellTallies nD τ sig Unit := tallyAt (barCell (peer c k)) () 1
def tRs (c : Dev nD) (k : Fin 15) : CellTallies nD τ sig Unit := tallyAt (dmaCell (peer c k) 1 k) () N
def tAg (c : Dev nD) (k : Fin 15) : CellTallies nD τ sig Unit := tallyAt (dmaCell (peer c k) 3 k) () N

/-- The gather copies' credits; with the scatter copies' to the last eight devices. -/
def owesAg (c : Dev nD) : CellTallies nD τ sig Unit := ∑ k, tAg c k
def owesHigh (c : Dev nD) : CellTallies nD τ sig Unit := (∑ k ∈ Finset.univ.filter (fun k => ¬ low c k), tRs c k) + owesAg c
/-- All the transfers' credits. -/
def owesRs (c : Dev nD) : CellTallies nD τ sig Unit := (∑ k ∈ Finset.univ.filter (fun k => low c k), tRs c k) + owesHigh c
/-- All that device `c` pays other devices. -/
def O₀ (c : Dev nD) : CellTallies nD τ sig Unit := (∑ k, tBar c k) + owesRs c

def L (g : GSem nD τ sig) : Finset Unit := if g.1.2 = .tc then {()} else ∅
/-- Barrier cells at 1, scatter receive cells at 2, gather receive cells at 3, the rest at 0. -/
def lv (g : GSem nD τ sig) (_ : Unit) : ℕ :=
  match g.2 with
  | .reg _ => 1
  | .dma s => if s.val < 6 then 0 else if arrOf s = 1 then 2 else if arrOf s = 3 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_dma (c : Dev nD) (a : Fin 4) (k : Fin 15) :
    lv (dmaCell c a k) () = if a.val = 1 then 2 else if a.val = 3 then 3 else 0 := by
  show (if (dmaS a k).val < 6 then 0 else if arrOf (dmaS a k) = 1 then 2 else if arrOf (dmaS a k) = 3 then 3 else 0) = _
  rw [if_neg (by have := dmaS_ge a k; omega), arrOf_dmaS]

/-- A tally is owed on cells of level above `n` only. -/
def Above (n : ℕ) (T : CellTallies nD τ sig Unit) : Prop := ∀ g u, 0 < T g u → u ∈ L g ∧ n < lv g u

theorem above_zero (n : ℕ) : Above n 0 := fun _ _ h => absurd h (Nat.lt_irrefl 0)
theorem above_add {n : ℕ} {T T' : CellTallies nD τ sig Unit} (h : Above n T) (h' : Above n T') : Above n (T + T') := fun g u hg => by
  have e : (T + T') g u = T g u + T' g u := rfl
  rw [e] at hg
  rcases Nat.eq_zero_or_pos (T g u) with h0 | h0
  · exact h' g u (by omega)
  · exact h g u h0
theorem above_sum {n : ℕ} {ι : Type} (S : Finset ι) (T : ι → CellTallies nD τ sig Unit) (h : ∀ i ∈ S, Above n (T i)) :
    Above n (∑ i ∈ S, T i) :=
  Finset.sum_induction T (Above n) (fun _ _ => above_add) (above_zero n) h
theorem above_tally {n : ℕ} (c : Dev nD) (sm : SemLoc sig) (v : ℕ) (h : n < lv ((c : Thread nD τ), sm) ()) :
    Above n (tallyAt ((c : Thread nD τ), sm) () v) := fun g u hg => by
  rw [tallyAt_apply] at hg
  by_cases hh : g = ((c : Thread nD τ), sm) ∧ u = ()
  · rw [hh.1]; exact ⟨by rw [L_tc]; exact Finset.mem_singleton_self _, h⟩
  · rw [if_neg hh] at hg; exact absurd hg (Nat.lt_irrefl 0)

theorem above_tBar (c : Dev nD) (k : Fin 15) : Above 0 (tBar c k) := above_tally _ _ _ (by rw [lv_bar]; decide)
theorem above_tRs (c : Dev nD) (k : Fin 15) : Above 1 (tRs c k) := above_tally _ _ _ (by rw [lv_dma]; decide)
theorem above_tAg (c : Dev nD) (k : Fin 15) : Above 2 (tAg c k) := above_tally _ _ _ (by rw [lv_dma]; decide)
theorem above_mono {n n' : ℕ} (h : n ≤ n') {T : CellTallies nD τ sig Unit} (hT : Above n' T) : Above n T :=
  fun g u hg => ⟨(hT g u hg).1, lt_of_le_of_lt h (hT g u hg).2⟩

theorem above_owesAg (c : Dev nD) : Above 2 (owesAg c) := above_sum _ _ fun k _ => above_tAg c k
theorem above_owesHigh (c : Dev nD) : Above 1 (owesHigh c) :=
  above_add (above_sum _ _ fun k _ => above_tRs c k) (above_mono (by decide) (above_owesAg c))
theorem above_owesRs (c : Dev nD) : Above 1 (owesRs c) :=
  above_add (above_sum _ _ fun k _ => above_tRs c k) (above_owesHigh c)
theorem above_O₀ (c : Dev nD) : Above 0 (O₀ c) :=
  above_add (above_sum _ _ fun k _ => above_tBar c k) (above_mono (by decide) (above_owesRs c))

/-- Owing only above the level of a cell, a core may wait on that cell. -/
theorem mayWait (c : Dev nD) (sm : SemLoc sig) (n : ℕ) (hn : lv ((c : Thread nD τ), sm) () = n) {T : CellTallies nD τ sig Unit}
    (hT : Above n T) : (levAts L lv : sProp 𝕄) ⊢ MayWait (c : Thread nD τ) sm () T :=
  MayOwe.of_cut (L := L) (lev := lv) n (fun p hp => by rw [Finset.mem_singleton.mp hp, L_tc]; exact Finset.mem_singleton_self _)
    (fun g u hg => (hT g u hg).1)
    (fun p hp => by rw [Finset.mem_singleton.mp hp, hn])
    (fun g u hg => (hT g u hg).2)

/-! ## The invariants, all of them -/

/-- Every cell of the exchange, by device. -/
def invs (K : GSem nD τ sig → ℕ) : sProp 𝕄 :=
  iprop((bigSep Finset.univ fun c : Dev nD => cellInv ER (exRd A Z) (K (barCell c)) (barCell c))
    ∗ bigSep Finset.univ fun x : Dev nD × Fin 4 × Fin 15 => cellInv ER (exRd A Z) (K (dmaCell x.1 x.2.1 x.2.2)) (dmaCell x.1 x.2.1 x.2.2))

instance invs_persistent (K : GSem nD τ sig → ℕ) : BI.Persistent (invs A Z K) := by unfold invs; infer_instance

theorem invs_bar (K : GSem nD τ sig → ℕ) (c : Dev nD) : invs A Z K ⊢ cellInv ER (exRd A Z) (K (barCell c)) (barCell c) := by
  unfold invs
  exact (Idealize.SL.BI.Entails.trans BI.sep_and and_elimL).trans (bigSep_elim (Finset.mem_univ c))
theorem invs_dma (K : GSem nD τ sig → ℕ) (c : Dev nD) (a : Fin 4) (k : Fin 15) :
    invs A Z K ⊢ cellInv ER (exRd A Z) (K (dmaCell c a k)) (dmaCell c a k) := by
  unfold invs
  exact (Idealize.SL.BI.Entails.trans BI.sep_and and_elimR).trans (bigSep_elim (Finset.mem_univ ((c, a, k) : Dev nD × Fin 4 × Fin 15)))

end Cert.Exchange

end
-- ==== Proof.Steps.lean ====
/-
  The exchange's steps, each proved once at a symbolic device and index: a signal, the barrier wait, a scatter copy under its
  condition, a scatter wait, a gather copy, the waits that drain the gather's receives and both arrays of sends. The state of a
  run of fifteen such steps is what is left to do (`todo`) and what has been done (`done`).
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-! ## Splitting a family, in the proof mode's words -/

theorem bs_insert {I : Type} [DecidableEq I] {s : Finset I} {i : I} (hi : i ∉ s) (Φ : I → sProp 𝕄) :
    bigSep (insert i s) Φ = iprop(Φ i ∗ bigSep s Φ) := bigSep_insert hi
theorem bs_sep {I : Type} (s : Finset I) (Φ Ψ : I → sProp 𝕄) :
    bigSep s (fun i => iprop(Φ i ∗ Ψ i)) = iprop(bigSep s Φ ∗ bigSep s Ψ) := (bigSep_sep s Φ Ψ)
theorem bs_split {I : Type} [DecidableEq I] (s : Finset I) (p : I → Prop) [DecidablePred p] (Φ : I → sProp 𝕄) :
    bigSep s Φ = iprop(bigSep (s.filter p) Φ ∗ bigSep (s.filter fun i => ¬ p i) Φ) := bigSep_filter_split s p
theorem bs_erase {I : Type} [DecidableEq I] {s : Finset I} {i : I} (hi : i ∈ s) (Φ : I → sProp 𝕄) :
    bigSep s Φ = iprop(Φ i ∗ bigSep (s.erase i) Φ) := bigSep_erase hi

/-- Writing through a view what it reads of `g` leaves `g` on the view's elements. -/
theorem write_read_self {κ : Kind} {sp : Space} {s : Shape} {e : EltTy} (v : View sig κ sp s e) (f g : v.ty.Contents (Elt F))
    {i : v.ty.shape.Idx} (hi : i ∈ v.set) : v.write (Elt F) f (v.read (Elt F) g) Finset.univ i = g i := by
  obtain ⟨x, -, rfl⟩ := Finset.mem_map.mp hi
  rw [View.write_emb_of_mem _ _ (Finset.mem_univ x)]
  simp [View.read]

/-! ## Progress through fifteen indices -/

section Progress

variable (P : Fin 15 → Prop) [DecidablePred P]

/-- The indices still to be handled before step `n`, and those handled; `P` holds of those handled at all. -/
def todo (n : ℕ) : Finset (Fin 15) := Finset.univ.filter fun k => n ≤ k.val ∧ P k
def done (n : ℕ) : Finset (Fin 15) := Finset.univ.filter fun k => k.val < n ∧ P k

theorem todo_succ {n : Fin 15} (hP : P n) : todo P n.val = insert n (todo P (n.val + 1)) := by
  ext k
  simp only [todo, Finset.mem_filter, Finset.mem_univ, true_and, Finset.mem_insert]
  constructor
  · rintro ⟨h, hk⟩
    by_cases e : k = n
    · exact .inl e
    · exact .inr ⟨by have : k.val ≠ n.val := fun h => e (Fin.ext h); omega, hk⟩
  · rintro (e | ⟨h, hk⟩)
    · subst e; exact ⟨le_refl _, hP⟩
    · exact ⟨by omega, hk⟩
theorem notMem_todo (n : Fin 15) : n ∉ todo P (n.val + 1) := by
  simp only [todo, Finset.mem_filter, not_and]
  intro _ h; omega
theorem done_succ {n : Fin 15} (hP : P n) : done P (n.val + 1) = insert n (done P n.val) := by
  ext k
  simp only [done, Finset.mem_filter, Finset.mem_univ, true_and, Finset.mem_insert]
  constructor
  · rintro ⟨h, hk⟩
    by_cases e : k = n
    · exact .inl e
    · exact .inr ⟨by have : k.val ≠ n.val := fun h => e (Fin.ext h); omega, hk⟩
  · rintro (e | ⟨h, hk⟩)
    · subst e; exact ⟨by omega, hP⟩
    · exact ⟨by omega, hk⟩
theorem notMem_done (n : Fin 15) : n ∉ done P n.val := by
  simp only [done, Finset.mem_filter, not_and]
  intro _ h; omega
theorem todo_skip {n : Fin 15} (hP : ¬ P n) : todo P (n.val + 1) = todo P n.val := by
  ext k
  simp only [todo, Finset.mem_filter, Finset.mem_univ, true_and]
  constructor
  · rintro ⟨h, hk⟩; exact ⟨by omega, hk⟩
  · rintro ⟨h, hk⟩
    refine ⟨?_, hk⟩
    have : k.val ≠ n.val := fun h => hP (by rwa [← Fin.ext h])
    omega
theorem done_skip {n : Fin 15} (hP : ¬ P n) : done P (n.val + 1) = done P n.val := by
  ext k
  simp only [done, Finset.mem_filter, Finset.mem_univ, true_and]
  constructor
  · rintro ⟨h, hk⟩
    refine ⟨?_, hk⟩
    have : k.val ≠ n.val := fun h => hP (by rwa [← Fin.ext h])
    omega
  · rintro ⟨h, hk⟩; exact ⟨by omega, hk⟩
theorem todo_zero : todo P 0 = Finset.univ.filter P := by
  ext k; simp only [todo, Finset.mem_filter, Nat.zero_le, true_and]
theorem done_zero : done P 0 = ∅ := by
  ext k; simp [done]
theorem todo_end : todo P 15 = ∅ := by
  ext k
  have := k.isLt
  simp only [todo, Finset.mem_filter, Finset.notMem_empty, iff_false, not_and]
  intro _ h; omega
theorem done_end : done P 15 = Finset.univ.filter P := by
  ext k
  have := k.isLt
  simp only [done, Finset.mem_filter]
  constructor
  · rintro ⟨h, _, hk⟩; exact ⟨h, hk⟩
  · rintro ⟨h, hk⟩; exact ⟨h, by omega, hk⟩

/-- `Φ` of what is left, `Ψ` of what is done. -/
def prog (n : ℕ) (Φ Ψ : Fin 15 → sProp 𝕄) : sProp 𝕄 := iprop(bigSep (todo P n) Φ ∗ bigSep (done P n) Ψ)

theorem prog_step {n : Fin 15} (hP : P n) (Φ Ψ : Fin 15 → sProp 𝕄) :
    prog P n.val Φ Ψ ⊢ iprop(Φ n ∗ (Ψ n -∗ prog P (n.val + 1) Φ Ψ)) := by
  unfold prog
  rw [todo_succ P hP, done_succ P hP, bs_insert (notMem_todo P n), bs_insert (notMem_done P n)]
  iintro ⟨⟨Ha, Hb⟩, Hc⟩
  isplitl [Ha]; · iexact Ha
  iintro Hd
  isplitl [Hb]; · iexact Hb
  isplitl [Hd]; · iexact Hd
  iexact Hc
theorem prog_skip {n : Fin 15} (hP : ¬ P n) (Φ Ψ : Fin 15 → sProp 𝕄) :
    prog P n.val Φ Ψ = prog P (n.val + 1) Φ Ψ := by
  unfold prog; rw [todo_skip P hP, done_skip P hP]
theorem prog_start (Φ Ψ : Fin 15 → sProp 𝕄) : bigSep (Finset.univ.filter P) Φ ⊢ prog P 0 Φ Ψ := by
  unfold prog; rw [todo_zero, done_zero, bigSep_empty]
  iintro H; isplitl [H]; · iexact H
  iempintro
theorem prog_end (Φ Ψ : Fin 15 → sProp 𝕄) : prog P 15 Φ Ψ ⊢ bigSep (Finset.univ.filter P) Ψ := by
  unfold prog; rw [todo_end, done_end, bigSep_empty]
  iintro ⟨-, H⟩; iexact H

/-- A sum over what is left, one index taken off. -/
theorem sum_todo {n : Fin 15} (hP : P n) (T : Fin 15 → CellTallies nD τ sig Unit) (O : CellTallies nD τ sig Unit) :
    (∑ k ∈ todo P n.val, T k) + O = ((∑ k ∈ todo P (n.val + 1), T k) + O) + T n := by
  rw [todo_succ P hP, Finset.sum_insert (notMem_todo P n), add_comm (T n), add_right_comm]

end Progress

/-- All fifteen indices. -/
abbrev all : Fin 15 → Prop := fun _ => True
theorem filter_all : Finset.univ.filter all = Finset.univ := Finset.filter_true_of_mem fun _ _ => trivial

abbrev 𝒱₀ : Variants := Variants.none

/-- What device `c` owes, whatever it has waited on. -/
def owesE (c : Dev nD) (O : CellTallies nD τ sig Unit) : sProp 𝕄 := iprop(∃ W, owes (c : Thread nD τ) O W)

/-- The weakest precondition of a stretch of device `c`'s body. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem WP_bind (c : Dev nD) {α β : Type} (p : Prog (TpuEff nD τ sig (Elt F) Λ₀ .tc) α)
    (k : α → Prog (TpuEff nD τ sig (Elt F) Λ₀ .tc) β) (Q : β → sProp 𝕄) : WP c (p >>= k) Q = WP c p fun a => WP c (k a) Q := wp_bind ..

theorem WP_pure (c : Dev nD) {α : Type} (a : α) (Q : α → sProp 𝕄) : Q a ⊢ WP c (pure a) Q := by
  show Q a ⊢ WP c (.ret a) Q
  unfold WP
  rw [wp_ret]
  iintro H; imodintro; iexact H

variable (A : Dev nD → CommC F) (Z : CommC F) (K : GSem nD τ sig → ℕ)

/-! ## Signals and the barrier -/

/-- What the signal of index `k` takes. -/
def sigTodo (c : Dev nD) (k : Fin 15) : sProp 𝕄 :=
  iprop(dutyTok ER (barCell (peer c k)) 0 k.rev ∗ reached ER (barCell (peer c k)) 0
    ∗ (∃ f, slotPt c k.rev f) ∗ reached ER (dmaCell c 1 k.rev) 0 ∗ reached ER (dmaCell c 3 k.rev) 0)

def SigSt (c : Dev nD) (n : ℕ) : sProp 𝕄 :=
  iprop(prog all n (sigTodo c) (fun _ => iprop(emp)) ∗ owesE c ((∑ k ∈ todo all n, tBar c k) + owesRs c))

theorem sig_step (c : Dev nD) (n : Fin 15) {dv : Dev nD} (hdv : dv = peer c n) {s : Sem sig} (hs : s = barS)
    {Q : PUnit → sProp 𝕄} :
    iprop(invs A Z K ∗ SigSt c n.val ∗ (SigSt c (n.val + 1) -∗ Q ⟨⟩)) ⊢ WP c (semSignalWord dv s 1#32) Q := by
  subst hdv; subst hs
  unfold SigSt owesE
  iintro ⟨#HI, ⟨Hp, ⟨%W, HO⟩⟩, Hk⟩
  ihave Hp2 := (prog_step all trivial _ _) $$ Hp
  icases Hp2 with ⟨Ht, Hp⟩
  unfold sigTodo
  icases Ht with ⟨Htok, #Hr, ⟨%f, Hs⟩, #Hr1, #Hr3⟩
  ihave #Hbar := (invs_bar A Z K (peer c n)) $$ HI
  unfold semSignalWord WP
  iapply (Rounds.wp_signal 𝒱₀ ER (exRd A Z) (c : Thread nD τ) none (dst := (peer c n : Thread nD τ)) (sem := barS) (r := 0) (d := n.rev)
      (k' := 1) (κ := K (barCell (peer c n)))
      (by rw [duties_bar]; exact Finset.mem_univ _) (amount_bar A Z (peer c n) n.rev) () ((∑ k ∈ todo all (n.val + 1), tBar c k) + owesRs c)
      (sum_todo all trivial (tBar c) (owesRs c)))
    $$ [HO Htok Hs]
  · isplitr; · iexact Hbar
    isplitl [HO]; · iexact HO
    isplitl [Htok]; · iexact Htok
    isplitl [Hs]
    · rw [payload_bar]; unfold barPay; rw [peer_rev]
      isplitl [Hs]; · iexists f; iexact Hs
      isplitr; · iexact Hr1
      iexact Hr3
    · iexact Hr
  iintro HO
  rw [wp_ret]; imodintro
  iapply Hk
  isplitl [Hp]
  · iapply Hp; iempintro
  · iexists W; iexact HO

/-- The wait for all fifteen peers: their slots come with the units. -/
theorem bar_wait (c : Dev nD) {s : Sem sig} (hs : s = barS) {Q : PUnit → sProp 𝕄} :
    iprop(invs A Z K ∗ levAts L lv ∗ SigSt c 15 ∗ cred (tallyAt (barCell c) () 15) ∗ atPos ER (barCell c) 0 ∅ 0
        ∗ ((owesE c (owesRs c) ∗ atPos ER (barCell c) 1 ∅ 0 ∗ bigSep Finset.univ fun k : Fin 15 => barPay (F := F) c k) -∗ Q ⟨⟩))
      ⊢ WP c (semWaitWord s 15#32) Q := by
  subst hs
  unfold SigSt owesE
  iintro ⟨#HI, #Hlev, ⟨-, ⟨%W, HO⟩⟩, Hc, Hat, Hk⟩
  rw [todo_end, Finset.sum_empty, zero_add]
  ihave #Hbar := (invs_bar A Z K c) $$ HI
  unfold semWaitWord WP
  iapply (Rounds.wp_wait_rest_token 𝒱₀ ER (exRd A Z) (c : Thread nD τ) none (κ := K (barCell c)) (k' := 15)
      (wpE_semWait_eq 𝒱₀ (c : Thread nD τ) none Set.univ) (Set.mem_univ _) () (O := owesRs c) (W := W) (R := 0) (m := 0) (T := ∅)
      ((Nat.zero_add 15).trans (expect_bar A Z c).symm)) $$ [Hc HO Hat]
  · isplitr; · iexact Hbar
    isplitl [Hc]; · iexact Hc
    isplitl [HO]; · iexact HO
    isplitr; · iapply (mayWait c (.reg barS) 1 (lv_bar c) (above_owesRs c)); iexact Hlev
    iexact Hat
  iintro ⟨HO, Hat, -, Hpay⟩
  rw [wp_ret]; imodintro
  iapply Hk
  isplitl [HO]; · iexists _; iexact HO
  isplitl [Hat]; · iexact Hat
  iapply (Entails.of_eq (rest_bar A Z c)); iexact Hpay

/-! ## Loads and stores -/

theorem load_step (c : Dev nD) {cs : CoreSpace} {s : Shape} {e : EltTy} {m : Memref sig .tc cs s e} {r : LoadRect s} {hl : m.view.LoadsAt r}
    {S : Finset (Idx (m.view.loc (c : Thread nD τ)))} {q : PosShare TreeShare} {f : Buf (Elt F) (m.view.loc (c : Thread nD τ))}
    (hS : m.view.setOn r.set ⊆ S) {Q : (r.shape.Idx → Elt F e) → sProp 𝕄} :
    iprop((m.view.loc (c : Thread nD τ) ↦[S]{q} f) ∗ ((m.view.loc (c : Thread nD τ) ↦[S]{q} f) -∗ Q (m.view.readAt (Elt F) r f)))
      ⊢ WP c (Prog.lift (.load m r hl)) Q := by
  unfold Prog.lift WP
  iintro ⟨H, Hk⟩
  iapply (wp_load 𝒱₀ (c : Thread nD τ) none Set.univ (m := m) hS) $$ H
  iintro H
  rw [wp_ret]; imodintro
  iapply Hk; iexact H

theorem store_step (c : Dev nD) {cs : CoreSpace} {s : Shape} {e : EltTy} {m : Memref sig .tc cs s e} {r : Rect s}
    {w : r.shape.Idx → Elt F e} {Mk : Finset r.shape.Idx} {hx : (m.access r).Stores Mk} {hm : Mk = Finset.univ ∨ ∀ a, r.stride a = 1}
    {S : Finset (Idx ((m.access r).loc (c : Thread nD τ)))} {f : Buf (Elt F) ((m.access r).loc (c : Thread nD τ))}
    (hS : (m.access r).setOn Mk ⊆ S) {Q : PUnit → sProp 𝕄} :
    iprop(((m.access r).loc (c : Thread nD τ) ↦[S]{fullShare} f)
        ∗ (((m.access r).loc (c : Thread nD τ) ↦[S]{fullShare} ((m.access r).write (Elt F) f w Mk)) -∗ Q ⟨⟩))
      ⊢ WP c (Prog.lift (.store m r w Mk hx hm)) Q := by
  unfold Prog.lift WP
  iintro ⟨H, Hk⟩
  iapply (wp_store 𝒱₀ (c : Thread nD τ) none Set.univ (m := m) (r := r) (Mk := Mk) hS) $$ H
  iintro H
  rw [wp_ret]; imodintro
  iapply Hk; iexact H

/-! ## The scatter's copies -/

/-- What the scatter copy of index `k` takes: the peer's slot, the two tokens, the own chunk it carries. -/
def rsTodo (c : Dev nD) (k : Fin 15) : sProp 𝕄 :=
  iprop((∃ f, slotPt (peer c k) k f) ∗ reached ER (dmaCell (peer c k) 1 k) 0 ∗ reached ER (dmaCell c 0 k) 0
    ∗ dutyTok ER (dmaCell c 0 k) 0 0 ∗ dutyTok ER (dmaCell (peer c k) 1 k) 0 0 ∗ chunkPt c (peer c k) fullShare (A c))

/-- The credit its wait will spend. -/
def sndDone (a : Fin 4) (c : Dev nD) (k : Fin 15) : sProp 𝕄 := cred (tallyAt (dmaCell c a k) () N)

/-- Before the copy of index `n` of a batch: `P` says which peers' chunks the batch covers. -/
def RsSt (c : Dev nD) (P : Fin 15 → Prop) [DecidablePred P] (O : CellTallies nD τ sig Unit) (n : ℕ) : sProp 𝕄 :=
  iprop(prog P n (rsTodo A c) (sndDone 0 c) ∗ owesE c ((∑ k ∈ todo P n, tRs c k) + O))

theorem rs_send (c : Dev nD) (P : Fin 15 → Prop) [DecidablePred P] (O : CellTallies nD τ sig Unit) (n : Fin 15) (hP : P n)
    {src dst : Memref sig .tc .vmem S16x512 .bf16} {dv : Dev nD} {sS sR : DmaSem sig}
    (hsrc : src = chunkM (peer c n)) (hdst : dst = slotM n) (hdv : dv = peer c n) (hsS : sS = dmaS 0 n) (hsR : sR = dmaS 1 n)
    {hsc : dst.view.ref.isScScratch = false}
    {w1 : src.view.WordExact} {w2 : dst.view.WordExact} {w3 : DmaTarget.Typed .vmem (.dma sR) (.remote (Dev.tc dv) dst (.dma sS) hsc)}
    {Q : PUnit → sProp 𝕄} :
    iprop(invs A Z K ∗ RsSt A c P O n.val ∗ (RsSt A c P O (n.val + 1) -∗ Q ⟨⟩))
      ⊢ WP c (Prog.lift (.enqueueDma src (.remote (Dev.tc dv) dst (.dma sS) hsc) (.dma sR) w1 w2 w3)) Q := by
  subst hsrc; subst hdst; subst hdv; subst hsS; subst hsR
  unfold RsSt owesE
  iintro ⟨#HI, ⟨Hp, ⟨%W, HO⟩⟩, Hk⟩
  ihave Hp2 := (prog_step P hP _ _) $$ Hp
  icases Hp2 with ⟨Ht, Hp⟩
  unfold rsTodo
  icases Ht with ⟨⟨%fd, Hd⟩, #Hr2, #Hr1, Ht1, Ht2, Hs⟩
  ihave #HIs := (invs_dma A Z K c 0 n) $$ HI
  ihave #HIr := (invs_dma A Z K (peer c n) 1 n) $$ HI
  unfold Prog.lift WP
  iapply (Rounds.wp_send_landing_pointsTo 𝒱₀ ER (exRd A Z) (c : Thread nD τ) none (c' := (peer c n : Thread nD τ))
      (src := chunkM (peer c n)) (dst := slotM n) (sS := .dma (dmaS 0 n)) (sem := .dma (dmaS 1 n)) (q := fullShare) (fs := A c)
      (κ₁ := K (dmaCell c 0 n)) (κ₂ := K (dmaCell (peer c n) 1 n)) (r₁ := 0) (r₂ := 0) (d₁ := 0) (d₂ := 0) (fd := fd)
      (by rw [duties_dma]; exact Finset.mem_singleton_self _) (by rw [duties_dma]; exact Finset.mem_singleton_self _)
      () () N rfl (amount_dma A Z c 0 n 0) (amount_dma A Z (peer c n) 1 n 0)
      ((∑ k ∈ todo P (n.val + 1), tRs c k) + O) (sum_todo P hP (tRs c) O) (W := W)
      (by rw [payload_dma]; exact Entails.of_eq rfl)
      (by
        rw [payload_dma]
        show _ ⊢ rsPay A (peer c n) n
        unfold rsPay
        rw [peer_rev]
        iintro ⟨Hd, Hs⟩
        isplitl [Hd]
        · iexists _
          isplitl [Hd]; · iexact Hd
          ipureintro
          exact View.read_write_univ _ _
        · iexists _; iexact Hs)) $$ [Hs Hd HO Ht1 Ht2]
  · isplitr; · iexact HIs
    isplitr; · iexact HIr
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]; imodintro
  iapply Hk
  isplitl [Hp Hc]
  · iapply Hp; unfold sndDone; iexact Hc
  · iexists W; iexact HO

/-- The copy of index `n` under its printed condition, which holds exactly when the batch covers the peer's chunk. -/
theorem rs_cond (c : Dev nD) (P : Fin 15 → Prop) [DecidablePred P] (O : CellTallies nD τ sig Unit) (n : Fin 15)
    {cnd : BitVec 1} (hcnd : cnd = 1#1 ↔ P n) {α : Type} {act : cnd = 1#1 → Prog (TpuEff nD τ sig (Elt F) Λ₀ .tc) PUnit}
    {jp : Prog (TpuEff nD τ sig (Elt F) Λ₀ .tc) α} {Q : α → sProp 𝕄}
    (hact : ∀ (h : cnd = 1#1) (Q' : PUnit → sProp 𝕄),
      iprop(invs A Z K ∗ RsSt A c P O n.val ∗ (RsSt A c P O (n.val + 1) -∗ Q' ⟨⟩)) ⊢ WP c (act h) Q') :
    iprop(invs A Z K ∗ RsSt A c P O n.val ∗ (RsSt A c P O (n.val + 1) -∗ WP c jp Q))
      ⊢ WP c (if h : cnd = 1#1 then (act h >>= fun _ => jp) else jp) Q := by
  by_cases h : cnd = 1#1
  · rw [dif_pos h, WP_bind]
    exact hact h (fun _ => WP c jp Q)
  · rw [dif_neg h]
    have hn : ¬ P n := fun hp => h (hcnd.mpr hp)
    unfold RsSt
    rw [prog_skip P hn, todo_skip P hn]
    iintro ⟨-, H, Hk⟩
    iapply Hk; iexact H

/-! ## Waits on the four arrays -/

/-- What the wait on cell `k` of array `a` takes, and what it leaves. -/
def waitTodo (a : Fin 4) (c : Dev nD) (k : Fin 15) : sProp 𝕄 :=
  iprop(cred (tallyAt (dmaCell c a k) () N) ∗ atPos ER (dmaCell c a k) 0 ∅ 0)
def waitDone (a : Fin 4) (c : Dev nD) (k : Fin 15) : sProp 𝕄 :=
  iprop(atPos ER (dmaCell c a k) 1 ∅ 0 ∗ dmaPay A Z c a.val k)

/-- Before the `n`-th wait on array `a`, taken in the order `ord`. -/
def WtSt (a : Fin 4) (c : Dev nD) (ord : Fin 15 → Fin 15) (O : CellTallies nD τ sig Unit) (n : ℕ) : sProp 𝕄 :=
  iprop(prog all n (fun i => waitTodo a c (ord i)) (fun i => waitDone A Z a c (ord i)) ∗ owesE c O)

theorem wait_step (a : Fin 4) (c : Dev nD) (ord : Fin 15 → Fin 15) {O : CellTallies nD τ sig Unit} (l : ℕ)
    (hl : ∀ k, lv (dmaCell c a k) () = l) (hO : Above l O) (n : Fin 15)
    {s1 s2 : Shape} {e1 e2 : EltTy} {src : Memref sig .tc .vmem s1 e1} {dst : Memref sig .tc .vmem s2 e2} {sem : DmaSem sig}
    (hs : sem = dmaS a (ord n)) (hN : dst.view.dmaCredit = N)
    {w1 : src.view.WordExact} {w2 : dst.view.WordExact} {Q : PUnit → sProp 𝕄} :
    iprop(invs A Z K ∗ levAts L lv ∗ WtSt A Z a c ord O n.val ∗ (WtSt A Z a c ord O (n.val + 1) -∗ Q ⟨⟩))
      ⊢ WP c (Prog.lift (.waitDma2 sem src dst w1 w2)) Q := by
  subst hs
  unfold WtSt owesE
  iintro ⟨#HI, #Hlev, ⟨Hp, ⟨%W, HO⟩⟩, Hk⟩
  ihave Hp2 := (prog_step all (n := n) trivial _ _) $$ Hp
  icases Hp2 with ⟨Ht, Hp⟩
  unfold waitTodo
  icases Ht with ⟨Hc, Hat⟩
  ihave #HIc := (invs_dma A Z K c a (ord n)) $$ HI
  unfold Prog.lift WP
  iapply (Rounds.wp_wait_rest_token 𝒱₀ ER (exRd A Z) (c : Thread nD τ) none (κ := K (dmaCell c a (ord n))) (k' := dst.view.dmaCredit)
      (wpE_waitDma2_eq 𝒱₀ (c : Thread nD τ) none Set.univ) (Set.mem_univ _) () (O := O) (W := W) (R := 0) (m := 0) (T := ∅)
      (by rw [Nat.zero_add, hN, expect_dma])) $$ [Hc HO Hat]
  · rw [hN]
    isplitr; · iexact HIc
    isplitl [Hc]; · iexact Hc
    isplitl [HO]; · iexact HO
    isplitr; · iapply (mayWait c (.dma (dmaS a (ord n))) l (hl _) hO); iexact Hlev
    iexact Hat
  iintro ⟨HO, Hat, -, Hpay⟩
  rw [wp_ret]; imodintro
  iapply Hk
  isplitl [Hp Hat Hpay]
  · iapply Hp
    unfold waitDone
    isplitl [Hat]; · iexact Hat
    iapply (Entails.of_eq (rest_dma A Z c a (ord n))); iexact Hpay
  · iexists _; iexact HO

/-! ## Reading a filled slot -/

/-- What slot `k` of device `c` holds once filled: chunk `c` of the sender's partial product. -/
def slotVal (c : Dev nD) (k : Fin 15) : S1x16x512.Idx → Elt F .bf16 := fun i =>
  (chunkM c).view.read (Elt F) (A (peer c k.rev)) ((Shape.reshapeEquiv squeezes_S1x16x512_S16x512.numel_eq).symm i)

theorem slot_read (k : Fin 15) (f : StageC F) (g : S16x512.Idx → Elt F .bf16) (h : (slotM k).view.read (Elt F) f = g) :
    (stageM.view.slice (slotR k)).read (Elt F) f = fun i => g ((Shape.reshapeEquiv squeezes_S1x16x512_S16x512.numel_eq).symm i) := by
  subst h
  funext i
  show f ((slotR k).emb i) = f ((slotR k).emb (Shape.reshapeEquiv squeezes_S1x16x512_S16x512.numel_eq
    ((Shape.reshapeEquiv squeezes_S1x16x512_S16x512.numel_eq).symm i)))
  rw [Equiv.apply_symm_apply]

theorem slot_sub (k : Fin 15) : stageM.view.setOn (slotR k).toLoadRect.set ⊆ (slotM k).view.set := by
  rw [slotM_set, ← slotR_set]
  have h : (stageM.view.slice (slotR k)).set = stageM.view.setOn (slotR k).toLoadRect.set := View.set_slice ..
  rw [← h, View.set_slice_whole]

theorem load_slot (c : Dev nD) (ord : Fin 15 → Fin 15) {O : CellTallies nD τ sig Unit} (m : ℕ) (j : Fin 15) (hj : j.val < m)
    {off : Fin 3 → ℕ} {inb : ∀ a, off a + S1x16x512.size a ≤ S15x16x512.size a} (hoff : off = ![(ord j).val, 0, 0])
    {hl : stageM.view.LoadsAt (Rect.unit (s := S15x16x512) off S1x16x512.size inb).toLoadRect}
    {Q : (S1x16x512.Idx → Elt F .bf16) → sProp 𝕄} :
    iprop(WtSt A Z 1 c ord O m ∗ (WtSt A Z 1 c ord O m -∗ Q (slotVal A c (ord j))))
      ⊢ WP c (Prog.lift (.load stageM (Rect.unit (s := S15x16x512) off S1x16x512.size inb).toLoadRect hl)) Q := by
  subst hoff
  unfold WtSt prog
  have hmem : j ∈ done all m := by simp only [done, Finset.mem_filter, Finset.mem_univ, true_and]; exact ⟨hj, trivial⟩
  rw [bs_erase hmem]
  iintro ⟨⟨⟨Ht, ⟨Hj, Hd⟩⟩, HO⟩, Hk⟩
  unfold waitDone
  icases Hj with ⟨Hat, Hpay⟩
  ihave Hpay := (Entails.of_eq (show dmaPay A Z c (1 : Fin 4).val (ord j) = rsPay A c (ord j) from rfl)) $$ Hpay
  unfold rsPay
  icases Hpay with ⟨⟨%f, ⟨Hs, %hf⟩⟩, Hg⟩
  iapply (load_step c (m := stageM) (S := (slotM (ord j)).view.set) (q := fullShare) (f := f)
    (slot_sub (ord j)))
  isplitl [Hs]; · iexact Hs
  iintro Hs
  have hv : stageM.view.readAt (Elt F) (slotR (ord j)).toLoadRect f = slotVal A c (ord j) := slot_read (ord j) f _ hf
  rw [hv]
  iapply Hk
  isplitr [HO]
  · isplitl [Ht]; · iexact Ht
    isplitr [Hd]
    · isplitl [Hat]; · iexact Hat
      iapply (Entails.of_eq (show rsPay A c (ord j) = dmaPay A Z c (1 : Fin 4).val (ord j) from rfl))
      unfold rsPay
      isplitr [Hg]
      · iexists f
        isplitl [Hs]; · iexact Hs
        ipureintro; exact hf
      · iexact Hg
    · iexact Hd
  · iexact HO

/-! ## The gather's copies -/

/-- What the gather copy of index `k` takes: the own chunk's place on the peer, and the two tokens. -/
def agTodo (c : Dev nD) (k : Fin 15) : sProp 𝕄 :=
  iprop((∃ g, chunkPt (peer c k) c fullShare g) ∗ reached ER (dmaCell (peer c k) 3 k) 0 ∗ reached ER (dmaCell c 2 k) 0
    ∗ dutyTok ER (dmaCell c 2 k) 0 0 ∗ dutyTok ER (dmaCell (peer c k) 3 k) 0 0)

def AgSt (c : Dev nD) (n : ℕ) : sProp 𝕄 :=
  iprop(prog all n (agTodo c) (sndDone 2 c) ∗ chunkPt c c (restShare n) Z ∗ owesE c ((∑ k ∈ todo all n, tAg c k) + 0))

theorem ag_send (c : Dev nD) (n : Fin 15)
    {src dst : Memref sig .tc .vmem S16x512 .bf16} {dv : Dev nD} {sS sR : DmaSem sig}
    (hsrc : src = chunkM c) (hdst : dst = chunkM c) (hdv : dv = peer c n) (hsS : sS = dmaS 2 n) (hsR : sR = dmaS 3 n)
    {hsc : dst.view.ref.isScScratch = false}
    {w1 : src.view.WordExact} {w2 : dst.view.WordExact} {w3 : DmaTarget.Typed .vmem (.dma sR) (.remote (Dev.tc dv) dst (.dma sS) hsc)}
    {Q : PUnit → sProp 𝕄} :
    iprop(invs A Z K ∗ AgSt Z c n.val ∗ (AgSt Z c (n.val + 1) -∗ Q ⟨⟩))
      ⊢ WP c (Prog.lift (.enqueueDma src (.remote (Dev.tc dv) dst (.dma sS) hsc) (.dma sR) w1 w2 w3)) Q := by
  subst hsrc; subst hdst; subst hdv; subst hsS; subst hsR
  unfold AgSt owesE
  iintro ⟨#HI, ⟨Hp, Hsrc, ⟨%W, HO⟩⟩, Hk⟩
  ihave Hp2 := (prog_step all (n := n) trivial _ _) $$ Hp
  icases Hp2 with ⟨Ht, Hp⟩
  unfold agTodo
  icases Ht with ⟨⟨%fd, Hd⟩, #Hr2, #Hr1, Ht1, Ht2⟩
  ihave #HIs := (invs_dma A Z K c 2 n) $$ HI
  ihave #HIr := (invs_dma A Z K (peer c n) 3 n) $$ HI
  ihave Hsrc2 := (pointsTo_share (PosShare.mem_left_op_right (restShare n.val))).1 $$ Hsrc
  icases Hsrc2 with ⟨Hs, Hrest⟩
  unfold Prog.lift WP
  iapply (Rounds.wp_send_pointsTo 𝒱₀ ER (exRd A Z) (c : Thread nD τ) none (c' := (peer c n : Thread nD τ))
      (src := chunkM c) (dst := chunkM c) (sS := .dma (dmaS 2 n)) (sem := .dma (dmaS 3 n)) (q := lendShare n.val) (fs := Z)
      (κ₁ := K (dmaCell c 2 n)) (κ₂ := K (dmaCell (peer c n) 3 n)) (r₁ := 0) (r₂ := 0) (d₁ := 0) (d₂ := 0) (fd := fd)
      (by rw [duties_dma]; exact Finset.mem_singleton_self _) (by rw [duties_dma]; exact Finset.mem_singleton_self _)
      () () N rfl (amount_dma A Z c 2 n 0) (amount_dma A Z (peer c n) 3 n 0)
      ((∑ k ∈ todo all (n.val + 1), tAg c k) + 0) (sum_todo all trivial (tAg c) 0) (W := W)
      (by rw [payload_dma]; exact Entails.of_eq rfl)
      (by
        rw [payload_dma]
        show _ ⊢ agPay Z (peer c n) n
        unfold agPay
        rw [peer_rev]
        exact Entails.of_eq (pointsTo_congr fun i hi => write_read_self _ _ _ hi))) $$ [Hs Hd HO Ht1 Ht2]
  · isplitr; · iexact HIs
    isplitr; · iexact HIr
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]; imodintro
  iapply Hk
  isplitl [Hp Hc]
  · iapply Hp; unfold sndDone; iexact Hc
  isplitl [Hrest]; · iexact Hrest
  iexists W; iexact HO

end Cert.Exchange

end
-- ==== Proof.Chain.lean ====
/-
  The steps in the shape the printed parts use them: each takes the head of a sequence of operations and leaves the rest, with
  everything the step does not touch carried along as `R`. The addresses the parts compute are matched here against the peers,
  chunks, slots and semaphores of the protocol.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-! ## Addresses -/

theorem dev_peer {c : Dev nD} (n : Fin 15) {x j : ℕ} {hx : x < nD} (h : x = (c.val + j) % 16) (hj : j = n.val + 1) :
    (⟨x, hx⟩ : Dev nD) = peer c n := by
  apply Fin.ext
  show x = _
  rw [peer_val, h, hj, ← Nat.add_assoc]

theorem chunk_at (i : Fin 16) {off : Fin 2 → ℕ} {inb : ∀ a, off a + S16x512.size a ≤ S256x512.size a} {hu}
    (h : off = ![16 * i.val, 0]) : commM.slice (Rect.unit (s := S256x512) off S16x512.size inb) hu = chunkM i := by
  subst h; rfl

theorem chunk_peer {c : Dev nD} (n : Fin 15) {j : ℕ} {off : Fin 2 → ℕ} {inb : ∀ a, off a + S16x512.size a ≤ S256x512.size a} {hu}
    (h : off = ![16 * ((c.val + j) % 16), 0]) (hj : j = n.val + 1) :
    commM.slice (Rect.unit (s := S256x512) off S16x512.size inb) hu = chunkM (peer c n) := by
  apply chunk_at
  rw [h, peer_val, hj, ← Nat.add_assoc]

theorem slot_at (k : Fin 15) {off : Fin 3 → ℕ} {inb : ∀ a, off a + S1x16x512.size a ≤ S15x16x512.size a} {hu}
    (h : off = ![k.val, 0, 0]) :
    (stageM.slice (Rect.unit (s := S15x16x512) off S1x16x512.size inb) hu).squeeze S16x512 squeezes_S1x16x512_S16x512 = slotM k := by
  subst h; rfl

/-- The four semaphore arrays. -/
def semArr (a : Fin 4) : DmaSems sig S15 :=
  match a with
  | 0 => cc0_scratch4
  | 1 => cc0_scratch5
  | 2 => cc0_scratch6
  | 3 => cc0_scratch7

theorem sem_inb (k : Fin 15) : ∀ a, (![k.val] : Fin 1 → ℕ) a + S1.size a ≤ S15.size a := by revert k; decide

theorem sem_at (a : Fin 4) (k : Fin 15) :
    (((semArr a).slice (Rect.unit (s := S15) ![k.val] S1.size (sem_inb k))).squeeze S_ squeezes_S1_S_).sem = dmaS a k := by
  revert a k; decide +kernel

variable (A : Dev nD → CommC F) (Z : CommC F) (K : GSem nD τ sig → ℕ)

/-- What every step may use and none consumes: the invariants and the levels. -/
def know : sProp 𝕄 := iprop(invs A Z K ∗ levAts L lv)

instance know_persistent : BI.Persistent (know A Z K) := by unfold know; infer_instance

section Chain

theorem sig_bind {c : Dev nD} {α : Type} {k : PUnit → Prog (TpuEff nD τ sig (Elt F) Λ₀ .tc) α} {Φ : α → sProp 𝕄} {R : sProp 𝕄} (n : Fin 15) {dv : Dev nD} (hdv : dv = peer c n) {s : Sem sig} (hs : s = barS)
    (h : iprop(know A Z K ∗ SigSt c (n.val + 1) ∗ R) ⊢ WP c (k ⟨⟩) Φ) :
    iprop(know A Z K ∗ SigSt c n.val ∗ R) ⊢ WP c (semSignalWord dv s 1#32 >>= k) Φ := by
  rw [WP_bind]
  iintro ⟨#HK, HS, HR⟩
  iapply (sig_step A Z K c n hdv hs (Q := fun x => WP c (k x) Φ))
  unfold know
  icases HK with ⟨#HI, #HL⟩
  isplitr; · iexact HI
  isplitl [HS]; · iexact HS
  iintro HS
  iapply h
  unfold know
  isplitr
  · isplitr; · iexact HI
    iexact HL
  isplitl [HS]; · iexact HS
  iexact HR

theorem bar_bind {c : Dev nD} {α : Type} {k : PUnit → Prog (TpuEff nD τ sig (Elt F) Λ₀ .tc) α} {Φ : α → sProp 𝕄} {R : sProp 𝕄} {s : Sem sig} (hs : s = barS)
    (h : iprop(know A Z K ∗ (owesE c (owesRs c) ∗ atPos ER (barCell c) 1 ∅ 0 ∗ bigSep Finset.univ fun k : Fin 15 => barPay (F := F) c k) ∗ R)
      ⊢ WP c (k ⟨⟩) Φ) :
    iprop(know A Z K ∗ (SigSt c 15 ∗ cred (tallyAt (barCell c) () 15) ∗ atPos ER (barCell c) 0 ∅ 0) ∗ R)
      ⊢ WP c (semWaitWord s 15#32 >>= k) Φ := by
  rw [WP_bind]
  iintro ⟨#HK, ⟨HS, Hc, Hat⟩, HR⟩
  iapply (bar_wait A Z K c hs (Q := fun x => WP c (k x) Φ))
  unfold know
  icases HK with ⟨#HI, #HL⟩
  isplitr; · iexact HI
  isplitr; · iexact HL
  isplitl [HS]; · iexact HS
  isplitl [Hc]; · iexact Hc
  isplitl [Hat]; · iexact Hat
  iintro HS
  iapply h
  unfold know
  isplitr
  · isplitr; · iexact HI
    iexact HL
  isplitl [HS]; · iexact HS
  iexact HR

/-- A scatter copy under its condition, and what follows it. -/
theorem rs_bind {c : Dev nD} {α : Type} {Φ : α → sProp 𝕄} {R : sProp 𝕄} (P : Fin 15 → Prop) [DecidablePred P] (O : CellTallies nD τ sig Unit) (n : Fin 15) {m : ℕ} (hm : m = n.val + 1)
    {cnd : BitVec 1} (hcnd : cnd = 1#1 ↔ P n)
    {src dst : cnd = 1#1 → Memref sig .tc .vmem S16x512 .bf16} {dv : cnd = 1#1 → Dev nD} {sS sR : cnd = 1#1 → DmaSem sig}
    {hsc : ∀ h, (dst h).view.ref.isScScratch = false}
    {w1 : ∀ h, (src h).view.WordExact} {w2 : ∀ h, (dst h).view.WordExact}
    {w3 : ∀ h, DmaTarget.Typed .vmem (.dma (sR h)) (.remote (Dev.tc (dv h)) (dst h) (.dma (sS h)) (hsc h))}
    (hsrc : ∀ h, src h = chunkM (peer c n)) (hdst : ∀ h, dst h = slotM n) (hdv : ∀ h, dv h = peer c n)
    (hsS : ∀ h, sS h = dmaS 0 n) (hsR : ∀ h, sR h = dmaS 1 n)
    {jp : Prog (TpuEff nD τ sig (Elt F) Λ₀ .tc) α}
    (h : iprop(know A Z K ∗ RsSt A c P O m ∗ R) ⊢ WP c jp Φ) :
    iprop(know A Z K ∗ RsSt A c P O n.val ∗ R)
      ⊢ WP c (if hc : cnd = 1#1 then
          (Prog.lift (.enqueueDma (src hc) (.remote (Dev.tc (dv hc)) (dst hc) (.dma (sS hc)) (hsc hc)) (.dma (sR hc)) (w1 hc) (w2 hc) (w3 hc))
            >>= fun _ => jp) else jp) Φ := by
  subst hm
  iintro ⟨#HK, HS, HR⟩
  iapply (rs_cond A Z K c P O n hcnd
    (act := fun hc => Prog.lift (.enqueueDma (src hc) (.remote (Dev.tc (dv hc)) (dst hc) (.dma (sS hc)) (hsc hc)) (.dma (sR hc)) (w1 hc) (w2 hc) (w3 hc)))
    (fun hc Q' => rs_send A Z K c P O n (hcnd.mp hc) (hsrc hc) (hdst hc) (hdv hc) (hsS hc) (hsR hc)))
  unfold know
  icases HK with ⟨#HI, #HL⟩
  isplitr; · iexact HI
  isplitl [HS]; · iexact HS
  iintro HS
  iapply h
  unfold know
  isplitr
  · isplitr; · iexact HI
    iexact HL
  isplitl [HS]; · iexact HS
  iexact HR

theorem wait_bind {c : Dev nD} {α : Type} {k : PUnit → Prog (TpuEff nD τ sig (Elt F) Λ₀ .tc) α} {Φ : α → sProp 𝕄} {R : sProp 𝕄} (a : Fin 4) (ord : Fin 15 → Fin 15) {O : CellTallies nD τ sig Unit} (l : ℕ)
    (hl : ∀ k, lv (dmaCell c a k) () = l) (hO : Above l O) (n : Fin 15) {m : ℕ} (hm : m = n.val + 1)
    {s1 s2 : Shape} {e1 e2 : EltTy} {src : Memref sig .tc .vmem s1 e1} {dst : Memref sig .tc .vmem s2 e2} {sem : DmaSem sig}
    (hs : sem = dmaS a (ord n)) (hN : dst.view.dmaCredit = N)
    {w1 : src.view.WordExact} {w2 : dst.view.WordExact}
    (h : iprop(know A Z K ∗ WtSt A Z a c ord O m ∗ R) ⊢ WP c (k ⟨⟩) Φ) :
    iprop(know A Z K ∗ WtSt A Z a c ord O n.val ∗ R)
      ⊢ WP c (Prog.lift (.waitDma2 sem src dst w1 w2) >>= k) Φ := by
  subst hm
  rw [WP_bind]
  iintro ⟨#HK, HS, HR⟩
  iapply (wait_step A Z K a c ord l hl hO n hs hN (Q := fun x => WP c (k x) Φ))
  unfold know
  icases HK with ⟨#HI, #HL⟩
  isplitr; · iexact HI
  isplitr; · iexact HL
  isplitl [HS]; · iexact HS
  iintro HS
  iapply h
  unfold know
  isplitr
  · isplitr; · iexact HI
    iexact HL
  isplitl [HS]; · iexact HS
  iexact HR

theorem slot_bind {c : Dev nD} {α : Type} {Φ : α → sProp 𝕄} {R : sProp 𝕄} (ord : Fin 15 → Fin 15) {O : CellTallies nD τ sig Unit} (m : ℕ) (j : Fin 15) (hj : j.val < m)
    {off : Fin 3 → ℕ} {inb : ∀ a, off a + S1x16x512.size a ≤ S15x16x512.size a} (hoff : off = ![(ord j).val, 0, 0])
    {hl : stageM.view.LoadsAt (Rect.unit (s := S15x16x512) off S1x16x512.size inb).toLoadRect}
    {k : (S1x16x512.Idx → Elt F .bf16) → Prog (TpuEff nD τ sig (Elt F) Λ₀ .tc) α}
    (h : iprop(know A Z K ∗ WtSt A Z 1 c ord O m ∗ R) ⊢ WP c (k (slotVal A c (ord j))) Φ) :
    iprop(know A Z K ∗ WtSt A Z 1 c ord O m ∗ R)
      ⊢ WP c (Prog.lift (.load stageM (Rect.unit (s := S15x16x512) off S1x16x512.size inb).toLoadRect hl) >>= k) Φ := by
  rw [WP_bind]
  iintro ⟨HK, HS, HR⟩
  iapply (load_slot A Z c ord m j hj hoff (Q := fun x => WP c (k x) Φ))
  isplitl [HS]; · iexact HS
  iintro HS
  iapply h
  isplitl [HK]; · iexact HK
  isplitl [HS]; · iexact HS
  iexact HR

theorem ag_bind {c : Dev nD} {α : Type} {k : PUnit → Prog (TpuEff nD τ sig (Elt F) Λ₀ .tc) α} {Φ : α → sProp 𝕄} {R : sProp 𝕄} (n : Fin 15) {m : ℕ} (hm : m = n.val + 1)
    {src dst : Memref sig .tc .vmem S16x512 .bf16} {dv : Dev nD} {sS sR : DmaSem sig}
    (hsrc : src = chunkM c) (hdst : dst = chunkM c) (hdv : dv = peer c n) (hsS : sS = dmaS 2 n) (hsR : sR = dmaS 3 n)
    {hsc : dst.view.ref.isScScratch = false}
    {w1 : src.view.WordExact} {w2 : dst.view.WordExact} {w3 : DmaTarget.Typed .vmem (.dma sR) (.remote (Dev.tc dv) dst (.dma sS) hsc)}
    (h : iprop(know A Z K ∗ AgSt Z c m ∗ R) ⊢ WP c (k ⟨⟩) Φ) :
    iprop(know A Z K ∗ AgSt Z c n.val ∗ R)
      ⊢ WP c (Prog.lift (.enqueueDma src (.remote (Dev.tc dv) dst (.dma sS) hsc) (.dma sR) w1 w2 w3) >>= k) Φ := by
  subst hm
  rw [WP_bind]
  iintro ⟨#HK, HS, HR⟩
  iapply (ag_send A Z K c n hsrc hdst hdv hsS hsR (Q := fun x => WP c (k x) Φ))
  unfold know
  icases HK with ⟨#HI, #HL⟩
  isplitr; · iexact HI
  isplitl [HS]; · iexact HS
  iintro HS
  iapply h
  unfold know
  isplitr
  · isplitr; · iexact HI
    iexact HL
  isplitl [HS]; · iexact HS
  iexact HR

end Chain

theorem load_bind (c : Dev nD) {cs : CoreSpace} {s : Shape} {e : EltTy} {m : Memref sig .tc cs s e} {r : LoadRect s} {hl : m.view.LoadsAt r}
    {S : Finset (Idx (m.view.loc (c : Thread nD τ)))} {q : PosShare TreeShare} {f : Buf (Elt F) (m.view.loc (c : Thread nD τ))}
    (hS : m.view.setOn r.set ⊆ S) {α : Type} {k : (r.shape.Idx → Elt F e) → Prog (TpuEff nD τ sig (Elt F) Λ₀ .tc) α} {Q : α → sProp 𝕄} :
    iprop((m.view.loc (c : Thread nD τ) ↦[S]{q} f) ∗ ((m.view.loc (c : Thread nD τ) ↦[S]{q} f) -∗ WP c (k (m.view.readAt (Elt F) r f)) Q))
      ⊢ WP c (Prog.lift (.load m r hl) >>= k) Q := by
  rw [WP_bind]; exact load_step (F := F) c hS (Q := fun x => WP c (k x) Q)

theorem store_bind (c : Dev nD) {cs : CoreSpace} {s : Shape} {e : EltTy} {m : Memref sig .tc cs s e} {r : Rect s}
    {w : r.shape.Idx → Elt F e} {Mk : Finset r.shape.Idx} {hx : (m.access r).Stores Mk} {hm : Mk = Finset.univ ∨ ∀ a, r.stride a = 1}
    {S : Finset (Idx ((m.access r).loc (c : Thread nD τ)))} {f : Buf (Elt F) ((m.access r).loc (c : Thread nD τ))}
    (hS : (m.access r).setOn Mk ⊆ S) {α : Type} {k : PUnit → Prog (TpuEff nD τ sig (Elt F) Λ₀ .tc) α} {Q : α → sProp 𝕄} :
    iprop(((m.access r).loc (c : Thread nD τ) ↦[S]{fullShare} f)
        ∗ (((m.access r).loc (c : Thread nD τ) ↦[S]{fullShare} ((m.access r).write (Elt F) f w Mk)) -∗ WP c (k ⟨⟩) Q))
      ⊢ WP c (Prog.lift (.store m r w Mk hx hm) >>= k) Q := by
  rw [WP_bind]; exact store_step (F := F) c hS (Q := fun x => WP c (k x) Q)

end Cert.Exchange

end
-- ==== Proof.Values.lean ====
/-
  What device `c`'s body computes, as functions of what its five input windows hold: the projected queries, the block mask, the
  eight head outputs (two batches, four heads), the context, the partial product and its rounding; then the chunk it reduces and
  the product every device ends with. With them, what the stores of a batch leave in the context buffer.
-/
module

public import proofs.«01_k».proof.Proof.Chain
public import Idealize.ShloMosaic.Lib.ValueIdxCore

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-! ## The windows and their contents -/

abbrev xM : Memref sig .tc .vmem S2x128x512 .f32 := Memref.whole cc0_stg0_0
abbrev wqM : Memref sig .tc .vmem S512x256 .f32 := Memref.whole cc0_stg1_0
abbrev kM : Memref sig .tc .vmem S2x4x128x64 .f32 := Memref.whole cc0_stg2_0
abbrev vM : Memref sig .tc .vmem S2x4x128x64 .f32 := Memref.whole cc0_stg3_0
abbrev woM : Memref sig .tc .vmem S256x512 .f32 := Memref.whole cc0_stg4_0
abbrev outM : Memref sig .tc .vmem S2x128x512 .f32 := Memref.whole cc0_stg5_0
abbrev accM : Memref sig .tc .vmem S256x512 .f32 := Memref.whole cc0_scratch0
abbrev ctxM : Memref sig .tc .vmem S256x256 .f32 := Memref.whole cc0_scratch1

/-- The five input windows of one device. -/
structure Ins (F : FTy → Type) where
  x : Vec F S2x128x512 .f32
  wq : Vec F S512x256 .f32
  k : Vec F S2x4x128x64 .f32
  v : Vec F S2x4x128x64 .f32
  wo : Vec F S256x512 .f32

/-- A whole buffer of device `c`. -/
abbrev wholePt {cs : CoreSpace} {s : Shape} {e : EltTy} (c : Dev nD) (m : Memref sig .tc cs s e) (f : Buf (Elt F) (m.view.loc (c : Thread nD τ))) :
    sProp 𝕄 := m.view.loc (c : Thread nD τ) ↦[Finset.univ]{fullShare} f

/-- The input windows, filled. -/
def insPt (c : Dev nD) (D : Ins F) : sProp 𝕄 :=
  iprop(wholePt c xM D.x ∗ wholePt c wqM D.wq ∗ wholePt c kM D.k ∗ wholePt c vM D.v ∗ wholePt c woM D.wo)

/-! ## One batch -/

theorem head_inb (b : Fin 2) (h : Fin 4) : ∀ a, (![b.val, h.val, 0, 0] : Fin 4 → ℕ) a + S1x1x128x64.size a ≤ S2x4x128x64.size a := by
  revert b h; decide

/-- One head of one batch of the keys, or of the values. -/
def headOf (f : Vec F S2x4x128x64 .f32) (b : Fin 2) (h : Fin 4) : Vec F S1x1x128x64 .f32 :=
  kM.view.readAt (Elt F) (Rect.unit (s := S2x4x128x64) ![b.val, h.val, 0, 0] S1x1x128x64.size (head_inb b h)).toLoadRect f

/-- The queries, projected. -/
def qV (D : Ins F) : FVec F S256x256 .f32 := k0_pay1 D.x D.wq
/-- What is added to the scores: zero, or the mask. -/
def maskV : FVec F S128x128 .f32 :=
  k0_pay5 (iota .tc S128x128 32 [0] iota_S128x128_d0_w32) 64#32 k0_pay2 k0_pay3 k0_pay4

/-- The output of head `h` of batch `b`. -/
def headV (D : Ins F) (b : Fin 2) (h : Fin 4) : FVec F S128x64 .f32 :=
  match b, h with
  | 0, 0 => k0_pay7 maskV (k0_pay6 (qV D)) (headOf D.k 0 0) (headOf D.v 0 0)
  | 0, 1 => k0_pay9 (k0_pay8 (qV D) maskV (headOf D.k 0 1) (headOf D.v 0 1))
  | 0, 2 => k0_pay10 (qV D) maskV (headOf D.k 0 2) (headOf D.v 0 2)
  | 0, 3 => k0_pay14 (k0_pay11 (headOf D.v 0 3)) (k0_pay12 (qV D) maskV (headOf D.k 0 3)) (k0_pay13 (qV D) maskV (headOf D.k 0 3))
  | 1, 0 => k0_pay17 (qV D) maskV (headOf D.k 1 0) (headOf D.v 1 0)
  | 1, 1 => k0_pay20 maskV (k0_pay18 (headOf D.v 1 1)) (k0_pay19 (qV D) (headOf D.k 1 1))
  | 1, 2 => k0_pay21 (qV D) maskV (headOf D.k 1 2) (headOf D.v 1 2)
  | 1, 3 => k0_pay24 maskV (k0_pay22 (qV D)) (k0_pay23 (headOf D.k 1 3)) (headOf D.v 1 3)

/-- The context of batch `b`: its four heads side by side. -/
def ctxV (D : Ins F) (b : Fin 2) : Vec F S128x256 .f32 := fun i =>
  headV D b ⟨(i 1).val / 64, by have := ValueIdx.idx2_lt1 i; omega⟩
    (ValueIdx.ix2 ⟨(i 0).val, ValueIdx.idx2_lt0 i⟩ ⟨(i 1).val % 64, Nat.mod_lt _ (by decide)⟩)

/-- The partial product's rows of batch `b`. -/
def accH (D : Ins F) (b : Fin 2) : FVec F S128x512 .f32 :=
  match b with
  | 0 => k0_pay15 (ctxV D 0) D.wo
  | 1 => k0_pay25 (ctxV D 1) D.wo
/-- The same, rounded to be sent. -/
def commH (D : Ins F) (b : Fin 2) : FVec F S128x512 .bf16 :=
  match b with
  | 0 => k0_pay16 (accH D 0)
  | 1 => k0_pay26 (accH D 1)

/-- Two halves of 128 rows, one above the other. -/
def stack {α : Type} (h : Fin 2 → S128x512.Idx → α) : S256x512.Idx → α := fun i =>
  h ⟨(i 0).val / 128, by have := ValueIdx.idx2_lt0 i; omega⟩
    (ValueIdx.ix2 ⟨(i 0).val % 128, Nat.mod_lt _ (by decide)⟩ ⟨(i 1).val, ValueIdx.idx2_lt1 i⟩)

/-- The partial product, whole, and what is sent of it. -/
def accV (D : Ins F) : Vec F S256x512 .f32 := stack (accH D)
def commV (D : Ins F) : Vec F S256x512 .bf16 := stack (commH D)

/-! ## The exchange -/

/-- Rows `16 c … 16 c + 15` of a whole product. -/
def rowsOf (f : Vec F S256x512 .f32) (c : Fin 16) : Vec F S16x512 .f32 :=
  accM.view.readAt (Elt F) (Rect.unit (s := S256x512) ![16 * c.val, 0] S16x512.size (chunk_inb c)).toLoadRect f

/-- The chunk of the product that device `c` reduces: its own rows and those of its fifteen peers, in the order of the waits. -/
def redV (D : Dev nD → Ins F) (c : Dev nD) : FVec F S16x512 .bf16 :=
  let s : Fin 15 → Vec F S1x16x512 .bf16 := slotVal (fun d => commV (D d)) c
  k0_pay34 (k0_pay33 (k0_pay32 (k0_pay31 (k0_pay29 (k0_pay28 (k0_pay27 (rowsOf (accV (D c)) c) (s 0)) (s 2) (s 3) (s 11)) (s 12) (s 14))
    (k0_pay30 (s 4)) (s 7) (s 10)) (s 1) (s 13) (s 6)) (s 8) (s 5)) (s 9)

/-- The product every device ends with. -/
def prodV (D : Dev nD → Ins F) : Vec F S256x512 .bf16 := fun i =>
  redV D ⟨(i 0).val / 16, by have := ValueIdx.idx2_lt0 i; show _ < 16; omega⟩
    (ValueIdx.ix2 ⟨(i 0).val % 16, Nat.mod_lt _ (by decide)⟩ ⟨(i 1).val, ValueIdx.idx2_lt1 i⟩)

/-- What the body writes to its result window. -/
def outV (D : Dev nD → Ins F) : FVec F S2x128x512 .f32 := k0_pay35 (prodV D)

/-! ## What stores leave -/

theorem ctx_inb (b : Fin 2) (h : Fin 4) : ∀ a, (![128 * b.val, 64 * h.val] : Fin 2 → ℕ) a + S128x64.size a ≤ S256x256.size a := by
  revert b h; decide

/-- Storing head `h` of batch `b` into the context buffer. -/
def putHead (b : Fin 2) (h : Fin 4) (f : Vec F S256x256 .f32) (w : FVec F S128x64 .f32) : Vec F S256x256 .f32 :=
  (ctxM.access (Rect.unit (s := S256x256) ![128 * b.val, 64 * h.val] S128x64.size (ctx_inb b h))).write (Elt F) f w Finset.univ

theorem putHead_hit (b : Fin 2) (h : Fin 4) (f : Vec F S256x256 .f32) (w : FVec F S128x64 .f32) (x : S128x64.Idx) (y : S256x256.Idx)
    (h0 : (y 0).val = 128 * b.val + (x 0).val) (h1 : (y 1).val = 64 * h.val + (x 1).val) : putHead b h f w y = w x := by
  have e : y = (Rect.unit (s := S256x256) ![128 * b.val, 64 * h.val] S128x64.size (ctx_inb b h)).emb x := by
    funext a
    apply Fin.ext
    match a with
    | ⟨0, _⟩ => exact h0.trans (by show _ = 128 * b.val + 1 * (x 0).val; omega)
    | ⟨1, _⟩ => exact h1.trans (by show _ = 64 * h.val + 1 * (x 1).val; omega)
  rw [e]
  exact congrFun (View.read_write_univ (Val := Elt F) (v := ctxM.access (Rect.unit (s := S256x256) ![128 * b.val, 64 * h.val] S128x64.size (ctx_inb b h))) f w) x

theorem putHead_miss (b : Fin 2) (h : Fin 4) (f : Vec F S256x256 .f32) (w : FVec F S128x64 .f32) (y : S256x256.Idx)
    (hy : (y 1).val / 64 ≠ h.val) : putHead b h f w y = f y := by
  unfold putHead
  refine View.write_of_not_mem (Val := Elt F) (v := ctxM.access (Rect.unit (s := S256x256) ![128 * b.val, 64 * h.val] S128x64.size (ctx_inb b h))) f w Finset.univ ?_
  intro hm
  obtain ⟨x, -, hx⟩ := Finset.mem_map.mp hm
  apply hy
  rw [← hx]
  have hx1 := ValueIdx.idx2_lt1 x
  show (64 * h.val + 1 * (x 1).val) / 64 = h.val
  omega

theorem ctxRow_inb (b : Fin 2) : ∀ a, (![128 * b.val, 0] : Fin 2 → ℕ) a + S128x256.size a ≤ S256x256.size a := by revert b; decide

/-- The four heads of batch `b` stored, the batch's rows read are the four side by side. -/
theorem ctx_read (b : Fin 2) (f : Vec F S256x256 .f32) (w : Fin 4 → FVec F S128x64 .f32) :
    ctxM.view.readAt (Elt F) (Rect.unit (s := S256x256) ![128 * b.val, 0] S128x256.size (ctxRow_inb b)).toLoadRect
        (putHead b 3 (putHead b 2 (putHead b 1 (putHead b 0 f (w 0)) (w 1)) (w 2)) (w 3))
      = fun i => w ⟨(i 1).val / 64, by have := ValueIdx.idx2_lt1 i; omega⟩
          (ValueIdx.ix2 ⟨(i 0).val, ValueIdx.idx2_lt0 i⟩ ⟨(i 1).val % 64, Nat.mod_lt _ (by decide)⟩) := by
  funext i
  have hi1 := ValueIdx.idx2_lt1 i
  show putHead b 3 (putHead b 2 (putHead b 1 (putHead b 0 f (w 0)) (w 1)) (w 2)) (w 3)
    ((Rect.unit (s := S256x256) ![128 * b.val, 0] S128x256.size (ctxRow_inb b)).emb i) = _
  generalize hy : (Rect.unit (s := S256x256) ![128 * b.val, 0] S128x256.size (ctxRow_inb b)).emb i = y
  have y0 : (y 0).val = 128 * b.val + (i 0).val := by rw [← hy]; show 128 * b.val + 1 * (i 0).val = _; omega
  have y1 : (y 1).val = (i 1).val := by rw [← hy]; show 0 + 1 * (i 1).val = _; omega
  have hit : ∀ (h : Fin 4) (g : Vec F S256x256 .f32), (i 1).val / 64 = h.val → putHead b h g (w h) y
      = w ⟨(i 1).val / 64, by omega⟩ (ValueIdx.ix2 ⟨(i 0).val, ValueIdx.idx2_lt0 i⟩ ⟨(i 1).val % 64, Nat.mod_lt _ (by decide)⟩) := by
    intro h g hh
    rw [putHead_hit b h g (w h) (ValueIdx.ix2 ⟨(i 0).val, ValueIdx.idx2_lt0 i⟩ ⟨(i 1).val % 64, Nat.mod_lt _ (by decide)⟩) y y0
      (by show _ = 64 * h.val + (i 1).val % 64; omega)]
    exact congrFun (congrArg w (show h = ⟨(i 1).val / 64, by omega⟩ from Fin.ext hh.symm)) _
  have hlt : (i 1).val / 64 < 4 := by omega
  by_cases h3 : (i 1).val / 64 = 3
  · exact hit 3 _ h3
  rw [putHead_miss b 3 _ _ y (by rw [y1]; exact h3)]
  by_cases h2 : (i 1).val / 64 = 2
  · exact hit 2 _ h2
  rw [putHead_miss b 2 _ _ y (by rw [y1]; exact h2)]
  by_cases h1 : (i 1).val / 64 = 1
  · exact hit 1 _ h1
  rw [putHead_miss b 1 _ _ y (by rw [y1]; exact h1)]
  exact hit 0 _ (by show _ = 0; omega)

/-! ## Halves and chunks of a 256-row buffer -/

/-- Index `i` of batch `b`'s half, as an index of the whole. -/
theorem half_emb (b : Fin 2) (i : S128x512.Idx) : ((halfR b).emb i 0).val = 128 * b.val + (i 0).val ∧ ((halfR b).emb i 1).val = (i 1).val := by
  constructor
  · show 128 * b.val + 1 * (i 0).val = _; omega
  · show 0 + 1 * (i 1).val = _; omega

/-- On a half, the stack is that half. -/
theorem stack_half {α : Type} (h : Fin 2 → S128x512.Idx → α) (b : Fin 2) (i : S128x512.Idx) : stack h ((halfR b).emb i) = h b i := by
  have h0 := ValueIdx.idx2_lt0 i
  obtain ⟨e0, e1⟩ := half_emb b i
  unfold stack
  have eb : (⟨((halfR b).emb i 0).val / 128, by have := ValueIdx.idx2_lt0 ((halfR b).emb i); omega⟩ : Fin 2) = b := Fin.ext (by show _ / 128 = _; omega)
  have ei : (ValueIdx.ix2 ⟨((halfR b).emb i 0).val % 128, Nat.mod_lt _ (by decide)⟩ ⟨((halfR b).emb i 1).val, ValueIdx.idx2_lt1 ((halfR b).emb i)⟩ : S128x512.Idx) = i := by
    funext a
    apply Fin.ext
    match a with
    | ⟨0, _⟩ => show ((halfR b).emb i 0).val % 128 = (i 0).val; omega
    | ⟨1, _⟩ => exact e1
  rw [eb, ei]

end Cert.Exchange

end
-- ==== Proof.Compute.lean ====
/-
  The two batches' computation, operation by operation. The state of a batch is the five input windows, the context buffer, and
  the batch's half of the accumulator and of the communication buffer; each lemma takes one load or store off the head of a
  sequence and says what the state is after it.
-/
module

public import proofs.«01_k».proof.Proof.Values

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-- A half of device `c`'s accumulator, of its communication buffer. -/
abbrev accHalf (c : Dev nD) (b : Fin 2) (f : Vec F S256x512 .f32) : sProp 𝕄 :=
  accM.view.loc (c : Thread nD τ) ↦[halfSet b]{fullShare} f
abbrev commHalf (c : Dev nD) (b : Fin 2) (f : CommC F) : sProp 𝕄 :=
  commM.view.loc (c : Thread nD τ) ↦[halfSet b]{fullShare} f

/-- What a batch computes on. -/
def CSt (c : Dev nD) (D : Ins F) (b : Fin 2) (fx : Vec F S256x256 .f32) (fa : Vec F S256x512 .f32) (fm : Vec F S256x512 .bf16) : sProp 𝕄 :=
  iprop(insPt c D ∗ wholePt c ctxM fx ∗ accHalf c b fa ∗ commHalf c b fm)

/-! ## Index sets and contents of a half -/

theorem acc_load_sub (b : Fin 2) {off : Fin 2 → ℕ} {inb : ∀ a, off a + S128x512.size a ≤ S256x512.size a} (h : off = ![128 * b.val, 0]) :
    accM.view.setOn (Rect.unit (s := S256x512) off S128x512.size inb).toLoadRect.set ⊆ halfSet b := by
  subst h
  have h : (accM.view.slice (halfR b)).set = accM.view.setOn (halfR b).toLoadRect.set := View.set_slice ..
  rw [← half_set, ← h, View.set_slice_whole]
theorem acc_store_sub (b : Fin 2) {off : Fin 2 → ℕ} {inb : ∀ a, off a + S128x512.size a ≤ S256x512.size a} (h : off = ![128 * b.val, 0]) :
    (accM.access (Rect.unit (s := S256x512) off S128x512.size inb)).setOn Finset.univ ⊆ halfSet b := by
  subst h
  have h : (accM.access (halfR b)).set = (halfR b).set := View.set_slice_whole ..
  rw [← half_set, ← h]
  exact Finset.Subset.refl _
theorem comm_load_sub (b : Fin 2) {off : Fin 2 → ℕ} {inb : ∀ a, off a + S128x512.size a ≤ S256x512.size a} (h : off = ![128 * b.val, 0]) :
    commM.view.setOn (Rect.unit (s := S256x512) off S128x512.size inb).toLoadRect.set ⊆ halfSet b := by
  subst h
  have h : (commM.view.slice (halfR b)).set = commM.view.setOn (halfR b).toLoadRect.set := View.set_slice ..
  rw [← half_set, ← h, View.set_slice_whole]
theorem comm_store_sub (b : Fin 2) {off : Fin 2 → ℕ} {inb : ∀ a, off a + S128x512.size a ≤ S256x512.size a} (h : off = ![128 * b.val, 0]) :
    (commM.access (Rect.unit (s := S256x512) off S128x512.size inb)).setOn Finset.univ ⊆ halfSet b := by
  subst h
  have h : (commM.access (halfR b)).set = (halfR b).set := View.set_slice_whole ..
  rw [← half_set, ← h]
  exact Finset.Subset.refl _

theorem mem_half {b : Fin 2} {i : S256x512.Idx} (hi : i ∈ halfSet b) : ∃ x, (halfR b).emb x = i := by
  have h : (accM.access (halfR b)).set = (halfR b).set := View.set_slice_whole ..
  rw [← half_set, ← h] at hi
  obtain ⟨x, -, hx⟩ := Finset.mem_map.mp hi
  exact ⟨x, hx⟩

/-- A half of the accumulator overwritten. -/
def putAcc (b : Fin 2) (f : Vec F S256x512 .f32) (w : Vec F S128x512 .f32) : Vec F S256x512 .f32 :=
  (accM.access (halfR b)).write (Elt F) f w Finset.univ
theorem putAcc_emb (b : Fin 2) (f : Vec F S256x512 .f32) (w : Vec F S128x512 .f32) (x : S128x512.Idx) : putAcc b f w ((halfR b).emb x) = w x := by
  unfold putAcc
  exact View.write_emb_of_mem (v := accM.access (halfR b)) (Val := Elt F) f w (M := Finset.univ) (Finset.mem_univ x)
theorem putAcc_stack (b : Fin 2) (f : Vec F S256x512 .f32) (w : Fin 2 → Vec F S128x512 .f32) {i : S256x512.Idx} (hi : i ∈ halfSet b) :
    putAcc b f (w b) i = stack w i := by
  obtain ⟨x, hx⟩ := mem_half hi
  rw [← hx, putAcc_emb]
  exact (stack_half _ _ _).symm
theorem putAcc_at (b : Fin 2) {off : Fin 2 → ℕ} {inb : ∀ a, off a + S128x512.size a ≤ S256x512.size a} (h : off = ![128 * b.val, 0])
    (f : Vec F S256x512 .f32) (w : Vec F S128x512 .f32) :
    (accM.access (Rect.unit (s := S256x512) off S128x512.size inb)).write (Elt F) f w Finset.univ = putAcc b f w := by
  subst h
  rfl

/-- A half of the communication buffer overwritten. -/
def putComm (b : Fin 2) (f : Vec F S256x512 .bf16) (w : Vec F S128x512 .bf16) : Vec F S256x512 .bf16 :=
  (commM.access (halfR b)).write (Elt F) f w Finset.univ
theorem putComm_emb (b : Fin 2) (f : Vec F S256x512 .bf16) (w : Vec F S128x512 .bf16) (x : S128x512.Idx) : putComm b f w ((halfR b).emb x) = w x := by
  unfold putComm
  exact View.write_emb_of_mem (v := commM.access (halfR b)) (Val := Elt F) f w (M := Finset.univ) (Finset.mem_univ x)
theorem putComm_stack (b : Fin 2) (f : Vec F S256x512 .bf16) (w : Fin 2 → Vec F S128x512 .bf16) {i : S256x512.Idx} (hi : i ∈ halfSet b) :
    putComm b f (w b) i = stack w i := by
  obtain ⟨x, hx⟩ := mem_half hi
  rw [← hx, putComm_emb]
  exact (stack_half _ _ _).symm
theorem putComm_at (b : Fin 2) {off : Fin 2 → ℕ} {inb : ∀ a, off a + S128x512.size a ≤ S256x512.size a} (h : off = ![128 * b.val, 0])
    (f : Vec F S256x512 .bf16) (w : Vec F S128x512 .bf16) :
    (commM.access (Rect.unit (s := S256x512) off S128x512.size inb)).write (Elt F) f w Finset.univ = putComm b f w := by
  subst h
  rfl

theorem acc_get (D : Ins F) (b : Fin 2) {off : Fin 2 → ℕ} {inb : ∀ a, off a + S128x512.size a ≤ S256x512.size a} (h : off = ![128 * b.val, 0]) :
    accM.view.readAt (Elt F) (Rect.unit (s := S256x512) off S128x512.size inb).toLoadRect (accV D) = accH D b := by
  subst h
  funext x
  exact stack_half (accH D) b x

theorem putAcc_pt (c : Dev nD) (D : Ins F) (b : Fin 2) (f : Vec F S256x512 .f32) :
    accHalf c b (putAcc b f (accH D b)) = accHalf c b (accV D) := by
  refine pointsTo_congr ?_
  intro i hi
  unfold accV
  exact putAcc_stack b f (accH D) hi
theorem putComm_pt (c : Dev nD) (D : Ins F) (b : Fin 2) (f : Vec F S256x512 .bf16) :
    commHalf c b (putComm b f (commH D b)) = commHalf c b (commV D) := by
  refine pointsTo_congr ?_
  intro i hi
  unfold commV
  exact putComm_stack b f (commH D) hi

/-! ## The steps -/

section Steps

variable {c : Dev nD} {D : Ins F} {b : Fin 2} {fx : Vec F S256x256 .f32} {fa : Vec F S256x512 .f32} {fm : Vec F S256x512 .bf16}

/-- Read the activations. -/
theorem ld_x {α : Type} {Φ : α → sProp 𝕄} {R : sProp 𝕄} {off : Fin 3 → ℕ} {inb : ∀ a, off a + S2x128x512.size a ≤ S2x128x512.size a}
    (hoff : off = fun _ => 0) {hl : xM.view.LoadsAt (Rect.unit (s := S2x128x512) off S2x128x512.size inb).toLoadRect}
    {k : (S2x128x512.Idx → Elt F .f32) → Prog (TpuEff nD τ sig (Elt F) Λ₀ .tc) α}
    (h : iprop(CSt c D b fx fa fm ∗ R) ⊢ WP c (k D.x) Φ) :
    iprop(CSt c D b fx fa fm ∗ R) ⊢ WP c (Prog.lift (.load xM (Rect.unit (s := S2x128x512) off S2x128x512.size inb).toLoadRect hl) >>= k) Φ := by
  have hv : xM.view.readAt (Elt F) (Rect.unit (s := S2x128x512) off S2x128x512.size inb).toLoadRect D.x = D.x := by
    exact Memref.readAt_unit_zero (Elt F) cc0_stg0_0 hoff inb D.x
  unfold CSt insPt at h ⊢
  iintro ⟨⟨⟨H0, H1, H2, H3, H4⟩, Hx, Ha, Hm⟩, HR⟩
  iapply (load_bind c (m := xM) (S := Finset.univ) (f := D.x) (q := fullShare) (Finset.subset_univ _))
  isplitl [H0]; · iexact H0
  iintro H0
  rw [hv]
  iapply h
  isplitr [HR]
  · isplitr [Hx Ha Hm]
    · isplitl [H0]; · iexact H0
      isplitl [H1]; · iexact H1
      isplitl [H2]; · iexact H2
      isplitl [H3]; · iexact H3
      iexact H4
    isplitl [Hx]; · iexact Hx
    isplitl [Ha]; · iexact Ha
    iexact Hm
  · iexact HR

/-- Read the query weights. -/
theorem ld_wq {α : Type} {Φ : α → sProp 𝕄} {R : sProp 𝕄} {off : Fin 2 → ℕ} {inb : ∀ a, off a + S512x256.size a ≤ S512x256.size a}
    (hoff : off = fun _ => 0) {hl : wqM.view.LoadsAt (Rect.unit (s := S512x256) off S512x256.size inb).toLoadRect}
    {k : (S512x256.Idx → Elt F .f32) → Prog (TpuEff nD τ sig (Elt F) Λ₀ .tc) α}
    (h : iprop(CSt c D b fx fa fm ∗ R) ⊢ WP c (k D.wq) Φ) :
    iprop(CSt c D b fx fa fm ∗ R) ⊢ WP c (Prog.lift (.load wqM (Rect.unit (s := S512x256) off S512x256.size inb).toLoadRect hl) >>= k) Φ := by
  have hv : wqM.view.readAt (Elt F) (Rect.unit (s := S512x256) off S512x256.size inb).toLoadRect D.wq = D.wq := by
    exact Memref.readAt_unit_zero (Elt F) cc0_stg1_0 hoff inb D.wq
  unfold CSt insPt at h ⊢
  iintro ⟨⟨⟨H0, H1, H2, H3, H4⟩, Hx, Ha, Hm⟩, HR⟩
  iapply (load_bind c (m := wqM) (S := Finset.univ) (f := D.wq) (q := fullShare) (Finset.subset_univ _))
  isplitl [H1]; · iexact H1
  iintro H1
  rw [hv]
  iapply h
  isplitr [HR]
  · isplitr [Hx Ha Hm]
    · isplitl [H0]; · iexact H0
      isplitl [H1]; · iexact H1
      isplitl [H2]; · iexact H2
      isplitl [H3]; · iexact H3
      iexact H4
    isplitl [Hx]; · iexact Hx
    isplitl [Ha]; · iexact Ha
    iexact Hm
  · iexact HR

/-- Read a head of the keys. -/
theorem ld_k (b' : Fin 2) (h' : Fin 4) {α : Type} {Φ : α → sProp 𝕄} {R : sProp 𝕄} {off : Fin 4 → ℕ} {inb : ∀ a, off a + S1x1x128x64.size a ≤ S2x4x128x64.size a}
    (hoff : off = ![b'.val, h'.val, 0, 0]) {hl : kM.view.LoadsAt (Rect.unit (s := S2x4x128x64) off S1x1x128x64.size inb).toLoadRect}
    {k : (S1x1x128x64.Idx → Elt F .f32) → Prog (TpuEff nD τ sig (Elt F) Λ₀ .tc) α}
    (h : iprop(CSt c D b fx fa fm ∗ R) ⊢ WP c (k (headOf D.k b' h')) Φ) :
    iprop(CSt c D b fx fa fm ∗ R) ⊢ WP c (Prog.lift (.load kM (Rect.unit (s := S2x4x128x64) off S1x1x128x64.size inb).toLoadRect hl) >>= k) Φ := by
  have hv : kM.view.readAt (Elt F) (Rect.unit (s := S2x4x128x64) off S1x1x128x64.size inb).toLoadRect D.k = (headOf D.k b' h') := by
    subst hoff; rfl
  unfold CSt insPt at h ⊢
  iintro ⟨⟨⟨H0, H1, H2, H3, H4⟩, Hx, Ha, Hm⟩, HR⟩
  iapply (load_bind c (m := kM) (S := Finset.univ) (f := D.k) (q := fullShare) (Finset.subset_univ _))
  isplitl [H2]; · iexact H2
  iintro H2
  rw [hv]
  iapply h
  isplitr [HR]
  · isplitr [Hx Ha Hm]
    · isplitl [H0]; · iexact H0
      isplitl [H1]; · iexact H1
      isplitl [H2]; · iexact H2
      isplitl [H3]; · iexact H3
      iexact H4
    isplitl [Hx]; · iexact Hx
    isplitl [Ha]; · iexact Ha
    iexact Hm
  · iexact HR

/-- Read a head of the values. -/
theorem ld_v (b' : Fin 2) (h' : Fin 4) {α : Type} {Φ : α → sProp 𝕄} {R : sProp 𝕄} {off : Fin 4 → ℕ} {inb : ∀ a, off a + S1x1x128x64.size a ≤ S2x4x128x64.size a}
    (hoff : off = ![b'.val, h'.val, 0, 0]) {hl : vM.view.LoadsAt (Rect.unit (s := S2x4x128x64) off S1x1x128x64.size inb).toLoadRect}
    {k : (S1x1x128x64.Idx → Elt F .f32) → Prog (TpuEff nD τ sig (Elt F) Λ₀ .tc) α}
    (h : iprop(CSt c D b fx fa fm ∗ R) ⊢ WP c (k (headOf D.v b' h')) Φ) :
    iprop(CSt c D b fx fa fm ∗ R) ⊢ WP c (Prog.lift (.load vM (Rect.unit (s := S2x4x128x64) off S1x1x128x64.size inb).toLoadRect hl) >>= k) Φ := by
  have hv : vM.view.readAt (Elt F) (Rect.unit (s := S2x4x128x64) off S1x1x128x64.size inb).toLoadRect D.v = (headOf D.v b' h') := by
    subst hoff; rfl
  unfold CSt insPt at h ⊢
  iintro ⟨⟨⟨H0, H1, H2, H3, H4⟩, Hx, Ha, Hm⟩, HR⟩
  iapply (load_bind c (m := vM) (S := Finset.univ) (f := D.v) (q := fullShare) (Finset.subset_univ _))
  isplitl [H3]; · iexact H3
  iintro H3
  rw [hv]
  iapply h
  isplitr [HR]
  · isplitr [Hx Ha Hm]
    · isplitl [H0]; · iexact H0
      isplitl [H1]; · iexact H1
      isplitl [H2]; · iexact H2
      isplitl [H3]; · iexact H3
      iexact H4
    isplitl [Hx]; · iexact Hx
    isplitl [Ha]; · iexact Ha
    iexact Hm
  · iexact HR

/-- Read the output weights. -/
theorem ld_wo {α : Type} {Φ : α → sProp 𝕄} {R : sProp 𝕄} {off : Fin 2 → ℕ} {inb : ∀ a, off a + S256x512.size a ≤ S256x512.size a}
    (hoff : off = fun _ => 0) {hl : woM.view.LoadsAt (Rect.unit (s := S256x512) off S256x512.size inb).toLoadRect}
    {k : (S256x512.Idx → Elt F .f32) → Prog (TpuEff nD τ sig (Elt F) Λ₀ .tc) α}
    (h : iprop(CSt c D b fx fa fm ∗ R) ⊢ WP c (k D.wo) Φ) :
    iprop(CSt c D b fx fa fm ∗ R) ⊢ WP c (Prog.lift (.load woM (Rect.unit (s := S256x512) off S256x512.size inb).toLoadRect hl) >>= k) Φ := by
  have hv : woM.view.readAt (Elt F) (Rect.unit (s := S256x512) off S256x512.size inb).toLoadRect D.wo = D.wo := by
    exact Memref.readAt_unit_zero (Elt F) cc0_stg4_0 hoff inb D.wo
  unfold CSt insPt at h ⊢
  iintro ⟨⟨⟨H0, H1, H2, H3, H4⟩, Hx, Ha, Hm⟩, HR⟩
  iapply (load_bind c (m := woM) (S := Finset.univ) (f := D.wo) (q := fullShare) (Finset.subset_univ _))
  isplitl [H4]; · iexact H4
  iintro H4
  rw [hv]
  iapply h
  isplitr [HR]
  · isplitr [Hx Ha Hm]
    · isplitl [H0]; · iexact H0
      isplitl [H1]; · iexact H1
      isplitl [H2]; · iexact H2
      isplitl [H3]; · iexact H3
      iexact H4
    isplitl [Hx]; · iexact Hx
    isplitl [Ha]; · iexact Ha
    iexact Hm
  · iexact HR

/-- Read the context rows just written. -/
theorem ld_ctx (b' : Fin 2) {w : Vec F S128x256 .f32}
    (hw : ctxM.view.readAt (Elt F) (Rect.unit (s := S256x256) ![128 * b'.val, 0] S128x256.size (ctxRow_inb b')).toLoadRect fx = w) {α : Type} {Φ : α → sProp 𝕄} {R : sProp 𝕄} {off : Fin 2 → ℕ} {inb : ∀ a, off a + S128x256.size a ≤ S256x256.size a}
    (hoff : off = ![128 * b'.val, 0]) {hl : ctxM.view.LoadsAt (Rect.unit (s := S256x256) off S128x256.size inb).toLoadRect}
    {k : (S128x256.Idx → Elt F .f32) → Prog (TpuEff nD τ sig (Elt F) Λ₀ .tc) α}
    (h : iprop(CSt c D b fx fa fm ∗ R) ⊢ WP c (k w) Φ) :
    iprop(CSt c D b fx fa fm ∗ R) ⊢ WP c (Prog.lift (.load ctxM (Rect.unit (s := S256x256) off S128x256.size inb).toLoadRect hl) >>= k) Φ := by
  have hv : ctxM.view.readAt (Elt F) (Rect.unit (s := S256x256) off S128x256.size inb).toLoadRect fx = w := by
    subst hoff; exact hw
  unfold CSt insPt at h ⊢
  iintro ⟨⟨⟨H0, H1, H2, H3, H4⟩, Hx, Ha, Hm⟩, HR⟩
  iapply (load_bind c (m := ctxM) (S := Finset.univ) (f := fx) (q := fullShare) (Finset.subset_univ _))
  isplitl [Hx]; · iexact Hx
  iintro Hx
  rw [hv]
  iapply h
  isplitr [HR]
  · isplitr [Hx Ha Hm]
    · isplitl [H0]; · iexact H0
      isplitl [H1]; · iexact H1
      isplitl [H2]; · iexact H2
      isplitl [H3]; · iexact H3
      iexact H4
    isplitl [Hx]; · iexact Hx
    isplitl [Ha]; · iexact Ha
    iexact Hm
  · iexact HR

/-- A read of the context that nothing uses. -/
theorem dead_ctx {α : Type} {Φ : α → sProp 𝕄} {R : sProp 𝕄} {off : Fin 2 → ℕ} {inb : ∀ a, off a + S128x64.size a ≤ S256x256.size a}
    {hl : ctxM.view.LoadsAt (Rect.unit (s := S256x256) off S128x64.size inb).toLoadRect}
    {k : (S128x64.Idx → Elt F .f32) → Prog (TpuEff nD τ sig (Elt F) Λ₀ .tc) α}
    (h : ∀ v, iprop(CSt c D b fx fa fm ∗ R) ⊢ WP c (k v) Φ) :
    iprop(CSt c D b fx fa fm ∗ R) ⊢ WP c (Prog.lift (.load ctxM (Rect.unit (s := S256x256) off S128x64.size inb).toLoadRect hl) >>= k) Φ := by
  have h := h (ctxM.view.readAt (Elt F) (Rect.unit (s := S256x256) off S128x64.size inb).toLoadRect fx)
  unfold CSt insPt at h ⊢
  iintro ⟨⟨⟨H0, H1, H2, H3, H4⟩, Hx, Ha, Hm⟩, HR⟩
  iapply (load_bind c (m := ctxM) (S := Finset.univ) (f := fx) (q := fullShare) (Finset.subset_univ _))
  isplitl [Hx]; · iexact Hx
  iintro Hx
  iapply h
  isplitr [HR]
  · isplitr [Hx Ha Hm]
    · isplitl [H0]; · iexact H0
      isplitl [H1]; · iexact H1
      isplitl [H2]; · iexact H2
      isplitl [H3]; · iexact H3
      iexact H4
    isplitl [Hx]; · iexact Hx
    isplitl [Ha]; · iexact Ha
    iexact Hm
  · iexact HR

/-- Read the half of the accumulator just written. -/
theorem ld_acc {α : Type} {Φ : α → sProp 𝕄} {R : sProp 𝕄} {off : Fin 2 → ℕ} {inb : ∀ a, off a + S128x512.size a ≤ S256x512.size a}
    (hoff : off = ![128 * b.val, 0]) {hl : accM.view.LoadsAt (Rect.unit (s := S256x512) off S128x512.size inb).toLoadRect}
    {k : (S128x512.Idx → Elt F .f32) → Prog (TpuEff nD τ sig (Elt F) Λ₀ .tc) α}
    (h : iprop(CSt c D b fx (accV D) fm ∗ R) ⊢ WP c (k (accH D b)) Φ) :
    iprop(CSt c D b fx (accV D) fm ∗ R) ⊢ WP c (Prog.lift (.load accM (Rect.unit (s := S256x512) off S128x512.size inb).toLoadRect hl) >>= k) Φ := by
  have hv : accM.view.readAt (Elt F) (Rect.unit (s := S256x512) off S128x512.size inb).toLoadRect (accV D) = (accH D b) := by
    exact acc_get D b hoff
  unfold CSt insPt at h ⊢
  iintro ⟨⟨⟨H0, H1, H2, H3, H4⟩, Hx, Ha, Hm⟩, HR⟩
  iapply (load_bind c (m := accM) (S := halfSet b) (f := (accV D)) (q := fullShare) (acc_load_sub b hoff))
  isplitl [Ha]; · iexact Ha
  iintro Ha
  rw [hv]
  iapply h
  isplitr [HR]
  · isplitr [Hx Ha Hm]
    · isplitl [H0]; · iexact H0
      isplitl [H1]; · iexact H1
      isplitl [H2]; · iexact H2
      isplitl [H3]; · iexact H3
      iexact H4
    isplitl [Hx]; · iexact Hx
    isplitl [Ha]; · iexact Ha
    iexact Hm
  · iexact HR

/-- A read of the accumulator that nothing uses. -/
theorem dead_acc {α : Type} {Φ : α → sProp 𝕄} {R : sProp 𝕄} {off : Fin 2 → ℕ} {inb : ∀ a, off a + S128x512.size a ≤ S256x512.size a}
    (hoff : off = ![128 * b.val, 0]) {hl : accM.view.LoadsAt (Rect.unit (s := S256x512) off S128x512.size inb).toLoadRect}
    {k : (S128x512.Idx → Elt F .f32) → Prog (TpuEff nD τ sig (Elt F) Λ₀ .tc) α}
    (h : ∀ v, iprop(CSt c D b fx fa fm ∗ R) ⊢ WP c (k v) Φ) :
    iprop(CSt c D b fx fa fm ∗ R) ⊢ WP c (Prog.lift (.load accM (Rect.unit (s := S256x512) off S128x512.size inb).toLoadRect hl) >>= k) Φ := by
  have h := h (accM.view.readAt (Elt F) (Rect.unit (s := S256x512) off S128x512.size inb).toLoadRect fa)
  unfold CSt insPt at h ⊢
  iintro ⟨⟨⟨H0, H1, H2, H3, H4⟩, Hx, Ha, Hm⟩, HR⟩
  iapply (load_bind c (m := accM) (S := halfSet b) (f := fa) (q := fullShare) (acc_load_sub b hoff))
  isplitl [Ha]; · iexact Ha
  iintro Ha
  iapply h
  isplitr [HR]
  · isplitr [Hx Ha Hm]
    · isplitl [H0]; · iexact H0
      isplitl [H1]; · iexact H1
      isplitl [H2]; · iexact H2
      isplitl [H3]; · iexact H3
      iexact H4
    isplitl [Hx]; · iexact Hx
    isplitl [Ha]; · iexact Ha
    iexact Hm
  · iexact HR

/-- A read of the communication buffer that nothing uses. -/
theorem dead_comm {α : Type} {Φ : α → sProp 𝕄} {R : sProp 𝕄} {off : Fin 2 → ℕ} {inb : ∀ a, off a + S128x512.size a ≤ S256x512.size a}
    (hoff : off = ![128 * b.val, 0]) {hl : commM.view.LoadsAt (Rect.unit (s := S256x512) off S128x512.size inb).toLoadRect}
    {k : (S128x512.Idx → Elt F .bf16) → Prog (TpuEff nD τ sig (Elt F) Λ₀ .tc) α}
    (h : ∀ v, iprop(CSt c D b fx fa fm ∗ R) ⊢ WP c (k v) Φ) :
    iprop(CSt c D b fx fa fm ∗ R) ⊢ WP c (Prog.lift (.load commM (Rect.unit (s := S256x512) off S128x512.size inb).toLoadRect hl) >>= k) Φ := by
  have h := h (commM.view.readAt (Elt F) (Rect.unit (s := S256x512) off S128x512.size inb).toLoadRect fm)
  unfold CSt insPt at h ⊢
  iintro ⟨⟨⟨H0, H1, H2, H3, H4⟩, Hx, Ha, Hm⟩, HR⟩
  iapply (load_bind c (m := commM) (S := halfSet b) (f := fm) (q := fullShare) (comm_load_sub b hoff))
  isplitl [Hm]; · iexact Hm
  iintro Hm
  iapply h
  isplitr [HR]
  · isplitr [Hx Ha Hm]
    · isplitl [H0]; · iexact H0
      isplitl [H1]; · iexact H1
      isplitl [H2]; · iexact H2
      isplitl [H3]; · iexact H3
      iexact H4
    isplitl [Hx]; · iexact Hx
    isplitl [Ha]; · iexact Ha
    iexact Hm
  · iexact HR

/-- Write a head's output into the context. -/
theorem st_ctx (b' : Fin 2) (h' : Fin 4) {w : Vec F S128x64 .f32} {α : Type} {Φ : α → sProp 𝕄} {R : sProp 𝕄} {off : Fin 2 → ℕ} {inb : ∀ a, off a + S128x64.size a ≤ S256x256.size a}
    (hoff : off = ![128 * b'.val, 64 * h'.val]) {hx : (ctxM.access (Rect.unit (s := S256x256) off S128x64.size inb)).Stores Finset.univ} {hm : (Finset.univ : Finset (Rect.unit (s := S256x256) off S128x64.size inb).shape.Idx) = Finset.univ ∨ ∀ a, (Rect.unit (s := S256x256) off S128x64.size inb).stride a = 1}
    {k : PUnit → Prog (TpuEff nD τ sig (Elt F) Λ₀ .tc) α}
    (h : iprop(CSt c D b (putHead b' h' fx w) fa fm ∗ R) ⊢ WP c (k ⟨⟩) Φ) :
    iprop(CSt c D b fx fa fm ∗ R) ⊢ WP c (Prog.lift (.store ctxM (Rect.unit (s := S256x256) off S128x64.size inb) w Finset.univ hx hm) >>= k) Φ := by
  unfold CSt insPt at h ⊢
  iintro ⟨⟨⟨H0, H1, H2, H3, H4⟩, Hx, Ha, Hm⟩, HR⟩
  iapply (store_bind c (m := ctxM) (r := (Rect.unit (s := S256x256) off S128x64.size inb)) (S := Finset.univ) (f := fx) (Finset.subset_univ _))
  isplitl [Hx]; · iexact Hx
  iintro Hx
  rw [show (ctxM.access (Rect.unit (s := S256x256) off S128x64.size inb)).write (Elt F) fx w Finset.univ = putHead b' h' fx w by subst hoff; rfl]
  iapply h
  isplitr [HR]
  · isplitr [Hx Ha Hm]
    · isplitl [H0]; · iexact H0
      isplitl [H1]; · iexact H1
      isplitl [H2]; · iexact H2
      isplitl [H3]; · iexact H3
      iexact H4
    isplitl [Hx]; · iexact Hx
    isplitl [Ha]; · iexact Ha
    iexact Hm
  · iexact HR

/-- Write the batch's rows of the product. -/
theorem st_acc {w : Vec F S128x512 .f32} (hw : w = accH D b) {α : Type} {Φ : α → sProp 𝕄} {R : sProp 𝕄} {off : Fin 2 → ℕ} {inb : ∀ a, off a + S128x512.size a ≤ S256x512.size a}
    (hoff : off = ![128 * b.val, 0]) {hx : (accM.access (Rect.unit (s := S256x512) off S128x512.size inb)).Stores Finset.univ} {hm : (Finset.univ : Finset (Rect.unit (s := S256x512) off S128x512.size inb).shape.Idx) = Finset.univ ∨ ∀ a, (Rect.unit (s := S256x512) off S128x512.size inb).stride a = 1}
    {k : PUnit → Prog (TpuEff nD τ sig (Elt F) Λ₀ .tc) α}
    (h : iprop(CSt c D b fx (accV D) fm ∗ R) ⊢ WP c (k ⟨⟩) Φ) :
    iprop(CSt c D b fx fa fm ∗ R) ⊢ WP c (Prog.lift (.store accM (Rect.unit (s := S256x512) off S128x512.size inb) w Finset.univ hx hm) >>= k) Φ := by
  unfold CSt insPt at h ⊢
  iintro ⟨⟨⟨H0, H1, H2, H3, H4⟩, Hx, Ha, Hm⟩, HR⟩
  iapply (store_bind c (m := accM) (r := (Rect.unit (s := S256x512) off S128x512.size inb)) (S := halfSet b) (f := fa) (acc_store_sub b hoff))
  isplitl [Ha]; · iexact Ha
  iintro Ha
  rw [hw, putAcc_at b hoff]
  have e := putAcc_pt c D b fa
  iapply h
  isplitr [HR]
  · isplitr [Hx Ha Hm]
    · isplitl [H0]; · iexact H0
      isplitl [H1]; · iexact H1
      isplitl [H2]; · iexact H2
      isplitl [H3]; · iexact H3
      iexact H4
    isplitl [Hx]; · iexact Hx
    isplitl [Ha]; · iapply (Entails.of_eq e); iexact Ha
    iexact Hm
  · iexact HR

/-- Write the batch's rows to send. -/
theorem st_comm {w : Vec F S128x512 .bf16} (hw : w = commH D b) {α : Type} {Φ : α → sProp 𝕄} {R : sProp 𝕄} {off : Fin 2 → ℕ} {inb : ∀ a, off a + S128x512.size a ≤ S256x512.size a}
    (hoff : off = ![128 * b.val, 0]) {hx : (commM.access (Rect.unit (s := S256x512) off S128x512.size inb)).Stores Finset.univ} {hm : (Finset.univ : Finset (Rect.unit (s := S256x512) off S128x512.size inb).shape.Idx) = Finset.univ ∨ ∀ a, (Rect.unit (s := S256x512) off S128x512.size inb).stride a = 1}
    {k : PUnit → Prog (TpuEff nD τ sig (Elt F) Λ₀ .tc) α}
    (h : iprop(CSt c D b fx fa (commV D) ∗ R) ⊢ WP c (k ⟨⟩) Φ) :
    iprop(CSt c D b fx fa fm ∗ R) ⊢ WP c (Prog.lift (.store commM (Rect.unit (s := S256x512) off S128x512.size inb) w Finset.univ hx hm) >>= k) Φ := by
  unfold CSt insPt at h ⊢
  iintro ⟨⟨⟨H0, H1, H2, H3, H4⟩, Hx, Ha, Hm⟩, HR⟩
  iapply (store_bind c (m := commM) (r := (Rect.unit (s := S256x512) off S128x512.size inb)) (S := halfSet b) (f := fm) (comm_store_sub b hoff))
  isplitl [Hm]; · iexact Hm
  iintro Hm
  rw [hw, putComm_at b hoff]
  have e := putComm_pt c D b fm
  iapply h
  isplitr [HR]
  · isplitr [Hx Ha Hm]
    · isplitl [H0]; · iexact H0
      isplitl [H1]; · iexact H1
      isplitl [H2]; · iexact H2
      isplitl [H3]; · iexact H3
      iexact H4
    isplitl [Hx]; · iexact Hx
    isplitl [Ha]; · iexact Ha
    iapply (Entails.of_eq e); iexact Hm
  · iexact HR

end Steps

end Cert.Exchange

end
-- ==== Proof.Front.lean ====
/-
  The body's first stretch: the signals, batch 0, the wait for all peers.
-/
module

public import proofs.«01_k».proof.Proof.Compute
public import proofs.«01_k».proof.Proof.Chain

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-- A device learns its own place. -/
theorem dev_bind {c : Dev nD} {α : Type} {k : Dev nD → Prog (TpuEff nD τ sig (Elt F) Λ₀ .tc) α} {Φ : α → sProp 𝕄} {St : sProp 𝕄}
    (h : St ⊢ WP c (k c) Φ) : St ⊢ WP c (Prog.lift .deviceId >>= k) Φ := by
  refine h.trans ?_
  show _ ⊢ WP c (.op .deviceId k) Φ
  unfold WP
  rw [wp_deviceId]

/-- The end of a stretch. -/
theorem WP_ret {c : Dev nD} {α : Type} {a : α} {Φ : α → sProp 𝕄} {St : sProp 𝕄} (h : St ⊢ Φ a) : St ⊢ WP c (pure a) Φ :=
  h.trans (WP_pure c a Φ)

theorem front3 {P Q R S : sProp 𝕄} : iprop(P ∗ Q ∗ R ∗ S) ⊢ iprop(R ∗ P ∗ Q ∗ S) := by
  iintro ⟨HP, HQ, HR, HS⟩
  isplitl [HR]; · iexact HR
  isplitl [HP]; · iexact HP
  isplitl [HQ]; · iexact HQ
  iexact HS
theorem back3 {P Q R S : sProp 𝕄} : iprop(R ∗ P ∗ Q ∗ S) ⊢ iprop(P ∗ Q ∗ R ∗ S) := by
  iintro ⟨HR, HP, HQ, HS⟩
  isplitl [HP]; · iexact HP
  isplitl [HQ]; · iexact HQ
  isplitl [HR]; · iexact HR
  iexact HS

/-- The context after `n` heads of batch `b`. -/
def ctxAt (D : Ins F) (b : Fin 2) (f : Vec F S256x256 .f32) (n : ℕ) : Vec F S256x256 .f32 :=
  match n with
  | 0 => f
  | 1 => putHead b 0 f (headV D b 0)
  | 2 => putHead b 1 (putHead b 0 f (headV D b 0)) (headV D b 1)
  | 3 => putHead b 2 (putHead b 1 (putHead b 0 f (headV D b 0)) (headV D b 1)) (headV D b 2)
  | _ => putHead b 3 (putHead b 2 (putHead b 1 (putHead b 0 f (headV D b 0)) (headV D b 1)) (headV D b 2)) (headV D b 3)

theorem ctxAt_read (D : Ins F) (b : Fin 2) (f : Vec F S256x256 .f32) :
    ctxM.view.readAt (Elt F) (Rect.unit (s := S256x256) ![128 * b.val, 0] S128x256.size (ctxRow_inb b)).toLoadRect (ctxAt D b f 4) = ctxV D b :=
  ctx_read b f (headV D b)

/-- The first five signals. -/
theorem part1_run (A : Dev nD → CommC F) (Z : CommC F) (K : GSem nD τ sig → ℕ) (c : Dev nD) {Q : (Σ' (_ : Dev nD) (_ : BitVec 32) (_ : Sems sig S_) (_ : BitVec 32), BitVec 32) → sProp 𝕄} {R : sProp 𝕄}
    (h : ∀ v2 v24 w, iprop(know A Z K ∗ SigSt c 5 ∗ R) ⊢ Q ⟨c, v2, (SemArray.scalar (sig.barrier 0 rfl)), v24, w⟩) :
    iprop(know A Z K ∗ SigSt c 0 ∗ R) ⊢ WP c (k0_part1 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 ) Q := by
  rw [k0_part1_eq_skeleton]
  unfold k0_part1_skel
  refine dev_bind ?_
  dsimp only
  refine sig_bind A Z K 0 (dev_peer 0 (k0_dev1_eq c) rfl) rfl ?_
  refine sig_bind A Z K 1 (dev_peer 1 (k0_dev2_eq c) rfl) rfl ?_
  refine sig_bind A Z K 2 (dev_peer 2 (k0_dev3_eq c) rfl) rfl ?_
  refine sig_bind A Z K 3 (dev_peer 3 (k0_dev4_eq c) rfl) rfl ?_
  refine sig_bind A Z K 4 (dev_peer 4 (k0_dev5_eq c) rfl) rfl ?_
  exact WP_ret (h _ _ _)

/-- Six more. -/
theorem part2_run (A : Dev nD → CommC F) (Z : CommC F) (K : GSem nD τ sig → ℕ) (c : Dev nD) {v2 v24 w : BitVec 32} {Q : (Σ' (_ : BitVec 32), BitVec 32) → sProp 𝕄} {R : sProp 𝕄}
    (h : ∀ v48 w, iprop(know A Z K ∗ SigSt c 11 ∗ R) ⊢ Q ⟨v48, w⟩) :
    iprop(know A Z K ∗ SigSt c 5 ∗ R) ⊢ WP c (k0_part2 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v2 (SemArray.scalar (sig.barrier 0 rfl)) v24 w) Q := by
  rw [k0_part2_eq_skeleton]
  unfold k0_part2_skel
  refine sig_bind A Z K 5 (dev_peer 5 (k0_dev6_eq c) rfl) rfl ?_
  refine sig_bind A Z K 6 (dev_peer 6 (k0_dev7_eq c) rfl) rfl ?_
  refine sig_bind A Z K 7 (dev_peer 7 (k0_dev8_eq c) rfl) rfl ?_
  refine sig_bind A Z K 8 (dev_peer 8 (k0_dev9_eq c) rfl) rfl ?_
  refine sig_bind A Z K 9 (dev_peer 9 (k0_dev10_eq c) rfl) rfl ?_
  refine sig_bind A Z K 10 (dev_peer 10 (k0_dev11_eq c) rfl) rfl ?_
  exact WP_ret (h _ _)

/-- The last four signals, and the projection of the queries. -/
theorem part3_run (A : Dev nD → CommC F) (Z : CommC F) (K : GSem nD τ sig → ℕ) (c : Dev nD) {D : Ins F} {f : Vec F S256x256 .f32} {fa : Vec F S256x512 .f32} {fm : Vec F S256x512 .bf16} {v2 v48 w : BitVec 32}
    {Q : (Σ' (_ : FVec F S256x256 .f32) (_ : IVec S128x128 32) (_ : BitVec 32) (_ : IVec S128x128 32) (_ : IVec S128x128 32), IVec S128x128 1) → sProp 𝕄} {R : sProp 𝕄}
    (h : iprop(know A Z K ∗ SigSt c 15 ∗ CSt c D 0 f fa fm ∗ R) ⊢ Q ⟨qV D, iota .tc S128x128 32 [0] iota_S128x128_d0_w32, 64#32, k0_pay2, k0_pay3, k0_pay4⟩) :
    iprop(know A Z K ∗ SigSt c 11 ∗ CSt c D 0 f fa fm ∗ R) ⊢ WP c (k0_part3 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v2 (SemArray.scalar (sig.barrier 0 rfl)) v48 w) Q := by
  rw [k0_part3_eq_skeleton]
  unfold k0_part3_skel
  refine sig_bind A Z K 11 (dev_peer 11 (k0_dev12_eq c) rfl) rfl ?_
  refine sig_bind A Z K 12 (dev_peer 12 (k0_dev13_eq c) rfl) rfl ?_
  refine sig_bind A Z K 13 (dev_peer 13 (k0_dev14_eq c) rfl) rfl ?_
  refine sig_bind A Z K 14 (dev_peer 14 (k0_dev15_eq c) rfl) rfl ?_
  refine front3.trans ?_
  refine ld_x (by decide) ?_
  refine ld_wq (by decide) ?_
  exact WP_ret (back3.trans h)

/-- The mask. -/
theorem part4_run (c : Dev nD) {D : Ins F} {Q : (Σ' (_ : FVec F S128x128 .f32), FVec F S128x64 .f32) → sProp 𝕄} {St : sProp 𝕄}
    (h : St ⊢ Q ⟨maskV, k0_pay6 (qV D)⟩) :
    St ⊢ WP c (k0_part4 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 (qV D) (iota .tc S128x128 32 [0] iota_S128x128_d0_w32) 64#32 k0_pay2 k0_pay3 k0_pay4) Q := by
  rw [k0_part4_eq_skeleton]
  unfold k0_part4_skel
  exact WP_ret h

/-- Batch 0, head 0. -/
theorem part5_run (c : Dev nD) {D : Ins F} {f : Vec F S256x256 .f32} {fa : Vec F S256x512 .f32} {fm : Vec F S256x512 .bf16} {Q : FVec F S128x64 .f32 → sProp 𝕄} {R : sProp 𝕄}
    (h : iprop(CSt c D 0 (ctxAt D 0 f 1) fa fm ∗ R) ⊢ Q (k0_pay8 (qV D) maskV (headOf D.k 0 1) (headOf D.v 0 1))) :
    iprop(CSt c D 0 (ctxAt D 0 f 0) fa fm ∗ R) ⊢ WP c (k0_part5 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 (qV D) maskV (k0_pay6 (qV D))) Q := by
  rw [k0_part5_eq_skeleton]
  unfold k0_part5_skel
  refine ld_k 0 0 rfl ?_
  refine ld_v 0 0 rfl ?_
  refine dead_ctx fun _ => ?_
  refine st_ctx 0 0 rfl (w := headV D 0 0) ?_
  refine ld_k 0 1 rfl ?_
  refine ld_v 0 1 rfl ?_
  exact WP_ret h

/-- Batch 0, heads 1 and 2. -/
theorem part6_run (c : Dev nD) {D : Ins F} {f : Vec F S256x256 .f32} {fa : Vec F S256x512 .f32} {fm : Vec F S256x512 .bf16} {Q : (Σ' (_ : FVec F S128x64 .f32) (_ : FVec F S128x128 .f32), FVec F S128 .f32) → sProp 𝕄} {R : sProp 𝕄}
    (h : iprop(CSt c D 0 (ctxAt D 0 f 3) fa fm ∗ R)
      ⊢ Q ⟨k0_pay11 (headOf D.v 0 3), k0_pay12 (qV D) maskV (headOf D.k 0 3), k0_pay13 (qV D) maskV (headOf D.k 0 3)⟩) :
    iprop(CSt c D 0 (ctxAt D 0 f 1) fa fm ∗ R) ⊢ WP c (k0_part6 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 (qV D) maskV (k0_pay8 (qV D) maskV (headOf D.k 0 1) (headOf D.v 0 1))) Q := by
  rw [k0_part6_eq_skeleton]
  unfold k0_part6_skel
  refine dead_ctx fun _ => ?_
  refine st_ctx 0 1 rfl (w := headV D 0 1) ?_
  refine ld_k 0 2 rfl ?_
  refine ld_v 0 2 rfl ?_
  refine dead_ctx fun _ => ?_
  refine st_ctx 0 2 rfl (w := headV D 0 2) ?_
  refine ld_k 0 3 rfl ?_
  refine ld_v 0 3 rfl ?_
  exact WP_ret h

/-! Which copies go out in which half. -/

theorem cond1 : ∀ c : Dev nD, k0_cond1 c = 1#1 ↔ low c 0 := by decide +kernel
theorem cond2 : ∀ c : Dev nD, k0_cond2 c = 1#1 ↔ low c 1 := by decide +kernel
theorem cond3 : ∀ c : Dev nD, k0_cond3 c = 1#1 ↔ low c 2 := by decide +kernel
theorem cond4 : ∀ c : Dev nD, k0_cond4 c = 1#1 ↔ low c 3 := by decide +kernel
theorem cond5 : ∀ c : Dev nD, k0_cond5 c = 1#1 ↔ low c 4 := by decide +kernel
theorem cond6 : ∀ c : Dev nD, k0_cond6 c = 1#1 ↔ low c 5 := by decide +kernel
theorem cond7 : ∀ c : Dev nD, k0_cond7 c = 1#1 ↔ low c 6 := by decide +kernel
theorem cond8 : ∀ c : Dev nD, k0_cond8 c = 1#1 ↔ low c 7 := by decide +kernel
theorem cond9 : ∀ c : Dev nD, k0_cond9 c = 1#1 ↔ low c 8 := by decide +kernel
theorem cond10 : ∀ c : Dev nD, k0_cond10 c = 1#1 ↔ low c 9 := by decide +kernel
theorem cond11 : ∀ c : Dev nD, k0_cond11 c = 1#1 ↔ low c 10 := by decide +kernel
theorem cond12 : ∀ c : Dev nD, k0_cond12 c = 1#1 ↔ low c 11 := by decide +kernel
theorem cond13 : ∀ c : Dev nD, k0_cond13 c = 1#1 ↔ low c 12 := by decide +kernel
theorem cond14 : ∀ c : Dev nD, k0_cond14 c = 1#1 ↔ low c 13 := by decide +kernel
theorem cond15 : ∀ c : Dev nD, k0_cond15 c = 1#1 ↔ low c 14 := by decide +kernel
theorem cond16 : ∀ c : Dev nD, k0_cond16 c = 1#1 ↔ ¬ low c 0 := by decide +kernel
theorem cond17 : ∀ c : Dev nD, k0_cond17 c = 1#1 ↔ ¬ low c 1 := by decide +kernel
theorem cond18 : ∀ c : Dev nD, k0_cond18 c = 1#1 ↔ ¬ low c 2 := by decide +kernel
theorem cond19 : ∀ c : Dev nD, k0_cond19 c = 1#1 ↔ ¬ low c 3 := by decide +kernel
theorem cond20 : ∀ c : Dev nD, k0_cond20 c = 1#1 ↔ ¬ low c 4 := by decide +kernel
theorem cond21 : ∀ c : Dev nD, k0_cond21 c = 1#1 ↔ ¬ low c 5 := by decide +kernel
theorem cond22 : ∀ c : Dev nD, k0_cond22 c = 1#1 ↔ ¬ low c 6 := by decide +kernel
theorem cond23 : ∀ c : Dev nD, k0_cond23 c = 1#1 ↔ ¬ low c 7 := by decide +kernel
theorem cond24 : ∀ c : Dev nD, k0_cond24 c = 1#1 ↔ ¬ low c 8 := by decide +kernel
theorem cond25 : ∀ c : Dev nD, k0_cond25 c = 1#1 ↔ ¬ low c 9 := by decide +kernel
theorem cond26 : ∀ c : Dev nD, k0_cond26 c = 1#1 ↔ ¬ low c 10 := by decide +kernel
theorem cond27 : ∀ c : Dev nD, k0_cond27 c = 1#1 ↔ ¬ low c 11 := by decide +kernel
theorem cond28 : ∀ c : Dev nD, k0_cond28 c = 1#1 ↔ ¬ low c 12 := by decide +kernel
theorem cond29 : ∀ c : Dev nD, k0_cond29 c = 1#1 ↔ ¬ low c 13 := by decide +kernel
theorem cond30 : ∀ c : Dev nD, k0_cond30 c = 1#1 ↔ ¬ low c 14 := by decide +kernel

/-- Batch 0's product, the wait for all peers, and the first copy. -/
theorem part7_run (A : Dev nD → CommC F) (Z : CommC F) (K : GSem nD τ sig → ℕ) (c : Dev nD) {D : Ins F} {f : Vec F S256x256 .f32} {fa : Vec F S256x512 .f32} {fm : Vec F S256x512 .bf16} {v2 : BitVec 32} {Q : (Σ' (_ : BitVec 32), BitVec 32) → sProp 𝕄} {R R1 R2 : sProp 𝕄}
    (h1 : iprop(CSt c D 0 (ctxAt D 0 f 4) (accV D) (commV D) ∗ R)
      ⊢ iprop(know A Z K ∗ (SigSt c 15 ∗ cred (tallyAt (barCell c) () 15) ∗ atPos ER (barCell c) 0 ∅ 0) ∗ R1))
    (h2 : iprop(know A Z K ∗ (owesE c (owesRs c) ∗ atPos ER (barCell c) 1 ∅ 0 ∗ bigSep Finset.univ fun k : Fin 15 => barPay (F := F) c k) ∗ R1)
      ⊢ iprop(know A Z K ∗ RsSt A c (fun k => low c k) (owesHigh c) 0 ∗ R2))
    (h : ∀ v216 w, iprop(know A Z K ∗ RsSt A c (fun k => low c k) (owesHigh c) 1 ∗ R2) ⊢ Q ⟨v216, w⟩) :
    iprop(CSt c D 0 (ctxAt D 0 f 3) fa fm ∗ R) ⊢ WP c (k0_part7 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v2 (SemArray.scalar (sig.barrier 0 rfl)) (k0_pay11 (headOf D.v 0 3)) (k0_pay12 (qV D) maskV (headOf D.k 0 3)) (k0_pay13 (qV D) maskV (headOf D.k 0 3))) Q := by
  rw [k0_part7_eq_skeleton]
  unfold k0_part7_skel
  refine dead_ctx fun _ => ?_
  refine st_ctx 0 3 rfl (w := headV D 0 3) ?_
  refine ld_ctx 0 (ctxAt_read D 0 f) rfl ?_
  refine ld_wo (by decide) ?_
  refine dead_acc rfl fun _ => ?_
  refine st_acc (rfl : _ = accH D 0) rfl ?_
  refine ld_acc rfl ?_
  refine dead_comm rfl fun _ => ?_
  refine st_comm (rfl : _ = commH D 0) rfl ?_
  refine h1.trans ?_
  refine bar_bind A Z K rfl ?_
  refine h2.trans ?_
  refine rs_bind A Z K (fun k => low c k) (owesHigh c) 0 rfl (cond1 c) (fun _ => chunk_peer 0 (k0_off1_eq c) rfl) (fun _ => slot_at 0 rfl)
    (fun _ => dev_peer 0 (k0_dev16_eq c) rfl) (fun _ => sem_at 0 0) (fun _ => sem_at 1 0) ?_
  exact WP_ret (h _ _)

end Cert.Exchange

end
-- ==== Proof.Middle.lean ====
/-
  The body's second stretch: the first half's copies, batch 1, the second half's copies.
-/
module

public import proofs.«01_k».proof.Proof.Front

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-- More of the first half's copies. -/
theorem part8_run (A : Dev nD → CommC F) (Z : CommC F) (K : GSem nD τ sig → ℕ) (c : Dev nD) {v2 : BitVec 32} {v216 : BitVec 32} {c16_i32_151 : BitVec 32} {Q : (Σ' (_ : BitVec 32) (_ : BitVec 1), BitVec 32) → sProp 𝕄} {R : sProp 𝕄}
    (h : ∀ w0 w1 w2, iprop(know A Z K ∗ RsSt A c (fun k => low c k) (owesHigh c) 4 ∗ R) ⊢ Q ⟨w0, w1, w2⟩) :
    iprop(know A Z K ∗ RsSt A c (fun k => low c k) (owesHigh c) 1 ∗ R) ⊢ WP c (k0_part8 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v2 v216 c16_i32_151) Q := by
  rw [k0_part8_eq_skeleton]
  unfold k0_part8_skel
  refine rs_bind A Z K (fun k => low c k) (owesHigh c) 1 rfl (cond2 c) (fun _ => chunk_peer 1 (k0_off2_eq c) rfl) (fun _ => slot_at 1 rfl)
    (fun _ => dev_peer 1 (k0_dev17_eq c) rfl) (fun _ => sem_at 0 1) (fun _ => sem_at 1 1) ?_
  refine rs_bind A Z K (fun k => low c k) (owesHigh c) 2 rfl (cond3 c) (fun _ => chunk_peer 2 (k0_off3_eq c) rfl) (fun _ => slot_at 2 rfl)
    (fun _ => dev_peer 2 (k0_dev18_eq c) rfl) (fun _ => sem_at 0 2) (fun _ => sem_at 1 2) ?_
  refine rs_bind A Z K (fun k => low c k) (owesHigh c) 3 rfl (cond4 c) (fun _ => chunk_peer 3 (k0_off4_eq c) rfl) (fun _ => slot_at 3 rfl)
    (fun _ => dev_peer 3 (k0_dev19_eq c) rfl) (fun _ => sem_at 0 3) (fun _ => sem_at 1 3) ?_
  exact WP_ret (h _ _ _)

/-- More of the first half's copies. -/
theorem part9_run (A : Dev nD → CommC F) (Z : CommC F) (K : GSem nD τ sig → ℕ) (c : Dev nD) {v2 : BitVec 32} {v241 : BitVec 32} {v243 : BitVec 1} {c8_i32_181 : BitVec 32} {Q : (Σ' (_ : BitVec 32), BitVec 32) → sProp 𝕄} {R : sProp 𝕄}
    (h : ∀ w0 w1, iprop(know A Z K ∗ RsSt A c (fun k => low c k) (owesHigh c) 7 ∗ R) ⊢ Q ⟨w0, w1⟩) :
    iprop(know A Z K ∗ RsSt A c (fun k => low c k) (owesHigh c) 4 ∗ R) ⊢ WP c (k0_part9 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v2 v241 v243 c8_i32_181) Q := by
  rw [k0_part9_eq_skeleton]
  unfold k0_part9_skel
  refine rs_bind A Z K (fun k => low c k) (owesHigh c) 4 rfl (cond5 c) (fun _ => chunk_peer 4 (k0_off5_eq c) rfl) (fun _ => slot_at 4 rfl)
    (fun _ => dev_peer 4 (k0_dev20_eq c) rfl) (fun _ => sem_at 0 4) (fun _ => sem_at 1 4) ?_
  refine rs_bind A Z K (fun k => low c k) (owesHigh c) 5 rfl (cond6 c) (fun _ => chunk_peer 5 (k0_off6_eq c) rfl) (fun _ => slot_at 5 rfl)
    (fun _ => dev_peer 5 (k0_dev21_eq c) rfl) (fun _ => sem_at 0 5) (fun _ => sem_at 1 5) ?_
  refine rs_bind A Z K (fun k => low c k) (owesHigh c) 6 rfl (cond7 c) (fun _ => chunk_peer 6 (k0_off7_eq c) rfl) (fun _ => slot_at 6 rfl)
    (fun _ => dev_peer 6 (k0_dev22_eq c) rfl) (fun _ => sem_at 0 6) (fun _ => sem_at 1 6) ?_
  exact WP_ret (h _ _)

/-- More of the first half's copies. -/
theorem part10_run (A : Dev nD → CommC F) (Z : CommC F) (K : GSem nD τ sig → ℕ) (c : Dev nD) {v2 : BitVec 32} {v265 : BitVec 32} {v270 : BitVec 32} {Q : (Σ' (_ : BitVec 32), BitVec 32) → sProp 𝕄} {R : sProp 𝕄}
    (h : ∀ w0 w1, iprop(know A Z K ∗ RsSt A c (fun k => low c k) (owesHigh c) 11 ∗ R) ⊢ Q ⟨w0, w1⟩) :
    iprop(know A Z K ∗ RsSt A c (fun k => low c k) (owesHigh c) 7 ∗ R) ⊢ WP c (k0_part10 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v2 v265 v270) Q := by
  rw [k0_part10_eq_skeleton]
  unfold k0_part10_skel
  refine rs_bind A Z K (fun k => low c k) (owesHigh c) 7 rfl (cond8 c) (fun _ => chunk_peer 7 (k0_off8_eq c) rfl) (fun _ => slot_at 7 rfl)
    (fun _ => dev_peer 7 (k0_dev23_eq c) rfl) (fun _ => sem_at 0 7) (fun _ => sem_at 1 7) ?_
  refine rs_bind A Z K (fun k => low c k) (owesHigh c) 8 rfl (cond9 c) (fun _ => chunk_peer 8 (k0_off9_eq c) rfl) (fun _ => slot_at 8 rfl)
    (fun _ => dev_peer 8 (k0_dev24_eq c) rfl) (fun _ => sem_at 0 8) (fun _ => sem_at 1 8) ?_
  refine rs_bind A Z K (fun k => low c k) (owesHigh c) 9 rfl (cond10 c) (fun _ => chunk_peer 9 (k0_off10_eq c) rfl) (fun _ => slot_at 9 rfl)
    (fun _ => dev_peer 9 (k0_dev25_eq c) rfl) (fun _ => sem_at 0 9) (fun _ => sem_at 1 9) ?_
  refine rs_bind A Z K (fun k => low c k) (owesHigh c) 10 rfl (cond11 c) (fun _ => chunk_peer 10 (k0_off11_eq c) rfl) (fun _ => slot_at 10 rfl)
    (fun _ => dev_peer 10 (k0_dev26_eq c) rfl) (fun _ => sem_at 0 10) (fun _ => sem_at 1 10) ?_
  exact WP_ret (h _ _)

/-- More of the first half's copies. -/
theorem part11_run (A : Dev nD → CommC F) (Z : CommC F) (K : GSem nD τ sig → ℕ) (c : Dev nD) {v2 : BitVec 32} {v296 : BitVec 32} {c16_i32_241 : BitVec 32} {Q : (Σ' (_ : BitVec 32) (_ : BitVec 1), BitVec 32) → sProp 𝕄} {R : sProp 𝕄}
    (h : ∀ w0 w1 w2, iprop(know A Z K ∗ RsSt A c (fun k => low c k) (owesHigh c) 14 ∗ R) ⊢ Q ⟨w0, w1, w2⟩) :
    iprop(know A Z K ∗ RsSt A c (fun k => low c k) (owesHigh c) 11 ∗ R) ⊢ WP c (k0_part11 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v2 v296 c16_i32_241) Q := by
  rw [k0_part11_eq_skeleton]
  unfold k0_part11_skel
  refine rs_bind A Z K (fun k => low c k) (owesHigh c) 11 rfl (cond12 c) (fun _ => chunk_peer 11 (k0_off12_eq c) rfl) (fun _ => slot_at 11 rfl)
    (fun _ => dev_peer 11 (k0_dev27_eq c) rfl) (fun _ => sem_at 0 11) (fun _ => sem_at 1 11) ?_
  refine rs_bind A Z K (fun k => low c k) (owesHigh c) 12 rfl (cond13 c) (fun _ => chunk_peer 12 (k0_off13_eq c) rfl) (fun _ => slot_at 12 rfl)
    (fun _ => dev_peer 12 (k0_dev28_eq c) rfl) (fun _ => sem_at 0 12) (fun _ => sem_at 1 12) ?_
  refine rs_bind A Z K (fun k => low c k) (owesHigh c) 13 rfl (cond14 c) (fun _ => chunk_peer 13 (k0_off14_eq c) rfl) (fun _ => slot_at 13 rfl)
    (fun _ => dev_peer 13 (k0_dev29_eq c) rfl) (fun _ => sem_at 0 13) (fun _ => sem_at 1 13) ?_
  exact WP_ret (h _ _ _)

/-- The last of the first half's copies; batch 1, head 0. -/
theorem part12_run (A : Dev nD → CommC F) (Z : CommC F) (K : GSem nD τ sig → ℕ) (c : Dev nD) {D : Ins F} {f : Vec F S256x256 .f32} {fa : Vec F S256x512 .f32} {fm : Vec F S256x512 .bf16} {v321 : BitVec 32} {v323 : BitVec 1} {c8_i32_271 : BitVec 32} {Q : (Σ' (_ : FVec F S128x64 .f32), FVec F S128x128 .f32) → sProp 𝕄} {R R1 : sProp 𝕄}
    (h1 : iprop(know A Z K ∗ RsSt A c (fun k => low c k) (owesHigh c) 15 ∗ R) ⊢ iprop(CSt c D 1 (ctxAt D 1 f 0) fa fm ∗ R1))

    (h : iprop(CSt c D 1 (ctxAt D 1 f 1) fa fm ∗ R1) ⊢ Q ⟨k0_pay18 (headOf D.v 1 1), k0_pay19 (qV D) (headOf D.k 1 1)⟩) :
    iprop(know A Z K ∗ RsSt A c (fun k => low c k) (owesHigh c) 14 ∗ R) ⊢ WP c (k0_part12 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c (qV D) maskV v321 v323 c8_i32_271) Q := by
  rw [k0_part12_eq_skeleton]
  unfold k0_part12_skel
  refine rs_bind A Z K (fun k => low c k) (owesHigh c) 14 rfl (cond15 c) (fun _ => chunk_peer 14 (k0_off15_eq c) rfl) (fun _ => slot_at 14 rfl)
    (fun _ => dev_peer 14 (k0_dev30_eq c) rfl) (fun _ => sem_at 0 14) (fun _ => sem_at 1 14) ?_
  refine h1.trans ?_
  refine ld_k 1 0 rfl ?_
  refine ld_v 1 0 rfl ?_
  refine dead_ctx fun _ => ?_
  refine st_ctx 1 0 rfl (w := headV D 1 0) ?_
  refine ld_k 1 1 rfl ?_
  refine ld_v 1 1 rfl ?_
  exact WP_ret (h)

/-- Batch 1, heads 1 and 2. -/
theorem part13_run (c : Dev nD) {D : Ins F} {f : Vec F S256x256 .f32} {fa : Vec F S256x512 .f32} {fm : Vec F S256x512 .bf16} {Q : (Σ' (_ : FVec F S128x64 .f32) (_ : FVec F S128x64 .f32), Vec F S1x1x128x64 .f32) → sProp 𝕄} {R : sProp 𝕄}
    (h : iprop(CSt c D 1 (ctxAt D 1 f 3) fa fm ∗ R) ⊢ Q ⟨k0_pay22 (qV D), k0_pay23 (headOf D.k 1 3), headOf D.v 1 3⟩) :
    iprop(CSt c D 1 (ctxAt D 1 f 1) fa fm ∗ R) ⊢ WP c (k0_part13 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 (qV D) maskV (k0_pay18 (headOf D.v 1 1)) (k0_pay19 (qV D) (headOf D.k 1 1))) Q := by
  rw [k0_part13_eq_skeleton]
  unfold k0_part13_skel
  refine dead_ctx fun _ => ?_
  refine st_ctx 1 1 rfl (w := headV D 1 1) ?_
  refine ld_k 1 2 rfl ?_
  refine ld_v 1 2 rfl ?_
  refine dead_ctx fun _ => ?_
  refine st_ctx 1 2 rfl (w := headV D 1 2) ?_
  refine ld_k 1 3 rfl ?_
  refine ld_v 1 3 rfl ?_
  exact WP_ret (h)

/-- Batch 1's product. -/
theorem part14_run (c : Dev nD) {D : Ins F} {f : Vec F S256x256 .f32} {fa : Vec F S256x512 .f32} {fm : Vec F S256x512 .bf16} {v2 : BitVec 32} {Q : (Σ' (_ : BitVec 32), BitVec 32) → sProp 𝕄} {R : sProp 𝕄}
    (h : ∀ w0 w1, iprop(CSt c D 1 (ctxAt D 1 f 4) (accV D) (commV D) ∗ R) ⊢ Q ⟨w0, w1⟩) :
    iprop(CSt c D 1 (ctxAt D 1 f 3) fa fm ∗ R) ⊢ WP c (k0_part14 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 v2 maskV (k0_pay22 (qV D)) (k0_pay23 (headOf D.k 1 3)) (headOf D.v 1 3)) Q := by
  rw [k0_part14_eq_skeleton]
  unfold k0_part14_skel
  refine dead_ctx fun _ => ?_
  refine st_ctx 1 3 rfl (w := headV D 1 3) ?_
  refine ld_ctx 1 (ctxAt_read D 1 f) rfl ?_
  refine ld_wo (by decide) ?_
  refine dead_acc rfl fun _ => ?_
  refine st_acc (rfl : _ = accH D 1) rfl ?_
  refine ld_acc rfl ?_
  refine dead_comm rfl fun _ => ?_
  refine st_comm (rfl : _ = commH D 1) rfl ?_
  exact WP_ret (h _ _)

/-- More of the second half's copies. -/
theorem part15_run (A : Dev nD → CommC F) (Z : CommC F) (K : GSem nD τ sig → ℕ) (c : Dev nD) {v2 : BitVec 32} {v413 : BitVec 32} {v418 : BitVec 32} {Q : (Σ' (_ : BitVec 32) (_ : BitVec 32) (_ : BitVec 32), BitVec 32) → sProp 𝕄} {R : sProp 𝕄}
    (h : ∀ w0 w1 w2 w3, iprop(know A Z K ∗ RsSt A c (fun k => ¬ low c k) (owesAg c) 4 ∗ R) ⊢ Q ⟨w0, w1, w2, w3⟩) :
    iprop(know A Z K ∗ RsSt A c (fun k => ¬ low c k) (owesAg c) 0 ∗ R) ⊢ WP c (k0_part15 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v2 v413 v418) Q := by
  rw [k0_part15_eq_skeleton]
  unfold k0_part15_skel
  refine rs_bind A Z K (fun k => ¬ low c k) (owesAg c) 0 rfl (cond16 c) (fun _ => chunk_peer 0 (k0_off16_eq c) rfl) (fun _ => slot_at 0 rfl)
    (fun _ => dev_peer 0 (k0_dev31_eq c) rfl) (fun _ => sem_at 0 0) (fun _ => sem_at 1 0) ?_
  refine rs_bind A Z K (fun k => ¬ low c k) (owesAg c) 1 rfl (cond17 c) (fun _ => chunk_peer 1 (k0_off17_eq c) rfl) (fun _ => slot_at 1 rfl)
    (fun _ => dev_peer 1 (k0_dev32_eq c) rfl) (fun _ => sem_at 0 1) (fun _ => sem_at 1 1) ?_
  refine rs_bind A Z K (fun k => ¬ low c k) (owesAg c) 2 rfl (cond18 c) (fun _ => chunk_peer 2 (k0_off18_eq c) rfl) (fun _ => slot_at 2 rfl)
    (fun _ => dev_peer 2 (k0_dev33_eq c) rfl) (fun _ => sem_at 0 2) (fun _ => sem_at 1 2) ?_
  refine rs_bind A Z K (fun k => ¬ low c k) (owesAg c) 3 rfl (cond19 c) (fun _ => chunk_peer 3 (k0_off19_eq c) rfl) (fun _ => slot_at 3 rfl)
    (fun _ => dev_peer 3 (k0_dev34_eq c) rfl) (fun _ => sem_at 0 3) (fun _ => sem_at 1 3) ?_
  exact WP_ret (h _ _ _ _)

/-- More of the second half's copies. -/
theorem part16_run (A : Dev nD → CommC F) (Z : CommC F) (K : GSem nD τ sig → ℕ) (c : Dev nD) {v2 : BitVec 32} {v444 : BitVec 32} {Q : (Σ' (_ : BitVec 32) (_ : BitVec 32) (_ : BitVec 32) (_ : BitVec 32), BitVec 1) → sProp 𝕄} {R : sProp 𝕄}
    (h : ∀ w0 w1 w2 w3 w4, iprop(know A Z K ∗ RsSt A c (fun k => ¬ low c k) (owesAg c) 7 ∗ R) ⊢ Q ⟨w0, w1, w2, w3, w4⟩) :
    iprop(know A Z K ∗ RsSt A c (fun k => ¬ low c k) (owesAg c) 4 ∗ R) ⊢ WP c (k0_part16 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v2 v444) Q := by
  rw [k0_part16_eq_skeleton]
  unfold k0_part16_skel
  refine rs_bind A Z K (fun k => ¬ low c k) (owesAg c) 4 rfl (cond20 c) (fun _ => chunk_peer 4 (k0_off20_eq c) rfl) (fun _ => slot_at 4 rfl)
    (fun _ => dev_peer 4 (k0_dev35_eq c) rfl) (fun _ => sem_at 0 4) (fun _ => sem_at 1 4) ?_
  refine rs_bind A Z K (fun k => ¬ low c k) (owesAg c) 5 rfl (cond21 c) (fun _ => chunk_peer 5 (k0_off21_eq c) rfl) (fun _ => slot_at 5 rfl)
    (fun _ => dev_peer 5 (k0_dev36_eq c) rfl) (fun _ => sem_at 0 5) (fun _ => sem_at 1 5) ?_
  refine rs_bind A Z K (fun k => ¬ low c k) (owesAg c) 6 rfl (cond22 c) (fun _ => chunk_peer 6 (k0_off22_eq c) rfl) (fun _ => slot_at 6 rfl)
    (fun _ => dev_peer 6 (k0_dev37_eq c) rfl) (fun _ => sem_at 0 6) (fun _ => sem_at 1 6) ?_
  exact WP_ret (h _ _ _ _ _)

/-- More of the second half's copies. -/
theorem part17_run (A : Dev nD → CommC F) (Z : CommC F) (K : GSem nD τ sig → ℕ) (c : Dev nD) {v2 : BitVec 32} {v469 : BitVec 32} {v471 : BitVec 1} {Q : (Σ' (_ : BitVec 32) (_ : BitVec 32) (_ : BitVec 32), BitVec 32) → sProp 𝕄} {R : sProp 𝕄}
    (h : ∀ w0 w1 w2 w3, iprop(know A Z K ∗ RsSt A c (fun k => ¬ low c k) (owesAg c) 10 ∗ R) ⊢ Q ⟨w0, w1, w2, w3⟩) :
    iprop(know A Z K ∗ RsSt A c (fun k => ¬ low c k) (owesAg c) 7 ∗ R) ⊢ WP c (k0_part17 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v2 v469 v471) Q := by
  rw [k0_part17_eq_skeleton]
  unfold k0_part17_skel
  refine rs_bind A Z K (fun k => ¬ low c k) (owesAg c) 7 rfl (cond23 c) (fun _ => chunk_peer 7 (k0_off23_eq c) rfl) (fun _ => slot_at 7 rfl)
    (fun _ => dev_peer 7 (k0_dev38_eq c) rfl) (fun _ => sem_at 0 7) (fun _ => sem_at 1 7) ?_
  refine rs_bind A Z K (fun k => ¬ low c k) (owesAg c) 8 rfl (cond24 c) (fun _ => chunk_peer 8 (k0_off24_eq c) rfl) (fun _ => slot_at 8 rfl)
    (fun _ => dev_peer 8 (k0_dev39_eq c) rfl) (fun _ => sem_at 0 8) (fun _ => sem_at 1 8) ?_
  refine rs_bind A Z K (fun k => ¬ low c k) (owesAg c) 9 rfl (cond25 c) (fun _ => chunk_peer 9 (k0_off25_eq c) rfl) (fun _ => slot_at 9 rfl)
    (fun _ => dev_peer 9 (k0_dev40_eq c) rfl) (fun _ => sem_at 0 9) (fun _ => sem_at 1 9) ?_
  exact WP_ret (h _ _ _ _)

/-- More of the second half's copies. -/
theorem part18_run (A : Dev nD → CommC F) (Z : CommC F) (K : GSem nD τ sig → ℕ) (c : Dev nD) {v2 : BitVec 32} {v493 : BitVec 32} {v498 : BitVec 32} {Q : (Σ' (_ : BitVec 32) (_ : BitVec 32) (_ : BitVec 32), BitVec 32) → sProp 𝕄} {R : sProp 𝕄}
    (h : ∀ w0 w1 w2 w3, iprop(know A Z K ∗ RsSt A c (fun k => ¬ low c k) (owesAg c) 14 ∗ R) ⊢ Q ⟨w0, w1, w2, w3⟩) :
    iprop(know A Z K ∗ RsSt A c (fun k => ¬ low c k) (owesAg c) 10 ∗ R) ⊢ WP c (k0_part18 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v2 v493 v498) Q := by
  rw [k0_part18_eq_skeleton]
  unfold k0_part18_skel
  refine rs_bind A Z K (fun k => ¬ low c k) (owesAg c) 10 rfl (cond26 c) (fun _ => chunk_peer 10 (k0_off26_eq c) rfl) (fun _ => slot_at 10 rfl)
    (fun _ => dev_peer 10 (k0_dev41_eq c) rfl) (fun _ => sem_at 0 10) (fun _ => sem_at 1 10) ?_
  refine rs_bind A Z K (fun k => ¬ low c k) (owesAg c) 11 rfl (cond27 c) (fun _ => chunk_peer 11 (k0_off27_eq c) rfl) (fun _ => slot_at 11 rfl)
    (fun _ => dev_peer 11 (k0_dev42_eq c) rfl) (fun _ => sem_at 0 11) (fun _ => sem_at 1 11) ?_
  refine rs_bind A Z K (fun k => ¬ low c k) (owesAg c) 12 rfl (cond28 c) (fun _ => chunk_peer 12 (k0_off28_eq c) rfl) (fun _ => slot_at 12 rfl)
    (fun _ => dev_peer 12 (k0_dev43_eq c) rfl) (fun _ => sem_at 0 12) (fun _ => sem_at 1 12) ?_
  refine rs_bind A Z K (fun k => ¬ low c k) (owesAg c) 13 rfl (cond29 c) (fun _ => chunk_peer 13 (k0_off29_eq c) rfl) (fun _ => slot_at 13 rfl)
    (fun _ => dev_peer 13 (k0_dev44_eq c) rfl) (fun _ => sem_at 0 13) (fun _ => sem_at 1 13) ?_
  exact WP_ret (h _ _ _ _)

end Cert.Exchange

end
-- ==== Proof.Reduce.lean ====
/-
  The body's third stretch: the slots are waited for and reduced, the reduced chunk is sent to every peer.
-/
module

public import proofs.«01_k».proof.Proof.Middle

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-- The order in which the slots are waited for. -/
def ordRs : Fin 15 → Fin 15 := ![0, 2, 3, 11, 12, 14, 4, 7, 10, 1, 13, 6, 8, 5, 9]

abbrev chunkR (j : Fin 16) : Rect S256x512 := Rect.unit (s := S256x512) ![16 * j.val, 0] S16x512.size (chunk_inb j)

/-- Read the device's own rows of its partial product. -/
theorem ld_own (c : Dev nD) {f : Vec F S256x512 .f32} {α : Type} {Φ : α → sProp 𝕄} {P W R : sProp 𝕄} {off : Fin 2 → ℕ}
    {inb : ∀ a, off a + S16x512.size a ≤ S256x512.size a} (hoff : off = ![16 * c.val, 0])
    {hl : accM.view.LoadsAt (Rect.unit (s := S256x512) off S16x512.size inb).toLoadRect}
    {k : (S16x512.Idx → Elt F .f32) → Prog (TpuEff nD τ sig (Elt F) Λ₀ .tc) α}
    (h : iprop(P ∗ W ∗ wholePt c accM f ∗ R) ⊢ WP c (k (rowsOf f c)) Φ) :
    iprop(P ∗ W ∗ wholePt c accM f ∗ R) ⊢ WP c (Prog.lift (.load accM (Rect.unit (s := S256x512) off S16x512.size inb).toLoadRect hl) >>= k) Φ := by
  subst hoff
  iintro ⟨HP, HW, Ha, HR⟩
  iapply (load_bind c (m := accM) (S := Finset.univ) (f := f) (q := fullShare) (Finset.subset_univ _))
  isplitl [Ha]; · iexact Ha
  iintro Ha
  iapply h
  isplitl [HP]; · iexact HP
  isplitl [HW]; · iexact HW
  isplitl [Ha]; · iexact Ha
  iexact HR

theorem chunk_load_sub (j : Fin 16) : commM.view.setOn (chunkR j).toLoadRect.set ⊆ (chunkM j).view.set := by
  have h : (commM.view.slice (chunkR j)).set = commM.view.setOn (chunkR j).toLoadRect.set := View.set_slice ..
  rw [← h]

/-- A read of the device's own chunk that nothing uses. -/
theorem dead_own (c : Dev nD) {f : CommC F} {α : Type} {Φ : α → sProp 𝕄} {R : sProp 𝕄} {off : Fin 2 → ℕ}
    {inb : ∀ a, off a + S16x512.size a ≤ S256x512.size a} (hoff : off = ![16 * c.val, 0])
    {hl : commM.view.LoadsAt (Rect.unit (s := S256x512) off S16x512.size inb).toLoadRect}
    {k : (S16x512.Idx → Elt F .bf16) → Prog (TpuEff nD τ sig (Elt F) Λ₀ .tc) α}
    (h : ∀ v, iprop(chunkPt c c fullShare f ∗ R) ⊢ WP c (k v) Φ) :
    iprop(chunkPt c c fullShare f ∗ R) ⊢ WP c (Prog.lift (.load commM (Rect.unit (s := S256x512) off S16x512.size inb).toLoadRect hl) >>= k) Φ := by
  subst hoff
  have h := h (commM.view.readAt (Elt F) (chunkR c).toLoadRect f)
  iintro ⟨Ha, HR⟩
  iapply (load_bind c (m := commM) (r := (chunkR c).toLoadRect) (S := (chunkM c).view.set) (f := f) (q := fullShare) (chunk_load_sub c))
  isplitl [Ha]; · iexact Ha
  iintro Ha
  iapply h
  isplitl [Ha]; · iexact Ha
  iexact HR

/-- A chunk overwritten. -/
def putChunk (j : Fin 16) (f : CommC F) (w : Vec F S16x512 .bf16) : CommC F := (commM.access (chunkR j)).write (Elt F) f w Finset.univ
theorem putChunk_emb (j : Fin 16) (f : CommC F) (w : Vec F S16x512 .bf16) (x : S16x512.Idx) : putChunk j f w ((chunkR j).emb x) = w x := by
  unfold putChunk
  exact View.write_emb_of_mem (v := commM.access (chunkR j)) (Val := Elt F) f w (M := Finset.univ) (Finset.mem_univ x)
theorem mem_chunk {j : Fin 16} {i : S256x512.Idx} (hi : i ∈ (chunkM j).view.set) : ∃ x, (chunkR j).emb x = i := by
  obtain ⟨x, -, hx⟩ := Finset.mem_map.mp hi
  exact ⟨x, hx⟩
theorem putChunk_pt (c : Dev nD) (f Z : CommC F) (w : Vec F S16x512 .bf16) (hw : ∀ x, Z ((chunkR c).emb x) = w x) :
    chunkPt c c fullShare (putChunk c f w) = chunkPt c c fullShare Z := by
  refine pointsTo_congr ?_
  intro i hi
  obtain ⟨x, hx⟩ := mem_chunk hi
  rw [← hx, putChunk_emb]
  exact (hw x).symm

/-- The reduced chunk written back. -/
theorem st_own (c : Dev nD) {f Z : CommC F} {w : Vec F S16x512 .bf16} (hw : ∀ x, Z ((chunkR c).emb x) = w x) {α : Type} {Φ : α → sProp 𝕄} {R : sProp 𝕄}
    {off : Fin 2 → ℕ} {inb : ∀ a, off a + S16x512.size a ≤ S256x512.size a} (hoff : off = ![16 * c.val, 0])
    {hx : (commM.access (Rect.unit (s := S256x512) off S16x512.size inb)).Stores Finset.univ}
    {hm : (Finset.univ : Finset (Rect.unit (s := S256x512) off S16x512.size inb).shape.Idx) = Finset.univ ∨ ∀ a, (Rect.unit (s := S256x512) off S16x512.size inb).stride a = 1}
    {k : PUnit → Prog (TpuEff nD τ sig (Elt F) Λ₀ .tc) α}
    (h : iprop(chunkPt c c fullShare Z ∗ R) ⊢ WP c (k ⟨⟩) Φ) :
    iprop(chunkPt c c fullShare f ∗ R)
      ⊢ WP c (Prog.lift (.store commM (Rect.unit (s := S256x512) off S16x512.size inb) w Finset.univ hx hm) >>= k) Φ := by
  subst hoff
  have e := putChunk_pt c f Z w hw
  iintro ⟨Ha, HR⟩
  iapply (store_bind c (m := commM) (r := chunkR c) (S := (chunkM c).view.set) (f := f) (Finset.Subset.refl _))
  isplitl [Ha]; · iexact Ha
  iintro Ha
  iapply h
  isplitl [Ha]; · iapply (Entails.of_eq e); iexact Ha
  iexact HR

theorem lv_rs (c : Dev nD) (k : Fin 15) : lv (dmaCell c 1 k) () = 2 := by rw [lv_dma]; rfl

/-- The reduction of a device's own rows with what its peers sent. -/
def redOf (r : Vec F S16x512 .f32) (s : Fin 15 → Vec F S1x16x512 .bf16) : FVec F S16x512 .bf16 :=
  k0_pay34 (k0_pay33 (k0_pay32 (k0_pay31 (k0_pay29 (k0_pay28 (k0_pay27 r (s 0)) (s 2) (s 3) (s 11)) (s 12) (s 14))
    (k0_pay30 (s 4)) (s 7) (s 10)) (s 1) (s 13) (s 6)) (s 8) (s 5)) (s 9)

/-- The last copy; the first two slots. -/
theorem part19_run (A : Dev nD → CommC F) (Z : CommC F) (K : GSem nD τ sig → ℕ) (c : Dev nD) {v2 : BitVec 32} {v413 : BitVec 32} {v429 : BitVec 32} {v524 : BitVec 32} {Q : (Σ' (_ : BitVec 32) (_ : BitVec 32), FVec F S16x512 .f32) → sProp 𝕄} {f : Vec F S256x512 .f32} {R R1 : sProp 𝕄}
    (h1 : iprop(know A Z K ∗ RsSt A c (fun k => ¬ low c k) (owesAg c) 15 ∗ R) ⊢ iprop(know A Z K ∗ WtSt A Z 1 c ordRs (owesAg c) 0 ∗ wholePt c accM f ∗ R1))

    (h : ∀ w0 w1, iprop(know A Z K ∗ WtSt A Z 1 c ordRs (owesAg c) 2 ∗ wholePt c accM f ∗ R1) ⊢ Q ⟨w0, w1, k0_pay27 (rowsOf f c) (slotVal A c 0)⟩) :
    iprop(know A Z K ∗ RsSt A c (fun k => ¬ low c k) (owesAg c) 14 ∗ R) ⊢ WP c (k0_part19 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v2 v413 v429 v524) Q := by
  rw [k0_part19_eq_skeleton]
  unfold k0_part19_skel
  refine rs_bind A Z K (fun k => ¬ low c k) (owesAg c) 14 rfl (cond30 c) (fun _ => chunk_peer 14 (k0_off30_eq c) rfl) (fun _ => slot_at 14 rfl)
    (fun _ => dev_peer 14 (k0_dev45_eq c) rfl) (fun _ => sem_at 0 14) (fun _ => sem_at 1 14) ?_
  refine h1.trans ?_
  refine ld_own c (k0_off31_eq c) ?_
  refine wait_bind A Z K 1 ordRs 2 (lv_rs c) (above_owesAg c) 0 rfl ?a ?b ?_
  case a => exact sem_at 1 0
  case b => exact rfl
  refine slot_bind A Z K ordRs 1 0 (by decide) rfl ?_
  refine wait_bind A Z K 1 ordRs 2 (lv_rs c) (above_owesAg c) 1 rfl ?a ?b ?_
  case a => exact sem_at 1 2
  case b => exact rfl
  exact WP_ret (h _ _)

/-- More slots. -/
theorem part20_run (A : Dev nD → CommC F) (Z : CommC F) (K : GSem nD τ sig → ℕ) (c : Dev nD) {v437 : BitVec 32} {v501 : BitVec 32} {v509 : BitVec 32} {v545 : FVec F S16x512 .f32} {Q : FVec F S16x512 .f32 → sProp 𝕄} {R : sProp 𝕄}
    (h : iprop(know A Z K ∗ WtSt A Z 1 c ordRs (owesAg c) 4 ∗ R) ⊢ Q (k0_pay28 v545 (slotVal A c 2) (slotVal A c 3) (slotVal A c 11))) :
    iprop(know A Z K ∗ WtSt A Z 1 c ordRs (owesAg c) 2 ∗ R) ⊢ WP c (k0_part20 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v437 v501 v509 v545) Q := by
  rw [k0_part20_eq_skeleton]
  unfold k0_part20_skel
  refine slot_bind A Z K ordRs 2 1 (by decide) rfl ?_
  refine wait_bind A Z K 1 ordRs 2 (lv_rs c) (above_owesAg c) 2 rfl ?a ?b ?_
  case a => exact sem_at 1 3
  case b => exact rfl
  refine slot_bind A Z K ordRs 3 2 (by decide) rfl ?_
  refine wait_bind A Z K 1 ordRs 2 (lv_rs c) (above_owesAg c) 3 rfl ?a ?b ?_
  case a => exact sem_at 1 11
  case b => exact rfl
  refine slot_bind A Z K ordRs 4 3 (by decide) rfl ?_
  exact WP_ret (h)

/-- More slots. -/
theorem part21_run (A : Dev nD → CommC F) (Z : CommC F) (K : GSem nD τ sig → ℕ) (c : Dev nD) {v445 : BitVec 32} {v525 : BitVec 32} {v578 : FVec F S16x512 .f32} {Q : (Σ' (_ : FVec F S16x512 .f32), FVec F S16x512 .bf16) → sProp 𝕄} {R : sProp 𝕄}
    (h : iprop(know A Z K ∗ WtSt A Z 1 c ordRs (owesAg c) 7 ∗ R) ⊢ Q ⟨k0_pay29 v578 (slotVal A c 12) (slotVal A c 14), k0_pay30 (slotVal A c 4)⟩) :
    iprop(know A Z K ∗ WtSt A Z 1 c ordRs (owesAg c) 4 ∗ R) ⊢ WP c (k0_part21 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v445 v525 v578) Q := by
  rw [k0_part21_eq_skeleton]
  unfold k0_part21_skel
  refine wait_bind A Z K 1 ordRs 2 (lv_rs c) (above_owesAg c) 4 rfl ?a ?b ?_
  case a => exact sem_at 1 12
  case b => exact rfl
  refine slot_bind A Z K ordRs 5 4 (by decide) rfl ?_
  refine wait_bind A Z K 1 ordRs 2 (lv_rs c) (above_owesAg c) 5 rfl ?a ?b ?_
  case a => exact sem_at 1 14
  case b => exact rfl
  refine slot_bind A Z K ordRs 6 5 (by decide) rfl ?_
  refine wait_bind A Z K 1 ordRs 2 (lv_rs c) (above_owesAg c) 6 rfl ?a ?b ?_
  case a => exact sem_at 1 4
  case b => exact rfl
  refine slot_bind A Z K ordRs 7 6 (by decide) rfl ?_
  exact WP_ret (h)

/-- More slots. -/
theorem part22_run (A : Dev nD → CommC F) (Z : CommC F) (K : GSem nD τ sig → ℕ) (c : Dev nD) {v421 : BitVec 32} {v469 : BitVec 32} {v493 : BitVec 32} {v600 : FVec F S16x512 .f32} {v609 : FVec F S16x512 .bf16} {Q : FVec F S16x512 .f32 → sProp 𝕄} {R : sProp 𝕄}
    (h : iprop(know A Z K ∗ WtSt A Z 1 c ordRs (owesAg c) 9 ∗ R) ⊢ Q (k0_pay31 v600 v609 (slotVal A c 7) (slotVal A c 10))) :
    iprop(know A Z K ∗ WtSt A Z 1 c ordRs (owesAg c) 7 ∗ R) ⊢ WP c (k0_part22 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v421 v469 v493 v600 v609) Q := by
  rw [k0_part22_eq_skeleton]
  unfold k0_part22_skel
  refine wait_bind A Z K 1 ordRs 2 (lv_rs c) (above_owesAg c) 7 rfl ?a ?b ?_
  case a => exact sem_at 1 7
  case b => exact rfl
  refine slot_bind A Z K ordRs 8 7 (by decide) rfl ?_
  refine wait_bind A Z K 1 ordRs 2 (lv_rs c) (above_owesAg c) 8 rfl ?a ?b ?_
  case a => exact sem_at 1 10
  case b => exact rfl
  refine slot_bind A Z K ordRs 9 8 (by decide) rfl ?_
  exact WP_ret (h)

/-- More slots. -/
theorem part23_run (A : Dev nD → CommC F) (Z : CommC F) (K : GSem nD τ sig → ℕ) (c : Dev nD) {v461 : BitVec 32} {v517 : BitVec 32} {v633 : FVec F S16x512 .f32} {Q : FVec F S16x512 .f32 → sProp 𝕄} {R : sProp 𝕄}
    (h : iprop(know A Z K ∗ WtSt A Z 1 c ordRs (owesAg c) 12 ∗ R) ⊢ Q (k0_pay32 v633 (slotVal A c 1) (slotVal A c 13) (slotVal A c 6))) :
    iprop(know A Z K ∗ WtSt A Z 1 c ordRs (owesAg c) 9 ∗ R) ⊢ WP c (k0_part23 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v461 v517 v633) Q := by
  rw [k0_part23_eq_skeleton]
  unfold k0_part23_skel
  refine wait_bind A Z K 1 ordRs 2 (lv_rs c) (above_owesAg c) 9 rfl ?a ?b ?_
  case a => exact sem_at 1 1
  case b => exact rfl
  refine slot_bind A Z K ordRs 10 9 (by decide) rfl ?_
  refine wait_bind A Z K 1 ordRs 2 (lv_rs c) (above_owesAg c) 10 rfl ?a ?b ?_
  case a => exact sem_at 1 13
  case b => exact rfl
  refine slot_bind A Z K ordRs 11 10 (by decide) rfl ?_
  refine wait_bind A Z K 1 ordRs 2 (lv_rs c) (above_owesAg c) 11 rfl ?a ?b ?_
  case a => exact sem_at 1 6
  case b => exact rfl
  refine slot_bind A Z K ordRs 12 11 (by decide) rfl ?_
  exact WP_ret (h)

/-- More slots. -/
theorem part24_run (A : Dev nD → CommC F) (Z : CommC F) (K : GSem nD τ sig → ℕ) (c : Dev nD) {v453 : BitVec 32} {v477 : BitVec 32} {v485 : BitVec 32} {v666 : FVec F S16x512 .f32} {Q : FVec F S16x512 .f32 → sProp 𝕄} {R : sProp 𝕄}
    (h : iprop(know A Z K ∗ WtSt A Z 1 c ordRs (owesAg c) 15 ∗ R) ⊢ Q (k0_pay33 v666 (slotVal A c 8) (slotVal A c 5))) :
    iprop(know A Z K ∗ WtSt A Z 1 c ordRs (owesAg c) 12 ∗ R) ⊢ WP c (k0_part24 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v453 v477 v485 v666) Q := by
  rw [k0_part24_eq_skeleton]
  unfold k0_part24_skel
  refine wait_bind A Z K 1 ordRs 2 (lv_rs c) (above_owesAg c) 12 rfl ?a ?b ?_
  case a => exact sem_at 1 8
  case b => exact rfl
  refine slot_bind A Z K ordRs 13 12 (by decide) rfl ?_
  refine wait_bind A Z K 1 ordRs 2 (lv_rs c) (above_owesAg c) 13 rfl ?a ?b ?_
  case a => exact sem_at 1 5
  case b => exact rfl
  refine slot_bind A Z K ordRs 14 13 (by decide) rfl ?_
  refine wait_bind A Z K 1 ordRs 2 (lv_rs c) (above_owesAg c) 14 rfl ?a ?b ?_
  case a => exact sem_at 1 9
  case b => exact rfl
  exact WP_ret (h)

/-- The reduced chunk is written back, and its first two copies go out. -/
theorem part25_run (A : Dev nD → CommC F) (Z : CommC F) (K : GSem nD τ sig → ℕ) (c : Dev nD) {v2 : BitVec 32} {v532 : BitVec 32} {v688 : FVec F S16x512 .f32} {Q : (Σ' (_ : BitVec 32) (_ : BitVec 32) (_ : BitVec 32) (_ : BitVec 32), BitVec 32) → sProp 𝕄} {g : CommC F} {R R1 R2 : sProp 𝕄}
    (h1 : iprop(know A Z K ∗ WtSt A Z 1 c ordRs (owesAg c) 15 ∗ R) ⊢ iprop(chunkPt c c fullShare g ∗ R1)) (h2 : iprop(chunkPt c c fullShare Z ∗ R1) ⊢ iprop(know A Z K ∗ AgSt Z c 0 ∗ R2))
    (hZ : ∀ x, Z ((chunkR c).emb x) = k0_pay34 v688 (slotVal A c 9) x)

    (h : ∀ w0 w1 w2 w3 w4, iprop(know A Z K ∗ AgSt Z c 2 ∗ R2) ⊢ Q ⟨w0, w1, w2, w3, w4⟩) :
    iprop(know A Z K ∗ WtSt A Z 1 c ordRs (owesAg c) 15 ∗ R) ⊢ WP c (k0_part25 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v2 v532 v688) Q := by
  rw [k0_part25_eq_skeleton]
  unfold k0_part25_skel
  refine slot_bind A Z K ordRs 15 14 (by decide) rfl ?_
  refine h1.trans ?_
  refine dead_own c (k0_off31_eq c) fun _ => ?_
  refine st_own c (Z := Z) hZ (k0_off31_eq c) ?_
  refine h2.trans ?_
  refine ag_bind A Z K 0 rfl (chunk_at c (k0_off33_eq c)) (chunk_at c (k0_off33_eq c)) (dev_peer 0 (k0_dev46_eq c) rfl) (sem_at 2 0) (sem_at 3 0) ?_
  refine ag_bind A Z K 1 rfl (chunk_at c (k0_off33_eq c)) (chunk_at c (k0_off33_eq c)) (dev_peer 1 (k0_dev47_eq c) rfl) (sem_at 2 1) (sem_at 3 1) ?_
  exact WP_ret (h _ _ _ _ _)

/-- More copies of the reduced chunk. -/
theorem part26_run (A : Dev nD → CommC F) (Z : CommC F) (K : GSem nD τ sig → ℕ) (c : Dev nD) {v2 : BitVec 32} {v727 : BitVec 32} {c0_i32_656 : BitVec 32} {Q : (Σ' (_ : BitVec 32) (_ : BitVec 32), BitVec 32) → sProp 𝕄} {R : sProp 𝕄}
    (h : ∀ w0 w1 w2, iprop(know A Z K ∗ AgSt Z c 5 ∗ R) ⊢ Q ⟨w0, w1, w2⟩) :
    iprop(know A Z K ∗ AgSt Z c 2 ∗ R) ⊢ WP c (k0_part26 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v2 v727 c0_i32_656) Q := by
  rw [k0_part26_eq_skeleton]
  unfold k0_part26_skel
  refine ag_bind A Z K 2 rfl (chunk_at c (k0_off33_eq c)) (chunk_at c (k0_off33_eq c)) (dev_peer 2 (k0_dev48_eq c) rfl) (sem_at 2 2) (sem_at 3 2) ?_
  refine ag_bind A Z K 3 rfl (chunk_at c (k0_off33_eq c)) (chunk_at c (k0_off33_eq c)) (dev_peer 3 (k0_dev49_eq c) rfl) (sem_at 2 3) (sem_at 3 3) ?_
  refine ag_bind A Z K 4 rfl (chunk_at c (k0_off33_eq c)) (chunk_at c (k0_off33_eq c)) (dev_peer 4 (k0_dev50_eq c) rfl) (sem_at 2 4) (sem_at 3 4) ?_
  exact WP_ret (h _ _ _)

/-- More copies of the reduced chunk. -/
theorem part27_run (A : Dev nD → CommC F) (Z : CommC F) (K : GSem nD τ sig → ℕ) (c : Dev nD) {v2 : BitVec 32} {Q : (Σ' (_ : BitVec 32) (_ : BitVec 32), BitVec 32) → sProp 𝕄} {R : sProp 𝕄}
    (h : ∀ w0 w1 w2, iprop(know A Z K ∗ AgSt Z c 8 ∗ R) ⊢ Q ⟨w0, w1, w2⟩) :
    iprop(know A Z K ∗ AgSt Z c 5 ∗ R) ⊢ WP c (k0_part27 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v2) Q := by
  rw [k0_part27_eq_skeleton]
  unfold k0_part27_skel
  refine ag_bind A Z K 5 rfl (chunk_at c (k0_off33_eq c)) (chunk_at c (k0_off33_eq c)) (dev_peer 5 (k0_dev51_eq c) rfl) (sem_at 2 5) (sem_at 3 5) ?_
  refine ag_bind A Z K 6 rfl (chunk_at c (k0_off33_eq c)) (chunk_at c (k0_off33_eq c)) (dev_peer 6 (k0_dev52_eq c) rfl) (sem_at 2 6) (sem_at 3 6) ?_
  refine ag_bind A Z K 7 rfl (chunk_at c (k0_off33_eq c)) (chunk_at c (k0_off33_eq c)) (dev_peer 7 (k0_dev53_eq c) rfl) (sem_at 2 7) (sem_at 3 7) ?_
  exact WP_ret (h _ _ _)

/-- More copies of the reduced chunk. -/
theorem part28_run (A : Dev nD → CommC F) (Z : CommC F) (K : GSem nD τ sig → ℕ) (c : Dev nD) {v2 : BitVec 32} {Q : (Σ' (_ : BitVec 32) (_ : BitVec 32), BitVec 32) → sProp 𝕄} {R : sProp 𝕄}
    (h : ∀ w0 w1 w2, iprop(know A Z K ∗ AgSt Z c 11 ∗ R) ⊢ Q ⟨w0, w1, w2⟩) :
    iprop(know A Z K ∗ AgSt Z c 8 ∗ R) ⊢ WP c (k0_part28 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v2) Q := by
  rw [k0_part28_eq_skeleton]
  unfold k0_part28_skel
  refine ag_bind A Z K 8 rfl (chunk_at c (k0_off33_eq c)) (chunk_at c (k0_off33_eq c)) (dev_peer 8 (k0_dev54_eq c) rfl) (sem_at 2 8) (sem_at 3 8) ?_
  refine ag_bind A Z K 9 rfl (chunk_at c (k0_off33_eq c)) (chunk_at c (k0_off33_eq c)) (dev_peer 9 (k0_dev55_eq c) rfl) (sem_at 2 9) (sem_at 3 9) ?_
  refine ag_bind A Z K 10 rfl (chunk_at c (k0_off33_eq c)) (chunk_at c (k0_off33_eq c)) (dev_peer 10 (k0_dev56_eq c) rfl) (sem_at 2 10) (sem_at 3 10) ?_
  exact WP_ret (h _ _ _)

/-- More copies of the reduced chunk. -/
theorem part29_run (A : Dev nD → CommC F) (Z : CommC F) (K : GSem nD τ sig → ℕ) (c : Dev nD) {v2 : BitVec 32} {Q : (Σ' (_ : BitVec 32) (_ : BitVec 32), BitVec 32) → sProp 𝕄} {R : sProp 𝕄}
    (h : ∀ w0 w1 w2, iprop(know A Z K ∗ AgSt Z c 15 ∗ R) ⊢ Q ⟨w0, w1, w2⟩) :
    iprop(know A Z K ∗ AgSt Z c 11 ∗ R) ⊢ WP c (k0_part29 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v2) Q := by
  rw [k0_part29_eq_skeleton]
  unfold k0_part29_skel
  refine ag_bind A Z K 11 rfl (chunk_at c (k0_off33_eq c)) (chunk_at c (k0_off33_eq c)) (dev_peer 11 (k0_dev57_eq c) rfl) (sem_at 2 11) (sem_at 3 11) ?_
  refine ag_bind A Z K 12 rfl (chunk_at c (k0_off33_eq c)) (chunk_at c (k0_off33_eq c)) (dev_peer 12 (k0_dev58_eq c) rfl) (sem_at 2 12) (sem_at 3 12) ?_
  refine ag_bind A Z K 13 rfl (chunk_at c (k0_off33_eq c)) (chunk_at c (k0_off33_eq c)) (dev_peer 13 (k0_dev59_eq c) rfl) (sem_at 2 13) (sem_at 3 13) ?_
  refine ag_bind A Z K 14 rfl (chunk_at c (k0_off33_eq c)) (chunk_at c (k0_off33_eq c)) (dev_peer 14 (k0_dev60_eq c) rfl) (sem_at 2 14) (sem_at 3 14) ?_
  exact WP_ret (h _ _ _)

end Cert.Exchange

end
-- ==== Proof.Drain.lean ====
/-
  The body's last stretch: the peers' chunks arrive, the result is written, the device's own copies end.
-/
module

public import proofs.«01_k».proof.Proof.Reduce

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

theorem lv_ag (c : Dev nD) (k : Fin 15) : lv (dmaCell c 3 k) () = 3 := by rw [lv_dma]; rfl
theorem lv_rsSent (c : Dev nD) (k : Fin 15) : lv (dmaCell c 0 k) () = 0 := by rw [lv_dma]; rfl
theorem lv_agSent (c : Dev nD) (k : Fin 15) : lv (dmaCell c 2 k) () = 0 := by rw [lv_dma]; rfl

/-- The whole communication buffer, at a share. -/
abbrev commAll (c : Dev nD) (q : PosShare TreeShare) (f : CommC F) : sProp 𝕄 := commM.view.loc (c : Thread nD τ) ↦[Finset.univ]{q} f

/-- Read the whole product. -/
theorem ld_all (c : Dev nD) {q : PosShare TreeShare} {f : CommC F} {α : Type} {Φ : α → sProp 𝕄} {R : sProp 𝕄} {off : Fin 2 → ℕ}
    {inb : ∀ a, off a + S256x512.size a ≤ S256x512.size a} (hoff : off = fun _ => 0)
    {hl : commM.view.LoadsAt (Rect.unit (s := S256x512) off S256x512.size inb).toLoadRect}
    {k : (S256x512.Idx → Elt F .bf16) → Prog (TpuEff nD τ sig (Elt F) Λ₀ .tc) α}
    (h : iprop(commAll c q f ∗ R) ⊢ WP c (k f) Φ) :
    iprop(commAll c q f ∗ R) ⊢ WP c (Prog.lift (.load commM (Rect.unit (s := S256x512) off S256x512.size inb).toLoadRect hl) >>= k) Φ := by
  have hv : commM.view.readAt (Elt F) (Rect.unit (s := S256x512) off S256x512.size inb).toLoadRect f = f :=
    Memref.readAt_unit_zero (Elt F) cc0_scratch2 hoff inb f
  iintro ⟨Ha, HR⟩
  iapply (load_bind c (m := commM) (S := Finset.univ) (f := f) (q := q) (Finset.subset_univ _))
  isplitl [Ha]; · iexact Ha
  iintro Ha
  rw [hv]
  iapply h
  isplitl [Ha]; · iexact Ha
  iexact HR

/-- A read of the result window that nothing uses. -/
theorem dead_out (c : Dev nD) {P : sProp 𝕄} {f : Vec F S2x128x512 .f32} {α : Type} {Φ : α → sProp 𝕄} {R : sProp 𝕄} {off : Fin 3 → ℕ}
    {inb : ∀ a, off a + S2x128x512.size a ≤ S2x128x512.size a}
    {hl : outM.view.LoadsAt (Rect.unit (s := S2x128x512) off S2x128x512.size inb).toLoadRect}
    {k : (S2x128x512.Idx → Elt F .f32) → Prog (TpuEff nD τ sig (Elt F) Λ₀ .tc) α}
    (h : ∀ v, iprop(P ∗ wholePt c outM f ∗ R) ⊢ WP c (k v) Φ) :
    iprop(P ∗ wholePt c outM f ∗ R) ⊢ WP c (Prog.lift (.load outM (Rect.unit (s := S2x128x512) off S2x128x512.size inb).toLoadRect hl) >>= k) Φ := by
  have h := h (outM.view.readAt (Elt F) (Rect.unit (s := S2x128x512) off S2x128x512.size inb).toLoadRect f)
  iintro ⟨HP, Ha, HR⟩
  iapply (load_bind c (m := outM) (S := Finset.univ) (f := f) (q := fullShare) (Finset.subset_univ _))
  isplitl [Ha]; · iexact Ha
  iintro Ha
  iapply h
  isplitl [HP]; · iexact HP
  isplitl [Ha]; · iexact Ha
  iexact HR

/-- The result is written. -/
theorem st_out (c : Dev nD) {P : sProp 𝕄} {f w : Vec F S2x128x512 .f32} {α : Type} {Φ : α → sProp 𝕄} {R : sProp 𝕄} {off : Fin 3 → ℕ}
    {inb : ∀ a, off a + S2x128x512.size a ≤ S2x128x512.size a} (hoff : off = fun _ => 0)
    {hx : (outM.access (Rect.unit (s := S2x128x512) off S2x128x512.size inb)).Stores Finset.univ}
    {hm : (Finset.univ : Finset (Rect.unit (s := S2x128x512) off S2x128x512.size inb).shape.Idx) = Finset.univ
      ∨ ∀ a, (Rect.unit (s := S2x128x512) off S2x128x512.size inb).stride a = 1}
    {k : PUnit → Prog (TpuEff nD τ sig (Elt F) Λ₀ .tc) α}
    (h : iprop(P ∗ wholePt c outM w ∗ R) ⊢ WP c (k ⟨⟩) Φ) :
    iprop(P ∗ wholePt c outM f ∗ R)
      ⊢ WP c (Prog.lift (.store outM (Rect.unit (s := S2x128x512) off S2x128x512.size inb) w Finset.univ hx hm) >>= k) Φ := by
  have e : (outM.access (Rect.unit (s := S2x128x512) off S2x128x512.size inb)).write (Elt F) f w Finset.univ = w :=
    Memref.write_access_unit_zero_univ (Elt F) cc0_stg5_0 hoff inb f w
  iintro ⟨HP, Ha, HR⟩
  iapply (store_bind c (m := outM) (r := Rect.unit (s := S2x128x512) off S2x128x512.size inb) (S := Finset.univ) (f := f) (Finset.subset_univ _))
  isplitl [Ha]; · iexact Ha
  iintro Ha
  rw [e]
  iapply h
  isplitl [HP]; · iexact HP
  isplitl [Ha]; · iexact Ha
  iexact HR

/-- Waits for the peers' chunks. -/
theorem part30_run (A : Dev nD → CommC F) (Z : CommC F) (K : GSem nD τ sig → ℕ) (c : Dev nD) {v706 : BitVec 32} {v716 : BitVec 32} {v726 : BitVec 32} {v736 : BitVec 32} {v746 : BitVec 32} {Q : PUnit → sProp 𝕄} {R : sProp 𝕄}
    (h : iprop(know A Z K ∗ WtSt A Z 3 c id 0 4 ∗ R) ⊢ Q ⟨⟩) :
    iprop(know A Z K ∗ WtSt A Z 3 c id 0 0 ∗ R) ⊢ WP c (k0_part30 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v706 v716 v726 v736 v746) Q := by
  rw [k0_part30_eq_skeleton]
  unfold k0_part30_skel
  refine wait_bind A Z K 3 id 3 (lv_ag c) (above_zero 3) 0 rfl ?a ?b ?_
  case a => exact sem_at 3 0
  case b => exact rfl
  refine wait_bind A Z K 3 id 3 (lv_ag c) (above_zero 3) 1 rfl ?a ?b ?_
  case a => exact sem_at 3 1
  case b => exact rfl
  refine wait_bind A Z K 3 id 3 (lv_ag c) (above_zero 3) 2 rfl ?a ?b ?_
  case a => exact sem_at 3 2
  case b => exact rfl
  refine wait_bind A Z K 3 id 3 (lv_ag c) (above_zero 3) 3 rfl ?a ?b ?_
  case a => exact sem_at 3 3
  case b => exact rfl
  exact WP_ret (h)

/-- Waits for the peers' chunks. -/
theorem part31_run (A : Dev nD → CommC F) (Z : CommC F) (K : GSem nD τ sig → ℕ) (c : Dev nD) {v756 : BitVec 32} {v766 : BitVec 32} {v776 : BitVec 32} {v786 : BitVec 32} {v796 : BitVec 32} {Q : (Σ' (_ : BitVec 32), BitVec 32) → sProp 𝕄} {R : sProp 𝕄}
    (h : ∀ w0 w1, iprop(know A Z K ∗ WtSt A Z 3 c id 0 9 ∗ R) ⊢ Q ⟨w0, w1⟩) :
    iprop(know A Z K ∗ WtSt A Z 3 c id 0 4 ∗ R) ⊢ WP c (k0_part31 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v756 v766 v776 v786 v796) Q := by
  rw [k0_part31_eq_skeleton]
  unfold k0_part31_skel
  refine wait_bind A Z K 3 id 3 (lv_ag c) (above_zero 3) 4 rfl ?a ?b ?_
  case a => exact sem_at 3 4
  case b => exact rfl
  refine wait_bind A Z K 3 id 3 (lv_ag c) (above_zero 3) 5 rfl ?a ?b ?_
  case a => exact sem_at 3 5
  case b => exact rfl
  refine wait_bind A Z K 3 id 3 (lv_ag c) (above_zero 3) 6 rfl ?a ?b ?_
  case a => exact sem_at 3 6
  case b => exact rfl
  refine wait_bind A Z K 3 id 3 (lv_ag c) (above_zero 3) 7 rfl ?a ?b ?_
  case a => exact sem_at 3 7
  case b => exact rfl
  refine wait_bind A Z K 3 id 3 (lv_ag c) (above_zero 3) 8 rfl ?a ?b ?_
  case a => exact sem_at 3 8
  case b => exact rfl
  exact WP_ret (h _ _)

/-- Waits for the peers' chunks. -/
theorem part32_run (A : Dev nD → CommC F) (Z : CommC F) (K : GSem nD τ sig → ℕ) (c : Dev nD) {v806 : BitVec 32} {v816 : BitVec 32} {v826 : BitVec 32} {v836 : BitVec 32} {v909 : BitVec 32} {c0_i32_812 : BitVec 32} {Q : PUnit → sProp 𝕄} {R : sProp 𝕄}
    (h : iprop(know A Z K ∗ WtSt A Z 3 c id 0 14 ∗ R) ⊢ Q ⟨⟩) :
    iprop(know A Z K ∗ WtSt A Z 3 c id 0 9 ∗ R) ⊢ WP c (k0_part32 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v806 v816 v826 v836 v909 c0_i32_812) Q := by
  rw [k0_part32_eq_skeleton]
  unfold k0_part32_skel
  refine wait_bind A Z K 3 id 3 (lv_ag c) (above_zero 3) 9 rfl ?a ?b ?_
  case a => exact sem_at 3 9
  case b => exact rfl
  refine wait_bind A Z K 3 id 3 (lv_ag c) (above_zero 3) 10 rfl ?a ?b ?_
  case a => exact sem_at 3 10
  case b => exact rfl
  refine wait_bind A Z K 3 id 3 (lv_ag c) (above_zero 3) 11 rfl ?a ?b ?_
  case a => exact sem_at 3 11
  case b => exact rfl
  refine wait_bind A Z K 3 id 3 (lv_ag c) (above_zero 3) 12 rfl ?a ?b ?_
  case a => exact sem_at 3 12
  case b => exact rfl
  refine wait_bind A Z K 3 id 3 (lv_ag c) (above_zero 3) 13 rfl ?a ?b ?_
  case a => exact sem_at 3 13
  case b => exact rfl
  exact WP_ret (h)

/-- The last chunk; the result; the first two of the device's own copies have been read. -/
theorem part33_run (A : Dev nD → CommC F) (Z : CommC F) (K : GSem nD τ sig → ℕ) (c : Dev nD) {v846 : BitVec 32} {Q : PUnit → sProp 𝕄} {q : PosShare TreeShare} {f : Vec F S2x128x512 .f32} {R R1 R2 : sProp 𝕄}
    (h1 : iprop(know A Z K ∗ WtSt A Z 3 c id 0 15 ∗ R) ⊢ iprop(commAll c q Z ∗ wholePt c outM f ∗ R1))
    (h2 : iprop(commAll c q Z ∗ wholePt c outM (k0_pay35 Z) ∗ R1) ⊢ iprop(know A Z K ∗ WtSt A Z 0 c id 0 0 ∗ R2))

    (h : iprop(know A Z K ∗ WtSt A Z 0 c id 0 2 ∗ R2) ⊢ Q ⟨⟩) :
    iprop(know A Z K ∗ WtSt A Z 3 c id 0 14 ∗ R) ⊢ WP c (k0_part33 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c v846) Q := by
  rw [k0_part33_eq_skeleton]
  unfold k0_part33_skel
  refine wait_bind A Z K 3 id 3 (lv_ag c) (above_zero 3) 14 rfl ?a ?b ?_
  case a => exact sem_at 3 14
  case b => exact rfl
  refine h1.trans ?_
  refine ld_all c (by decide) ?_
  refine dead_out c fun _ => ?_
  refine st_out c (by decide) ?_
  refine h2.trans ?_
  refine wait_bind A Z K 0 id 0 (lv_rsSent c) (above_zero 0) 0 rfl ?a ?b ?_
  case a => exact sem_at 0 0
  case b => exact rfl
  refine wait_bind A Z K 0 id 0 (lv_rsSent c) (above_zero 0) 1 rfl ?a ?b ?_
  case a => exact sem_at 0 1
  case b => exact rfl
  exact WP_ret (h)

/-- Waits for the device's own copies. -/
theorem part34_run (A : Dev nD → CommC F) (Z : CommC F) (K : GSem nD τ sig → ℕ) (c : Dev nD) {Q : PUnit → sProp 𝕄} {R : sProp 𝕄}
    (h : iprop(know A Z K ∗ WtSt A Z 0 c id 0 7 ∗ R) ⊢ Q ⟨⟩) :
    iprop(know A Z K ∗ WtSt A Z 0 c id 0 2 ∗ R) ⊢ WP c (k0_part34 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c) Q := by
  rw [k0_part34_eq_skeleton]
  unfold k0_part34_skel
  refine wait_bind A Z K 0 id 0 (lv_rsSent c) (above_zero 0) 2 rfl ?a ?b ?_
  case a => exact sem_at 0 2
  case b => exact rfl
  refine wait_bind A Z K 0 id 0 (lv_rsSent c) (above_zero 0) 3 rfl ?a ?b ?_
  case a => exact sem_at 0 3
  case b => exact rfl
  refine wait_bind A Z K 0 id 0 (lv_rsSent c) (above_zero 0) 4 rfl ?a ?b ?_
  case a => exact sem_at 0 4
  case b => exact rfl
  refine wait_bind A Z K 0 id 0 (lv_rsSent c) (above_zero 0) 5 rfl ?a ?b ?_
  case a => exact sem_at 0 5
  case b => exact rfl
  refine wait_bind A Z K 0 id 0 (lv_rsSent c) (above_zero 0) 6 rfl ?a ?b ?_
  case a => exact sem_at 0 6
  case b => exact rfl
  exact WP_ret (h)

/-- Waits for the device's own copies. -/
theorem part35_run (A : Dev nD → CommC F) (Z : CommC F) (K : GSem nD τ sig → ℕ) (c : Dev nD) {Q : PUnit → sProp 𝕄} {R : sProp 𝕄}
    (h : iprop(know A Z K ∗ WtSt A Z 0 c id 0 12 ∗ R) ⊢ Q ⟨⟩) :
    iprop(know A Z K ∗ WtSt A Z 0 c id 0 7 ∗ R) ⊢ WP c (k0_part35 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c) Q := by
  rw [k0_part35_eq_skeleton]
  unfold k0_part35_skel
  refine wait_bind A Z K 0 id 0 (lv_rsSent c) (above_zero 0) 7 rfl ?a ?b ?_
  case a => exact sem_at 0 7
  case b => exact rfl
  refine wait_bind A Z K 0 id 0 (lv_rsSent c) (above_zero 0) 8 rfl ?a ?b ?_
  case a => exact sem_at 0 8
  case b => exact rfl
  refine wait_bind A Z K 0 id 0 (lv_rsSent c) (above_zero 0) 9 rfl ?a ?b ?_
  case a => exact sem_at 0 9
  case b => exact rfl
  refine wait_bind A Z K 0 id 0 (lv_rsSent c) (above_zero 0) 10 rfl ?a ?b ?_
  case a => exact sem_at 0 10
  case b => exact rfl
  refine wait_bind A Z K 0 id 0 (lv_rsSent c) (above_zero 0) 11 rfl ?a ?b ?_
  case a => exact sem_at 0 11
  case b => exact rfl
  exact WP_ret (h)

/-- The last of the scatter's copies, the first of the gather's. -/
theorem part36_run (A : Dev nD → CommC F) (Z : CommC F) (K : GSem nD τ sig → ℕ) (c : Dev nD) {Q : PUnit → sProp 𝕄} {R R1 : sProp 𝕄}
    (h1 : iprop(know A Z K ∗ WtSt A Z 0 c id 0 15 ∗ R) ⊢ iprop(know A Z K ∗ WtSt A Z 2 c id 0 0 ∗ R1))

    (h : iprop(know A Z K ∗ WtSt A Z 2 c id 0 2 ∗ R1) ⊢ Q ⟨⟩) :
    iprop(know A Z K ∗ WtSt A Z 0 c id 0 12 ∗ R) ⊢ WP c (k0_part36 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c) Q := by
  rw [k0_part36_eq_skeleton]
  unfold k0_part36_skel
  refine wait_bind A Z K 0 id 0 (lv_rsSent c) (above_zero 0) 12 rfl ?a ?b ?_
  case a => exact sem_at 0 12
  case b => exact rfl
  refine wait_bind A Z K 0 id 0 (lv_rsSent c) (above_zero 0) 13 rfl ?a ?b ?_
  case a => exact sem_at 0 13
  case b => exact rfl
  refine wait_bind A Z K 0 id 0 (lv_rsSent c) (above_zero 0) 14 rfl ?a ?b ?_
  case a => exact sem_at 0 14
  case b => exact rfl
  refine h1.trans ?_
  refine wait_bind A Z K 2 id 0 (lv_agSent c) (above_zero 0) 0 rfl ?a ?b ?_
  case a => exact sem_at 2 0
  case b => exact rfl
  refine wait_bind A Z K 2 id 0 (lv_agSent c) (above_zero 0) 1 rfl ?a ?b ?_
  case a => exact sem_at 2 1
  case b => exact rfl
  exact WP_ret (h)

/-- Waits for the gather's own copies. -/
theorem part37_run (A : Dev nD → CommC F) (Z : CommC F) (K : GSem nD τ sig → ℕ) (c : Dev nD) {Q : PUnit → sProp 𝕄} {R : sProp 𝕄}
    (h : iprop(know A Z K ∗ WtSt A Z 2 c id 0 8 ∗ R) ⊢ Q ⟨⟩) :
    iprop(know A Z K ∗ WtSt A Z 2 c id 0 2 ∗ R) ⊢ WP c (k0_part37 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c) Q := by
  rw [k0_part37_eq_skeleton]
  unfold k0_part37_skel
  refine wait_bind A Z K 2 id 0 (lv_agSent c) (above_zero 0) 2 rfl ?a ?b ?_
  case a => exact sem_at 2 2
  case b => exact rfl
  refine wait_bind A Z K 2 id 0 (lv_agSent c) (above_zero 0) 3 rfl ?a ?b ?_
  case a => exact sem_at 2 3
  case b => exact rfl
  refine wait_bind A Z K 2 id 0 (lv_agSent c) (above_zero 0) 4 rfl ?a ?b ?_
  case a => exact sem_at 2 4
  case b => exact rfl
  refine wait_bind A Z K 2 id 0 (lv_agSent c) (above_zero 0) 5 rfl ?a ?b ?_
  case a => exact sem_at 2 5
  case b => exact rfl
  refine wait_bind A Z K 2 id 0 (lv_agSent c) (above_zero 0) 6 rfl ?a ?b ?_
  case a => exact sem_at 2 6
  case b => exact rfl
  refine wait_bind A Z K 2 id 0 (lv_agSent c) (above_zero 0) 7 rfl ?a ?b ?_
  case a => exact sem_at 2 7
  case b => exact rfl
  exact WP_ret (h)

/-- Waits for the gather's own copies. -/
theorem part38_run (A : Dev nD → CommC F) (Z : CommC F) (K : GSem nD τ sig → ℕ) (c : Dev nD) {Q : PUnit → sProp 𝕄} {R : sProp 𝕄}
    (h : iprop(know A Z K ∗ WtSt A Z 2 c id 0 14 ∗ R) ⊢ Q ⟨⟩) :
    iprop(know A Z K ∗ WtSt A Z 2 c id 0 8 ∗ R) ⊢ WP c (k0_part38 (F := F) xM (Memref.isWhole_whole _) wqM (Memref.isWhole_whole _) kM (Memref.isWhole_whole _) vM (Memref.isWhole_whole _) woM (Memref.isWhole_whole _)
      outM (Memref.isWhole_whole _) accM (Memref.isWhole_whole _) ctxM (Memref.isWhole_whole _) commM (Memref.isWhole_whole _) stageM (Memref.isWhole_whole _)
      cc0_scratch4 cc0_scratch5 cc0_scratch6 cc0_scratch7 c) Q := by
  rw [k0_part38_eq_skeleton]
  unfold k0_part38_skel
  refine wait_bind A Z K 2 id 0 (lv_agSent c) (above_zero 0) 8 rfl ?a ?b ?_
  case a => exact sem_at 2 8
  case b => exact rfl
  refine wait_bind A Z K 2 id 0 (lv_agSent c) (above_zero 0) 9 rfl ?a ?b ?_
  case a => exact sem_at 2 9
  case b => exact rfl
  refine wait_bind A Z K 2 id 0 (lv_agSent c) (above_zero 0) 10 rfl ?a ?b ?_
  case a => exact sem_at 2 10
  case b => exact rfl
  refine wait_bind A Z K 2 id 0 (lv_agSent c) (above_zero 0) 11 rfl ?a ?b ?_
  case a => exact sem_at 2 11
  case b => exact rfl
  refine wait_bind A Z K 2 id 0 (lv_agSent c) (above_zero 0) 12 rfl ?a ?b ?_
  case a => exact sem_at 2 12
  case b => exact rfl
  refine wait_bind A Z K 2 id 0 (lv_agSent c) (above_zero 0) 13 rfl ?a ?b ?_
  case a => exact sem_at 2 13
  case b => exact rfl
  exact WP_ret (h)

end Cert.Exchange

end
-- ==== Proof.Shares.lean ====
/-
  How the buffers are cut up and put together again: chunks of the communication buffer among the peers, shares of a chunk, slots
  of the staging buffer, halves of the accumulator.
-/
module

public import proofs.«01_k».proof.Proof.Drain

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-! ## Peers -/

/-- A family over all devices: the device itself, then its fifteen peers. -/
theorem bs_peers (c : Dev nD) (Φ : Fin 16 → sProp 𝕄) :
    bigSep Finset.univ Φ = iprop(Φ c ∗ bigSep Finset.univ fun k : Fin 15 => Φ (peer c k)) := by
  have e : (Finset.univ : Finset (Fin 16)) = insert c (Finset.univ.map ⟨fun k : Fin 15 => peer c k, fun _ _ h => peer_inj c h⟩) := by
    ext d
    simp only [Finset.mem_univ, Finset.mem_insert, Finset.mem_map, true_and, true_iff]
    by_cases h : d = c
    · exact .inl h
    · exact .inr (peer_surj c d h)
  have hn : c ∉ (Finset.univ.map ⟨fun k : Fin 15 => peer c k, fun _ _ h => peer_inj c h⟩ : Finset (Fin 16)) := by
    rw [Finset.mem_map]
    rintro ⟨k, -, hk⟩
    exact peer_ne c k hk
  rw [e, bs_insert hn, bigSep_map]
  rfl

/-- A family over the fifteen indices, in the opposite order. -/
theorem bs_rev (Φ : Fin 15 → sProp 𝕄) : bigSep Finset.univ (fun k : Fin 15 => Φ k.rev) = bigSep Finset.univ Φ :=
  (bigSep_univ_equiv Fin.revPerm Φ).symm

/-- In the order of the waits. -/
theorem bs_ord (Φ : Fin 15 → sProp 𝕄) : bigSep Finset.univ (fun k : Fin 15 => Φ (ordRs k)) = bigSep Finset.univ Φ :=
  (bigSep_univ_equiv (Equiv.ofBijective ordRs (by decide)) Φ).symm

/-! ## Chunks -/

/-- A points-to over a set is its parts' points-tos, when the parts make up the set and are apart. -/
theorem pt_parts {ℓ : Loc nD τ sig} {T : Type} [DecidableEq T] (S : Finset T) (I : Finset (Idx ℓ)) (K : T → Finset (Idx ℓ))
    (hI : ∀ i, i ∈ I ↔ ∃ t ∈ S, i ∈ K t) (hd : ∀ t t', t ≠ t' → ∀ i, i ∈ K t → i ∉ K t') (q : PosShare TreeShare) (f : Buf (Elt F) ℓ) :
    (ℓ ↦[I]{q} f : sProp 𝕄) = bigSep S fun t => ℓ ↦[K t]{q} f := by
  obtain rfl : I = S.biUnion K := Finset.ext fun i => (hI i).trans Finset.mem_biUnion.symm
  exact pointsTo_biUnion S K fun t _ t' _ h => Finset.disjoint_left.mpr fun i => hd t t' h i

/-- Parts held at contents of their own are the set held at some contents. -/
theorem pt_parts_join {ℓ : Loc nD τ sig} {T : Type} [DecidableEq T] (S : Finset T) (I : Finset (Idx ℓ)) (K : T → Finset (Idx ℓ))
    (hI : ∀ i, i ∈ I ↔ ∃ t ∈ S, i ∈ K t) (hd : ∀ t t', t ≠ t' → ∀ i, i ∈ K t → i ∉ K t') (q : PosShare TreeShare) (fs : T → Buf (Elt F) ℓ)
    (f₀ : Buf (Elt F) ℓ) : (bigSep S fun t => (ℓ ↦[K t]{q} fs t : sProp 𝕄)) ⊢ iprop(∃ g, ℓ ↦[I]{q} g) := by
  obtain rfl : I = S.biUnion K := Finset.ext fun i => (hI i).trans Finset.mem_biUnion.symm
  refine BIBase.Entails.trans (pointsTo_biUnion_join S K fs f₀ fun t _ t' _ h => Finset.disjoint_left.mpr fun i => hd t t' h i) ?_
  iintro ⟨%g, -, H⟩
  iexists g
  iexact H

theorem mem_chunkM (i : Fin 16) (x : S256x512.Idx) : x ∈ (chunkM i).view.set ↔ (x 0).val / 16 = i.val := by
  rw [chunkM_set]; simp only [chunkSet, Finset.mem_filter, Finset.mem_univ, true_and]
theorem mem_slotM (k : Fin 15) (x : S15x16x512.Idx) : x ∈ (slotM k).view.set ↔ (x 0).val = k.val := by
  rw [slotM_set]; simp only [slotSet, Finset.mem_filter, Finset.mem_univ, true_and]

theorem chunk_cover (x : S256x512.Idx) : ∃ t ∈ (Finset.univ : Finset (Fin 16)), x ∈ (chunkM t).view.set := by
  have h0 : (x 0).val < 256 := (x 0).isLt
  exact ⟨⟨(x 0).val / 16, by omega⟩, Finset.mem_univ _, (mem_chunkM _ x).mpr rfl⟩
theorem chunk_apart (t t' : Fin 16) (h : t ≠ t') (x : S256x512.Idx) (hx : x ∈ (chunkM t).view.set) : x ∉ (chunkM t').view.set := fun hx' =>
  h (Fin.ext (((mem_chunkM t x).mp hx).symm.trans ((mem_chunkM t' x).mp hx')))
theorem half_cover (b : Fin 2) (x : S256x512.Idx) : x ∈ halfSet b ↔ ∃ t ∈ halfChunks b, x ∈ (chunkM t).view.set := by
  have h0 : (x 0).val < 256 := (x 0).isLt
  have hb : x ∈ halfSet b ↔ (x 0).val / 128 = b.val := by simp only [halfSet, Finset.mem_filter, Finset.mem_univ, true_and]
  have hc : ∀ t : Fin 16, t ∈ halfChunks b ↔ t.val / 8 = b.val := fun t => by simp only [halfChunks, Finset.mem_filter, Finset.mem_univ, true_and]
  rw [hb]
  constructor
  · intro hx
    exact ⟨⟨(x 0).val / 16, by omega⟩, (hc _).mpr (by show (x 0).val / 16 / 8 = _; omega), (mem_chunkM _ x).mpr rfl⟩
  · rintro ⟨t, ht, hx⟩
    have ht := (hc t).mp ht
    have hx := (mem_chunkM t x).mp hx
    omega
theorem slot_cover (x : S15x16x512.Idx) : ∃ t ∈ (Finset.univ : Finset (Fin 15)), x ∈ (slotM t).view.set :=
  ⟨⟨(x 0).val, (x 0).isLt⟩, Finset.mem_univ _, (mem_slotM _ x).mpr rfl⟩
theorem slot_apart (t t' : Fin 15) (h : t ≠ t') (x : S15x16x512.Idx) (hx : x ∈ (slotM t).view.set) : x ∉ (slotM t').view.set := fun hx' =>
  h (Fin.ext (((mem_slotM t x).mp hx).symm.trans ((mem_slotM t' x).mp hx')))

theorem chunks_all (c : Dev nD) (q : PosShare TreeShare) (f : CommC F) :
    commAll c q f = bigSep Finset.univ fun i : Fin 16 => chunkPt c i q f :=
  pt_parts (ℓ := commM.view.loc (c : Thread nD τ)) Finset.univ _ (fun i => (chunkM i).view.set)
    (fun x => ⟨fun _ => chunk_cover x, fun _ => Finset.mem_univ _⟩) chunk_apart q f

theorem chunks_half (c : Dev nD) (b : Fin 2) (f : CommC F) :
    commHalf c b f = bigSep Finset.univ fun i : Fin 16 => if i.val / 8 = b.val then chunkPt c i fullShare f else iprop(emp) := by
  have h : commHalf c b f = bigSep (halfChunks b) fun i : Fin 16 => chunkPt c i fullShare f :=
    pt_parts (ℓ := commM.view.loc (c : Thread nD τ)) (halfChunks b) _ (fun i => (chunkM i).view.set) (half_cover b) chunk_apart fullShare f
  rw [h]
  unfold halfChunks
  rw [bigSep_filter]
  rfl

/-- The device's own chunk, if half `b` has it. -/
def ownIf (c : Dev nD) (b : Fin 2) (f : CommC F) : sProp 𝕄 := if c.val / 8 = b.val then chunkPt c c fullShare f else iprop(emp)

/-- A half is the chunks of the peers in it, and the device's own if it is there. -/
theorem half_split (c : Dev nD) (b : Fin 2) (f : CommC F) (P : Fin 15 → Prop) [DecidablePred P] (hP : ∀ k, (peer c k).val / 8 = b.val ↔ P k) :
    commHalf c b f = iprop(ownIf c b f ∗ bigSep (Finset.univ.filter P) fun k => chunkPt c (peer c k) fullShare f) := by
  rw [chunks_half, bs_peers c]
  have e : (bigSep Finset.univ fun k : Fin 15 => if (peer c k).val / 8 = b.val then chunkPt c (peer c k) fullShare f else (iprop(emp) : sProp 𝕄))
      = bigSep (Finset.univ.filter P) fun k => chunkPt c (peer c k) fullShare f := by
    rw [bigSep_filter]
    refine bigSep_congr fun k _ => ?_
    by_cases h : P k
    · rw [if_pos ((hP k).mpr h), if_pos h]
    · rw [if_neg (fun h' => h ((hP k).mp h')), if_neg h]; rfl
  rw [e]
  rfl

theorem own_join (c : Dev nD) (f : CommC F) : iprop(ownIf c 0 f ∗ ownIf c 1 f) ⊢ chunkPt c c fullShare f := by
  have hc : c.val < 16 := c.isLt
  unfold ownIf
  by_cases h : c.val / 8 = 0
  · rw [if_pos (show c.val / 8 = (0 : Fin 2).val from h), if_neg (show ¬ c.val / 8 = (1 : Fin 2).val from by rw [h]; decide)]
    iintro ⟨H, -⟩; iexact H
  · rw [if_neg (show ¬ c.val / 8 = (0 : Fin 2).val from h), if_pos (show c.val / 8 = (1 : Fin 2).val from by show _ = 1; omega)]
    iintro ⟨-, H⟩; iexact H

theorem low_iff (c : Dev nD) (k : Fin 15) : (peer c k).val / 8 = (0 : Fin 2).val ↔ low c k := by
  unfold low; show _ = 0 ↔ _; omega
theorem high_iff (c : Dev nD) (k : Fin 15) : (peer c k).val / 8 = (1 : Fin 2).val ↔ ¬ low c k := by
  have h : (peer c k).val < 16 := (peer c k).isLt
  unfold low; show _ = 1 ↔ _; omega

/-! ## Shares of a chunk -/

/-- A chunk held whole gives the share left after `n` loans, and takes it back. -/
theorem share_out (c : Dev nD) (j : Fin 16) (f : CommC F) (n : ℕ) :
    chunkPt c j fullShare f ⊢ iprop(chunkPt c j (restShare n) f ∗ (chunkPt c j (restShare n) f -∗ chunkPt c j fullShare f)) := by
  induction n with
  | zero =>
    iintro H
    isplitl [H]; · iexact H
    iintro H; iexact H
  | succ n ih =>
    refine ih.trans ?_
    iintro ⟨H, Hw⟩
    ihave H2 := (pointsTo_share (PosShare.mem_left_op_right (restShare n))).1 $$ H
    icases H2 with ⟨Ha, Hb⟩
    isplitl [Hb]; · iexact Hb
    iintro Hb
    iapply Hw
    iapply (pointsTo_share (PosShare.mem_left_op_right (restShare n))).2
    isplitl [Ha]; · iexact Ha
    iexact Hb

/-- What is left and what was lent is the chunk again. -/
theorem share_back (c : Dev nD) (j : Fin 16) (f : CommC F) (n : ℕ) (hn : n ≤ 15) :
    iprop(chunkPt c j (restShare n) f ∗ bigSep (done all n) fun k => chunkPt c j (lendShare k.val) f) ⊢ chunkPt c j fullShare f := by
  induction n with
  | zero =>
    iintro ⟨H, -⟩; iexact H
  | succ n ih =>
    have ih := ih (by omega)
    refine BIBase.Entails.trans ?_ ih
    have e : done all (n + 1) = insert (⟨n, by omega⟩ : Fin 15) (done all n) := done_succ all (n := ⟨n, by omega⟩) trivial
    have hn' : (⟨n, by omega⟩ : Fin 15) ∉ done all n := notMem_done all (n := ⟨n, by omega⟩)
    rw [e, bs_insert hn']
    iintro ⟨Hb, Ha, Hr⟩
    isplitr [Hr]
    · iapply (pointsTo_share (PosShare.mem_left_op_right (restShare n))).2
      isplitl [Ha]; · iexact Ha
      iexact Hb
    · iexact Hr

/-! ## The accumulator's halves, the staging buffer's slots -/

theorem acc_halves (c : Dev nD) (f : Vec F S256x512 .f32) : wholePt c accM f ⊣⊢ iprop(accHalf c 0 f ∗ accHalf c 1 f) := by
  have h : (accM.view.loc (c : Thread nD τ) ↦[halfSet 0 ∪ halfSet 1]{fullShare} f : sProp 𝕄) ⊣⊢ iprop(accHalf c 0 f ∗ accHalf c 1 f) :=
    pointsTo_union half_disjoint
  rw [half_union] at h
  exact h
theorem comm_halves (c : Dev nD) (f : CommC F) : wholePt c commM f ⊣⊢ iprop(commHalf c 0 f ∗ commHalf c 1 f) := by
  have h : (commM.view.loc (c : Thread nD τ) ↦[halfSet 0 ∪ halfSet 1]{fullShare} f : sProp 𝕄) ⊣⊢ iprop(commHalf c 0 f ∗ commHalf c 1 f) :=
    pointsTo_union half_disjoint
  rw [half_union] at h
  exact h

theorem slots_out (c : Dev nD) (f : StageC F) : wholePt c stageM f ⊢ bigSep Finset.univ fun k : Fin 15 => slotPt c k f :=
  Entails.of_eq (pt_parts (ℓ := stageM.view.loc (c : Thread nD τ)) Finset.univ _ (fun k => (slotM k).view.set)
    (fun x => ⟨fun _ => slot_cover x, fun _ => Finset.mem_univ _⟩) slot_apart fullShare f)

theorem slots_back (c : Dev nD) : (bigSep Finset.univ fun k : Fin 15 => iprop(∃ f : StageC F, slotPt c k f)) ⊢ (iprop(∃ f, wholePt c stageM f) : sProp 𝕄) := by
  have : Nonempty (StageC F) := ⟨fun _ => (Scalar.ofBits .bf16 0#16 : F .bf16)⟩
  refine (bigSep_exists_pi Finset.univ fun (k : Fin 15) (f : StageC F) => slotPt c k f).trans ?_
  iintro ⟨%fs, H⟩
  have h := pt_parts_join (ℓ := stageM.view.loc (c : Thread nD τ)) Finset.univ Finset.univ (fun k => (slotM k).view.set)
    (fun x => ⟨fun _ => slot_cover x, fun _ => Finset.mem_univ _⟩) slot_apart fullShare fs (fs 0)
  iapply h
  iexact H

end Cert.Exchange

end
-- ==== Proof.Body.lean ====
/-
  The exchange from end to end: what a device holds between one stretch of the body and the next.
-/
module

public import proofs.«01_k».proof.Proof.Shares

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-! ## What a device brings to the exchange -/

section Flow
variable (A : Dev nD → CommC F) (Z : CommC F) (K : GSem nD τ sig → ℕ)

/-- For the signal to peer `k`. -/
def barTok (c : Dev nD) (k : Fin 15) : sProp 𝕄 :=
  iprop(dutyTok ER (barCell (peer c k)) 0 k.rev ∗ reached ER (barCell (peer c k)) 0)
/-- For the scatter copy of index `k`. -/
def rsTok (c : Dev nD) (k : Fin 15) : sProp 𝕄 :=
  iprop(reached ER (dmaCell c 0 k) 0 ∗ dutyTok ER (dmaCell c 0 k) 0 0 ∗ dutyTok ER (dmaCell (peer c k) 1 k) 0 0)
/-- For the gather copy of index `k`. -/
def agTok (c : Dev nD) (k : Fin 15) : sProp 𝕄 :=
  iprop(reached ER (dmaCell c 2 k) 0 ∗ dutyTok ER (dmaCell c 2 k) 0 0 ∗ dutyTok ER (dmaCell (peer c k) 3 k) 0 0)
/-- The receive cells of index `k` are open. -/
def openTok (c : Dev nD) (k : Fin 15) : sProp 𝕄 :=
  iprop(reached ER (dmaCell c 1 k) 0 ∗ reached ER (dmaCell c 3 k) 0)
/-- Position on a cell of array `a` before, after its round. -/
def posAt (a : Fin 4) (n : ℕ) (c : Dev nD) (k : Fin 15) : sProp 𝕄 := atPos ER (dmaCell c a k) n ∅ 0

/-- What the waits will use, and the sends of the gather. -/
def later (c : Dev nD) : sProp 𝕄 :=
  iprop((bigSep Finset.univ fun k : Fin 15 => agTok c k) ∗ (bigSep Finset.univ fun k : Fin 15 => waitTodo 3 c k)
    ∗ (bigSep Finset.univ fun k : Fin 15 => posAt 0 0 c k) ∗ (bigSep Finset.univ fun k : Fin 15 => posAt 2 0 c k))

/-- What device `c` enters the exchange with, besides its buffers. -/
def enter (c : Dev nD) : sProp 𝕄 :=
  iprop(owesE c (O₀ c) ∗ (cred (tallyAt (barCell c) () 15) ∗ atPos ER (barCell c) 0 ∅ 0)
    ∗ (bigSep Finset.univ fun k : Fin 15 => barTok c k) ∗ (bigSep Finset.univ fun k : Fin 15 => openTok c k)
    ∗ (bigSep Finset.univ fun k : Fin 15 => rsTok c k) ∗ (bigSep Finset.univ fun k : Fin 15 => waitTodo 1 c k) ∗ later c)

/-- What it leaves with. -/
def leave (c : Dev nD) : sProp 𝕄 :=
  iprop(owesE c 0 ∗ atPos ER (barCell c) 1 ∅ 0 ∗ (bigSep Finset.univ fun k : Fin 15 => posAt 0 1 c k) ∗ (bigSep Finset.univ fun k : Fin 15 => posAt 1 1 c k)
    ∗ (bigSep Finset.univ fun k : Fin 15 => posAt 2 1 c k) ∗ (bigSep Finset.univ fun k : Fin 15 => posAt 3 1 c k))

theorem bs_mono {I : Type} {s : Finset I} {Φ Ψ : I → sProp 𝕄} (h : ∀ k ∈ s, Φ k ⊢ Ψ k) : bigSep s Φ ⊢ bigSep s Ψ := bigSep_mono h

/-! ## From one stretch to the next -/

/-- Ready to signal. -/
theorem to_sig (c : Dev nD) (f : StageC F) {R : sProp 𝕄} :
    iprop(enter c ∗ wholePt c stageM f ∗ R) ⊢ iprop(SigSt c 0 ∗ (cred (tallyAt (barCell c) () 15) ∗ atPos ER (barCell c) 0 ∅ 0)
      ∗ (bigSep Finset.univ fun k : Fin 15 => rsTok c k) ∗ (bigSep Finset.univ fun k : Fin 15 => waitTodo 1 c k) ∗ later c ∗ R) := by
  unfold enter SigSt
  iintro ⟨⟨HO, Hb, Ht, Ho, Hr, Hw, Hl⟩, Hs, HR⟩
  ihave Hs := (slots_out c f) $$ Hs
  isplitl [HO Ht Ho Hs]
  · isplitr [HO]
    · iapply (prog_start all (sigTodo c) (fun _ => iprop(emp)))
      rw [filter_all]
      have e1 : (bigSep Finset.univ fun k : Fin 15 => openTok (F := F) c k) = bigSep Finset.univ fun k : Fin 15 => openTok (F := F) c k.rev :=
        (bs_rev _).symm
      have e2 : (bigSep Finset.univ fun k : Fin 15 => slotPt c k f) = bigSep Finset.univ fun k : Fin 15 => slotPt c k.rev f :=
        (bs_rev fun k => slotPt c k f).symm
      have h : iprop((bigSep Finset.univ fun k : Fin 15 => barTok c k) ∗ (bigSep Finset.univ fun k : Fin 15 => slotPt c k.rev f)
          ∗ (bigSep Finset.univ fun k : Fin 15 => openTok c k.rev)) ⊢ bigSep Finset.univ (sigTodo (F := F) c) := by
        rw [← bs_sep, ← bs_sep]
        refine bs_mono fun k _ => ?_
        unfold barTok openTok sigTodo
        iintro ⟨⟨H1, H2⟩, H3, H4, H5⟩
        isplitl [H1]; · iexact H1
        isplitl [H2]; · iexact H2
        isplitl [H3]; · iexists f; iexact H3
        isplitl [H4]; · iexact H4
        iexact H5
      iapply h
      isplitl [Ht]; · iexact Ht
      isplitl [Hs]; · iapply (Entails.of_eq e2); iexact Hs
      iapply (Entails.of_eq e1); iexact Ho
    · rw [todo_zero, filter_all]
      iexact HO
  iframe

/-- What a scatter copy needs besides its chunk. -/
def rsPrep (c : Dev nD) (k : Fin 15) : sProp 𝕄 :=
  iprop((∃ f, slotPt (peer c k) k f) ∗ reached ER (dmaCell (peer c k) 1 k) 0 ∗ rsTok c k)
/-- The peers' gather receive cells are open. -/
def agOpen (c : Dev nD) (k : Fin 15) : sProp 𝕄 := reached ER (dmaCell (peer c k) 3 k) 0

/-- The barrier passed: the peers' slots, and that their receive cells are open. -/
theorem from_bar (c : Dev nD) :
    iprop((bigSep Finset.univ fun k : Fin 15 => barPay (F := F) c k) ∗ (bigSep Finset.univ fun k : Fin 15 => rsTok c k))
      ⊢ iprop((bigSep Finset.univ fun k : Fin 15 => rsPrep (F := F) c k) ∗ (bigSep Finset.univ fun k : Fin 15 => agOpen c k)) := by
  rw [← bs_sep, ← bs_sep]
  refine bs_mono fun k _ => ?_
  unfold barPay rsPrep agOpen
  iintro ⟨⟨H1, H2, H3⟩, H4⟩
  iframe

/-- A batch of scatter copies, about to be sent: the chunks of half `b`, one for each peer there, and what the device keeps. -/
theorem to_rs (c : Dev nD) (b : Fin 2) (P : Fin 15 → Prop) [DecidablePred P] (hP : ∀ k, (peer c k).val / 8 = b.val ↔ P k)
    (O : CellTallies nD τ sig Unit) :
    iprop(commHalf c b (A c) ∗ (bigSep (Finset.univ.filter P) fun k : Fin 15 => rsPrep c k) ∗ owesE c ((∑ k ∈ Finset.univ.filter P, tRs c k) + O))
      ⊢ iprop(ownIf c b (A c) ∗ RsSt A c P O 0) := by
  have h : iprop((bigSep (Finset.univ.filter P) fun k : Fin 15 => rsPrep c k) ∗ (bigSep (Finset.univ.filter P) fun k : Fin 15 => chunkPt c (peer c k) fullShare (A c)))
      ⊢ bigSep (Finset.univ.filter P) (rsTodo A c) := by
    rw [← bs_sep]
    refine bs_mono fun k _ => ?_
    unfold rsPrep rsTodo rsTok
    iintro ⟨⟨H1, H2, H3, H4, H5⟩, H6⟩
    iframe
  rw [half_split c b (A c) P hP]
  unfold RsSt
  rw [todo_zero]
  iintro ⟨⟨Ho, Hc⟩, Hp, HO⟩
  isplitl [Ho]; · iexact Ho
  isplitr [HO]
  · iapply (prog_start P (rsTodo A c) (sndDone 0 c))
    iapply h
    isplitl [Hp]; · iexact Hp
    iexact Hc
  · iexact HO

/-- A batch sent: credits for its waits. -/
theorem from_rs (c : Dev nD) (P : Fin 15 → Prop) [DecidablePred P] (O : CellTallies nD τ sig Unit) :
    RsSt A c P O 15 ⊢ iprop((bigSep (Finset.univ.filter P) (sndDone (F := F) 0 c)) ∗ owesE c O) := by
  unfold RsSt
  rw [todo_end, Finset.sum_empty, zero_add]
  iintro ⟨Hp, HO⟩
  isplitl [Hp]; · iapply (prog_end P (rsTodo A c) (sndDone 0 c)); iexact Hp
  iexact HO

/-- Fifteen waits ahead, fifteen waits done. -/
theorem to_wait (a : Fin 4) (c : Dev nD) (ord : Fin 15 → Fin 15) (hord : ∀ Φ : Fin 15 → sProp 𝕄, bigSep Finset.univ (fun k => Φ (ord k)) = bigSep Finset.univ Φ)
    (O : CellTallies nD τ sig Unit) :
    iprop((bigSep Finset.univ fun k : Fin 15 => waitTodo a c k) ∗ owesE c O) ⊢ WtSt A Z a c ord O 0 := by
  have h := prog_start (F := F) all (fun i => waitTodo a c (ord i)) (fun i => waitDone A Z a c (ord i))
  rw [filter_all, hord fun k => waitTodo a c k] at h
  unfold WtSt
  iintro ⟨Hw, HO⟩
  isplitl [Hw]; · iapply h; iexact Hw
  iexact HO
theorem from_wait (a : Fin 4) (c : Dev nD) (ord : Fin 15 → Fin 15) (hord : ∀ Φ : Fin 15 → sProp 𝕄, bigSep Finset.univ (fun k => Φ (ord k)) = bigSep Finset.univ Φ)
    (O : CellTallies nD τ sig Unit) :
    WtSt A Z a c ord O 15 ⊢ iprop((bigSep Finset.univ fun k : Fin 15 => posAt a 1 c k) ∗ (bigSep Finset.univ fun k : Fin 15 => dmaPay A Z c a.val k) ∗ owesE c O) := by
  have h := prog_end (F := F) all (fun i => waitTodo a c (ord i)) (fun i => waitDone A Z a c (ord i))
  rw [filter_all, hord fun k => waitDone A Z a c k] at h
  have e : (bigSep Finset.univ fun k : Fin 15 => waitDone A Z a c k)
      = iprop((bigSep Finset.univ fun k : Fin 15 => posAt a 1 c k) ∗ (bigSep Finset.univ fun k : Fin 15 => dmaPay A Z c a.val k)) := bs_sep _ _ _
  rw [e] at h
  unfold WtSt
  iintro ⟨Hp, HO⟩
  ihave Hp := h $$ Hp
  icases Hp with ⟨H1, H2⟩
  iframe

/-- Credits of copies sent, with the positions on their cells: waits ahead. -/
theorem to_sent (a : Fin 4) (c : Dev nD) :
    iprop((bigSep Finset.univ (sndDone (F := F) a c)) ∗ (bigSep Finset.univ fun k : Fin 15 => posAt a 0 c k)) ⊢ bigSep Finset.univ fun k : Fin 15 => waitTodo a c k :=
  Entails.of_eq (bs_sep _ _ _).symm

/-- What the scatter's waits handed over: the slots back, and every peer's chunk `c`. -/
theorem from_scatter (c : Dev nD) :
    (bigSep Finset.univ fun k : Fin 15 => dmaPay A Z c (1 : Fin 4).val k)
      ⊢ iprop((bigSep Finset.univ fun k : Fin 15 => iprop(∃ f, slotPt c k f)) ∗ bigSep Finset.univ fun k : Fin 15 => iprop(∃ g, chunkPt (peer c k) c fullShare g)) := by
  have e : (bigSep Finset.univ fun k : Fin 15 => iprop(∃ g, chunkPt (F := F) (peer c k) c fullShare g))
      = bigSep Finset.univ fun k : Fin 15 => iprop(∃ g, chunkPt (F := F) (peer c k.rev) c fullShare g) := (bs_rev _).symm
  rw [e, ← bs_sep]
  refine bs_mono fun k _ => ?_
  show rsPay A c k ⊢ _
  unfold rsPay
  iintro ⟨⟨%f, H1, -⟩, H2⟩
  isplitl [H1]; · iexists f; iexact H1
  iexact H2

/-- Ready for the gather's copies. -/
theorem to_ag (c : Dev nD) :
    iprop((bigSep Finset.univ fun k : Fin 15 => iprop(∃ g, chunkPt (peer c k) c fullShare g)) ∗ (bigSep Finset.univ fun k : Fin 15 => agOpen c k)
        ∗ (bigSep Finset.univ fun k : Fin 15 => agTok c k) ∗ chunkPt c c fullShare Z ∗ owesE c (owesAg c))
      ⊢ AgSt Z c 0 := by
  have h : iprop((bigSep Finset.univ fun k : Fin 15 => iprop(∃ g, chunkPt (F := F) (peer c k) c fullShare g)) ∗ (bigSep Finset.univ fun k : Fin 15 => agOpen c k)
        ∗ (bigSep Finset.univ fun k : Fin 15 => agTok c k)) ⊢ bigSep (Finset.univ.filter all) (agTodo c) := by
    rw [filter_all, ← bs_sep, ← bs_sep]
    refine bs_mono fun k _ => ?_
    unfold agOpen agTok agTodo
    iintro ⟨H1, H2, H3, H4, H5⟩
    iframe
  unfold AgSt
  rw [todo_zero, filter_all, add_zero]
  iintro ⟨H1, H2, H3, H4, HO⟩
  isplitl [H1 H2 H3]
  · iapply (prog_start all (agTodo c) (sndDone 2 c))
    iapply h
    iframe
  isplitl [H4]; · iexact H4
  iexact HO
theorem from_ag (c : Dev nD) :
    AgSt Z c 15 ⊢ iprop((bigSep Finset.univ (sndDone (F := F) 2 c)) ∗ chunkPt c c (restShare 15) Z ∗ owesE c 0) := by
  have h := prog_end (F := F) all (agTodo c) (sndDone 2 c)
  rw [filter_all] at h
  unfold AgSt
  rw [todo_end, Finset.sum_empty, zero_add]
  iintro ⟨H1, H2, HO⟩
  isplitl [H1]; · iapply h; iexact H1
  iframe

/-- All chunks there: the buffer, at the share the device's own chunk is held at, and back. -/
theorem comm_view (c : Dev nD) :
    iprop((bigSep Finset.univ fun k : Fin 15 => dmaPay A Z c (3 : Fin 4).val k) ∗ chunkPt c c (restShare 15) Z)
      ⊢ iprop(commAll c (restShare 15) Z ∗ (commAll c (restShare 15) Z -∗
        ((bigSep Finset.univ fun k : Fin 15 => chunkPt c (peer c k) fullShare Z) ∗ chunkPt c c (restShare 15) Z))) := by
  have e : (bigSep Finset.univ fun k : Fin 15 => dmaPay A Z c (3 : Fin 4).val k)
      = bigSep Finset.univ fun k : Fin 15 => chunkPt c (peer c k) fullShare Z := bs_rev fun k => chunkPt c (peer c k) fullShare Z
  have h : (bigSep Finset.univ fun k : Fin 15 => chunkPt c (peer c k) fullShare Z)
      ⊢ iprop((bigSep Finset.univ fun k : Fin 15 => chunkPt c (peer c k) (restShare 15) Z)
        ∗ bigSep Finset.univ fun k : Fin 15 => iprop(chunkPt c (peer c k) (restShare 15) Z -∗ chunkPt c (peer c k) fullShare Z)) := by
    rw [← bs_sep]
    exact bs_mono fun k _ => share_out c (peer c k) Z 15
  have h' : iprop((bigSep Finset.univ fun k : Fin 15 => chunkPt c (peer c k) (restShare 15) Z)
        ∗ bigSep Finset.univ fun k : Fin 15 => iprop(chunkPt c (peer c k) (restShare 15) Z -∗ chunkPt c (peer c k) fullShare Z))
      ⊢ bigSep Finset.univ fun k : Fin 15 => chunkPt c (peer c k) fullShare Z := by
    rw [← bs_sep]
    refine bs_mono fun k _ => ?_
    iintro ⟨H, Hw⟩
    iapply Hw; iexact H
  have ec : commAll c (restShare 15) Z = iprop(chunkPt c c (restShare 15) Z ∗ bigSep Finset.univ fun k : Fin 15 => chunkPt c (peer c k) (restShare 15) Z) := by
    rw [chunks_all, bs_peers c]
  rw [e, ec]
  iintro ⟨Hp, Ho⟩
  ihave Hp := h $$ Hp
  icases Hp with ⟨Hp, Hw⟩
  isplitl [Ho Hp]
  · isplitl [Ho]; · iexact Ho
    iexact Hp
  iintro ⟨Ho, Hp⟩
  isplitr [Ho]
  · iapply h'
    isplitl [Hp]; · iexact Hp
    iexact Hw
  · iexact Ho

/-- At the end: the loans returned, the buffer is whole. -/
theorem comm_end (c : Dev nD) :
    iprop((bigSep Finset.univ fun k : Fin 15 => chunkPt c (peer c k) fullShare Z) ∗ chunkPt c c (restShare 15) Z
        ∗ bigSep Finset.univ fun k : Fin 15 => dmaPay A Z c (2 : Fin 4).val k) ⊢ wholePt c commM Z := by
  have h := share_back c c Z 15 (le_refl _)
  rw [done_end, filter_all] at h
  have ec : commAll c fullShare Z = iprop(chunkPt c c fullShare Z ∗ bigSep Finset.univ fun k : Fin 15 => chunkPt c (peer c k) fullShare Z) := by
    rw [chunks_all, bs_peers c]
  have e2 : (wholePt c commM Z : sProp 𝕄) = commAll c fullShare Z := rfl
  rw [e2, ec]
  iintro ⟨Hp, Ho, Hl⟩
  isplitl [Ho Hl]
  · iapply h
    isplitl [Ho]; · iexact Ho
    iexact Hl
  · iexact Hp

end Flow

/-! ## The body -/

section Run
variable (D : Dev nD → Ins F) (K : GSem nD τ sig → ℕ)

/-- What every device sends, and what all end with. -/
abbrev sentV : Dev nD → CommC F := fun d => commV (D d)

theorem prod_at (c : Dev nD) (x : S16x512.Idx) : prodV D ((chunkR c).emb x) = redV D c x := by
  have h0 : (x 0).val < 16 := ValueIdx.idx2_lt0 x
  have e0 : (((chunkR c).emb x) 0).val = 16 * c.val + (x 0).val := by
    show 16 * c.val + 1 * (x 0).val = _; omega
  have e1 : (((chunkR c).emb x) 1).val = (x 1).val := by
    show 0 + 1 * (x 1).val = _; omega
  have hd : (⟨(((chunkR c).emb x) 0).val / 16, by have := ValueIdx.idx2_lt0 ((chunkR c).emb x); show _ < 16; omega⟩ : Dev nD) = c :=
    Fin.ext (by show (((chunkR c).emb x) 0).val / 16 = c.val; rw [e0]; omega)
  unfold prodV
  rw [hd]
  refine congrArg (redV D c) ?_
  refine Eq.trans ?_ (ValueIdx.eq_ix2 x).symm
  congr 1
  · exact Fin.ext (by show (((chunkR c).emb x) 0).val % 16 = _; rw [e0]; omega)
  · exact Fin.ext e1

set_option maxHeartbeats 2000000 in
/-- The body of device `c`. -/
theorem body_run (c : Dev nD) (fx : Vec F S256x256 .f32) (fa : Vec F S256x512 .f32) (fm : CommC F) (fs : StageC F) (fo : Vec F S2x128x512 .f32) :
    iprop(know (sentV D) (prodV D) K ∗ enter c ∗ wholePt c stageM fs ∗ insPt c (D c) ∗ wholePt c ctxM fx ∗ wholePt c accM fa ∗ wholePt c commM fm ∗ wholePt c outM fo)
      ⊢ WP c (cc0_body (F := F) xM (Memref.isWhole_whole _) wqM (Memref.isWhole_whole _) kM (Memref.isWhole_whole _) vM (Memref.isWhole_whole _) woM (Memref.isWhole_whole _)
          outM (Memref.isWhole_whole _) accM (Memref.isWhole_whole _) ctxM (Memref.isWhole_whole _) commM (Memref.isWhole_whole _) stageM (Memref.isWhole_whole _)
          cc0_scratch4 cc0_scratch5 cc0_scratch6 cc0_scratch7)
        fun _ => iprop(leave c ∗ insPt c (D c) ∗ (∃ f, wholePt c ctxM f) ∗ (∃ f, wholePt c accM f) ∗ (∃ f, wholePt c commM f) ∗ (∃ f, wholePt c stageM f)
          ∗ wholePt c outM (outV D)) := by
  -- the halves, the slots
  have h0 : iprop(know (sentV D) (prodV D) K ∗ enter c ∗ wholePt c stageM fs ∗ insPt c (D c) ∗ wholePt c ctxM fx ∗ wholePt c accM fa ∗ wholePt c commM fm ∗ wholePt c outM fo)
      ⊢ iprop(know (sentV D) (prodV D) K ∗ SigSt c 0 ∗ CSt c (D c) 0 fx fa fm ∗ accHalf c 1 fa ∗ commHalf c 1 fm
        ∗ (cred (tallyAt (barCell c) () 15) ∗ atPos ER (barCell c) 0 ∅ 0)
        ∗ (bigSep Finset.univ fun k : Fin 15 => rsTok c k) ∗ (bigSep Finset.univ fun k : Fin 15 => waitTodo 1 c k) ∗ later c ∗ wholePt c outM fo) := by
    unfold CSt
    iintro ⟨HK, He, Hs, Hi, Hx, Ha, Hm, Ho⟩
    ihave Ha := (acc_halves c fa).1 $$ Ha
    ihave Hm := (comm_halves c fm).1 $$ Hm
    ihave H := (to_sig c fs (R := iprop(emp))) $$ [He Hs]
    · iframe
    icases H with ⟨H1, H2, H3, H4, H5, -⟩
    icases Ha with ⟨Ha0, Ha1⟩
    icases Hm with ⟨Hm0, Hm1⟩
    iframe
  refine h0.trans ?_
  rw [cc0_body_eq_skeleton]
  unfold cc0_body_skel
  rw [WP_bind]
  refine part1_run (sentV D) (prodV D) K c fun v2 v24 w => ?_
  dsimp only
  rw [WP_bind]
  refine part2_run (sentV D) (prodV D) K c fun v48 w => ?_
  dsimp only
  rw [WP_bind]
  refine part3_run (sentV D) (prodV D) K c ?_
  dsimp only
  rw [WP_bind]
  refine part4_run c ?_
  dsimp only
  refine front3.trans ?_
  rw [WP_bind]
  refine part5_run c (f := fx) ?_
  rw [WP_bind]
  refine part6_run c ?_
  dsimp only
  rw [WP_bind]
  -- the barrier; the first batch of copies
  refine part7_run (sentV D) (prodV D) K c (f := fx)
    (R1 := iprop(CSt c (D c) 0 (ctxAt (D c) 0 fx 4) (accV (D c)) (commV (D c)) ∗ accHalf c 1 fa ∗ commHalf c 1 fm
        ∗ (bigSep Finset.univ fun k : Fin 15 => rsTok c k) ∗ (bigSep Finset.univ fun k : Fin 15 => waitTodo 1 c k) ∗ later c ∗ wholePt c outM fo))
    (R2 := iprop((insPt c (D c) ∗ wholePt c ctxM (ctxAt (D c) 0 fx 4) ∗ accHalf c 0 (accV (D c)) ∗ accHalf c 1 fa ∗ commHalf c 1 fm ∗ ownIf c 0 (commV (D c)))
        ∗ (bigSep (Finset.univ.filter fun k => ¬ low c k) fun k : Fin 15 => rsPrep c k) ∗ (bigSep Finset.univ fun k : Fin 15 => agOpen c k)
        ∗ atPos ER (barCell c) 1 ∅ 0 ∗ (bigSep Finset.univ fun k : Fin 15 => waitTodo 1 c k) ∗ later c ∗ wholePt c outM fo)) ?_ ?_ fun v216 w => ?_
  · iintro ⟨HC, HK, HS, H1, H2, Hb, Hr⟩
    iframe
  · unfold CSt
    iintro ⟨HK, ⟨HO, Hpos, Hpay⟩, ⟨Hi, Hx, Ha, Hm⟩, Ha1, Hm1, Hr, Hw, Hl, Ho⟩
    ihave Hp := (from_bar c) $$ [Hpay Hr]
    · iframe
    icases Hp with ⟨Hp, Hg⟩
    ihave Hp := (Entails.of_eq (bs_split Finset.univ (fun k => low c k) fun k : Fin 15 => rsPrep (F := F) c k)) $$ Hp
    icases Hp with ⟨Hpl, Hph⟩
    ihave Hs := (to_rs (sentV D) c 0 (fun k => low c k) (low_iff c) (owesHigh c)) $$ [Hm Hpl HO]
    · isplitl [Hm]; · iexact Hm
      isplitl [Hpl]; · iexact Hpl
      iexact HO
    icases Hs with ⟨Hown, Hs⟩
    iframe
  dsimp only
  rw [WP_bind]
  refine part8_run (sentV D) (prodV D) K c fun w0 w1 w2 => ?_
  dsimp only
  rw [WP_bind]
  refine part9_run (sentV D) (prodV D) K c fun w0 w1 => ?_
  dsimp only
  rw [WP_bind]
  refine part10_run (sentV D) (prodV D) K c fun w0 w1 => ?_
  dsimp only
  rw [WP_bind]
  refine part11_run (sentV D) (prodV D) K c fun w0 w1 w2 => ?_
  dsimp only
  rw [WP_bind]
  -- the second batch
  refine part12_run (sentV D) (prodV D) K c (D := D c) (f := ctxAt (D c) 0 fx 4) (fa := fa) (fm := fm)
    (R1 := iprop(know (sentV D) (prodV D) K ∗ ((bigSep (Finset.univ.filter fun k => low c k) (sndDone 0 c)) ∗ owesE c (owesHigh c))
        ∗ (accHalf c 0 (accV (D c)) ∗ ownIf c 0 (commV (D c)))
        ∗ (bigSep (Finset.univ.filter fun k => ¬ low c k) fun k : Fin 15 => rsPrep c k) ∗ (bigSep Finset.univ fun k : Fin 15 => agOpen c k)
        ∗ atPos ER (barCell c) 1 ∅ 0 ∗ (bigSep Finset.univ fun k : Fin 15 => waitTodo 1 c k) ∗ later c ∗ wholePt c outM fo)) ?_ ?_
  · unfold CSt
    iintro ⟨HK, Hs, ⟨Hi, Hx, Ha, Ha1, Hm1, Hown⟩, Hr⟩
    ihave Hs := (from_rs (sentV D) c (fun k => low c k) (owesHigh c)) $$ Hs
    isplitl [Hi Hx Ha1 Hm1]
    · isplitl [Hi]; · iexact Hi
      isplitl [Hx]; · iexact Hx
      iframe
    iframe
  dsimp only
  rw [WP_bind]
  refine part13_run c ?_
  dsimp only
  rw [WP_bind]
  refine part14_run c fun w0 w1 => ?_
  dsimp only
  rw [WP_bind]
  have h2 : iprop(CSt c (D c) 1 (ctxAt (D c) 1 (ctxAt (D c) 0 fx 4) 4) (accV (D c)) (commV (D c))
      ∗ know (sentV D) (prodV D) K ∗ ((bigSep (Finset.univ.filter fun k => low c k) (sndDone (F := F) 0 c)) ∗ owesE c (owesHigh c))
        ∗ (accHalf c 0 (accV (D c)) ∗ ownIf c 0 (commV (D c)))
        ∗ (bigSep (Finset.univ.filter fun k => ¬ low c k) fun k : Fin 15 => rsPrep c k) ∗ (bigSep Finset.univ fun k : Fin 15 => agOpen c k)
        ∗ atPos ER (barCell c) 1 ∅ 0 ∗ (bigSep Finset.univ fun k : Fin 15 => waitTodo 1 c k) ∗ later c ∗ wholePt c outM fo)
      ⊢ iprop(know (sentV D) (prodV D) K ∗ RsSt (sentV D) c (fun k => ¬ low c k) (owesAg c) 0
        ∗ (bigSep (Finset.univ.filter fun k => low c k) (sndDone (F := F) 0 c))
        ∗ (insPt c (D c) ∗ (∃ f, wholePt c ctxM f) ∗ wholePt c accM (accV (D c)) ∗ chunkPt c c fullShare (commV (D c)))
        ∗ (bigSep Finset.univ fun k : Fin 15 => agOpen c k)
        ∗ atPos ER (barCell c) 1 ∅ 0 ∗ (bigSep Finset.univ fun k : Fin 15 => waitTodo 1 c k) ∗ later c ∗ wholePt c outM fo) := by
    unfold CSt
    iintro ⟨⟨Hi, Hx, Ha1, Hm1⟩, HK, ⟨Hsd, HO⟩, ⟨Ha, Hown⟩, Hp, Hr⟩
    ihave Hs := (to_rs (sentV D) c 1 (fun k => ¬ low c k) (high_iff c) (owesAg c)) $$ [Hm1 Hp HO]
    · isplitl [Hm1]; · iexact Hm1
      isplitl [Hp]; · iexact Hp
      iexact HO
    icases Hs with ⟨Hown1, Hs⟩
    ihave Hown := (own_join c (commV (D c))) $$ [Hown Hown1]
    · isplitl [Hown]; · iexact Hown
      iexact Hown1
    ihave Ha := (acc_halves c (accV (D c))).2 $$ [Ha Ha1]
    · iframe
    iframe HK Hs Hsd Hi Ha Hown Hr
    iexists _; iexact Hx
  refine h2.trans ?_
  refine part15_run (sentV D) (prodV D) K c fun w0 w1 w2 w3 => ?_
  dsimp only
  rw [WP_bind]
  refine part16_run (sentV D) (prodV D) K c fun w0 w1 w2 w3 w4 => ?_
  dsimp only
  rw [WP_bind]
  refine part17_run (sentV D) (prodV D) K c fun w0 w1 w2 w3 => ?_
  dsimp only
  rw [WP_bind]
  refine part18_run (sentV D) (prodV D) K c fun w0 w1 w2 w3 => ?_
  dsimp only
  rw [WP_bind]
  -- the reduction
  refine part19_run (sentV D) (prodV D) K c (f := accV (D c))
    (R1 := iprop((bigSep Finset.univ (sndDone 0 c)) ∗ (insPt c (D c) ∗ (∃ f, wholePt c ctxM f) ∗ chunkPt c c fullShare (commV (D c)))
        ∗ (bigSep Finset.univ fun k : Fin 15 => agOpen c k) ∗ atPos ER (barCell c) 1 ∅ 0 ∗ later c ∗ wholePt c outM fo)) ?_ fun w0 w1 => ?_
  · iintro ⟨HK, Hs, Hsl, ⟨Hi, Hx, Ha, Hown⟩, Hg, Hp, Hw, Hl, Ho⟩
    ihave Hs := (from_rs (sentV D) c (fun k => ¬ low c k) (owesAg c)) $$ Hs
    icases Hs with ⟨Hsh, HO⟩
    ihave Hs := (Entails.of_eq (bs_split Finset.univ (fun k => low c k) (sndDone (F := F) 0 c)).symm) $$ [Hsl Hsh]
    · isplitl [Hsl]; · iexact Hsl
      iexact Hsh
    ihave Hw := (to_wait (sentV D) (prodV D) 1 c ordRs bs_ord (owesAg c)) $$ [Hw HO]
    · iframe
    iframe
  dsimp only
  rw [WP_bind]
  refine part20_run (sentV D) (prodV D) K c ?_
  rw [WP_bind]
  refine part21_run (sentV D) (prodV D) K c ?_
  dsimp only
  rw [WP_bind]
  refine part22_run (sentV D) (prodV D) K c ?_
  rw [WP_bind]
  refine part23_run (sentV D) (prodV D) K c ?_
  rw [WP_bind]
  refine part24_run (sentV D) (prodV D) K c ?_
  rw [WP_bind]
  -- the gather
  refine part25_run (sentV D) (prodV D) K c (g := commV (D c))
    (R1 := iprop(know (sentV D) (prodV D) K ∗ WtSt (sentV D) (prodV D) 1 c ordRs (owesAg c) 15 ∗ wholePt c accM (accV (D c)) ∗ (bigSep Finset.univ (sndDone 0 c))
        ∗ (insPt c (D c) ∗ (∃ f, wholePt c ctxM f))
        ∗ (bigSep Finset.univ fun k : Fin 15 => agOpen c k) ∗ atPos ER (barCell c) 1 ∅ 0 ∗ later c ∗ wholePt c outM fo))
    (R2 := iprop((insPt c (D c) ∗ (∃ f, wholePt c ctxM f) ∗ wholePt c accM (accV (D c)) ∗ (bigSep Finset.univ fun k : Fin 15 => iprop(∃ f, slotPt c k f)))
        ∗ (bigSep Finset.univ (sndDone 0 c)) ∗ atPos ER (barCell c) 1 ∅ 0 ∗ (bigSep Finset.univ fun k : Fin 15 => posAt 1 1 c k)
        ∗ (bigSep Finset.univ fun k : Fin 15 => waitTodo 3 c k)
        ∗ (bigSep Finset.univ fun k : Fin 15 => posAt 0 0 c k) ∗ (bigSep Finset.univ fun k : Fin 15 => posAt 2 0 c k) ∗ wholePt c outM fo))
    ?_ ?_ (prod_at D c) fun w0 w1 w2 w3 w4 => ?_
  · iintro ⟨HK, Hw, Ha, Hs, ⟨Hi, Hx, Hown⟩, Hr⟩
    iframe
  · unfold later
    iintro ⟨Hown, HK, Hw, Ha, Hs, ⟨Hi, Hx⟩, Hg, Hp, ⟨Ht, Hw3, Hp0, Hp2⟩, Ho⟩
    ihave Hw := (from_wait (sentV D) (prodV D) 1 c ordRs bs_ord (owesAg c)) $$ Hw
    icases Hw with ⟨Hp1, Hpay, HO⟩
    ihave Hpay := (from_scatter (sentV D) (prodV D) c) $$ Hpay
    icases Hpay with ⟨Hsl, Hch⟩
    ihave Hag := (to_ag (prodV D) c) $$ [Hch Hg Ht Hown HO]
    · isplitl [Hch]; · iexact Hch
      isplitl [Hg]; · iexact Hg
      isplitl [Ht]; · iexact Ht
      isplitl [Hown]; · iexact Hown
      iexact HO
    iframe
  dsimp only
  rw [WP_bind]
  refine part26_run (sentV D) (prodV D) K c fun w0 w1 w2 => ?_
  dsimp only
  rw [WP_bind]
  refine part27_run (sentV D) (prodV D) K c fun w0 w1 w2 => ?_
  dsimp only
  rw [WP_bind]
  refine part28_run (sentV D) (prodV D) K c fun w0 w1 w2 => ?_
  dsimp only
  rw [WP_bind]
  refine part29_run (sentV D) (prodV D) K c fun w0 w1 w2 => ?_
  dsimp only
  rw [WP_bind]
  have h3 : iprop(know (sentV D) (prodV D) K ∗ AgSt (prodV D) c 15 ∗ (insPt c (D c) ∗ (∃ f, wholePt c ctxM f) ∗ wholePt c accM (accV (D c)) ∗ (bigSep Finset.univ fun k : Fin 15 => iprop(∃ f, slotPt c k f)))
        ∗ (bigSep Finset.univ (sndDone 0 c)) ∗ atPos ER (barCell c) 1 ∅ 0 ∗ (bigSep Finset.univ fun k : Fin 15 => posAt 1 1 c k)
        ∗ (bigSep Finset.univ fun k : Fin 15 => waitTodo 3 c k)
        ∗ (bigSep Finset.univ fun k : Fin 15 => posAt 0 0 c k) ∗ (bigSep Finset.univ fun k : Fin 15 => posAt 2 0 c k) ∗ wholePt c outM fo)
      ⊢ iprop(know (sentV D) (prodV D) K ∗ WtSt (sentV D) (prodV D) 3 c id 0 0
        ∗ (insPt c (D c) ∗ (∃ f, wholePt c ctxM f) ∗ wholePt c accM (accV (D c)) ∗ (bigSep Finset.univ fun k : Fin 15 => iprop(∃ f, slotPt c k f)))
        ∗ chunkPt c c (restShare 15) (prodV D) ∗ (bigSep Finset.univ (sndDone 2 c))
        ∗ (bigSep Finset.univ (sndDone 0 c)) ∗ atPos ER (barCell c) 1 ∅ 0 ∗ (bigSep Finset.univ fun k : Fin 15 => posAt 1 1 c k)
        ∗ (bigSep Finset.univ fun k : Fin 15 => posAt 0 0 c k) ∗ (bigSep Finset.univ fun k : Fin 15 => posAt 2 0 c k) ∗ wholePt c outM fo) := by
    iintro ⟨HK, Hag, Hb, Hs0, Hp, Hp1, Hw, Hr⟩
    ihave Hag := (from_ag (prodV D) c) $$ Hag
    icases Hag with ⟨Hs2, Hown, HO⟩
    ihave Hw := (to_wait (sentV D) (prodV D) 3 c id (fun _ => rfl) 0) $$ [Hw HO]
    · iframe
    iframe
  refine h3.trans ?_
  refine part30_run (sentV D) (prodV D) K c ?_
  rw [WP_bind]
  refine part31_run (sentV D) (prodV D) K c fun w0 w1 => ?_
  dsimp only
  rw [WP_bind]
  refine part32_run (sentV D) (prodV D) K c ?_
  rw [WP_bind]
  -- the result
  refine part33_run (sentV D) (prodV D) K c (q := restShare 15) (f := fo)
    (R1 := iprop(know (sentV D) (prodV D) K ∗ (commAll c (restShare 15) (prodV D) -∗
          ((bigSep Finset.univ fun k : Fin 15 => chunkPt c (peer c k) fullShare (prodV D)) ∗ chunkPt c c (restShare 15) (prodV D)))
        ∗ owesE c 0 ∗ (bigSep Finset.univ fun k : Fin 15 => posAt 3 1 c k)
        ∗ (insPt c (D c) ∗ (∃ f, wholePt c ctxM f) ∗ wholePt c accM (accV (D c)) ∗ (bigSep Finset.univ fun k : Fin 15 => iprop(∃ f, slotPt c k f)))
        ∗ (bigSep Finset.univ (sndDone 2 c))
        ∗ (bigSep Finset.univ (sndDone 0 c)) ∗ atPos ER (barCell c) 1 ∅ 0 ∗ (bigSep Finset.univ fun k : Fin 15 => posAt 1 1 c k)
        ∗ (bigSep Finset.univ fun k : Fin 15 => posAt 0 0 c k) ∗ (bigSep Finset.univ fun k : Fin 15 => posAt 2 0 c k)))
    (R2 := iprop(((bigSep Finset.univ fun k : Fin 15 => chunkPt c (peer c k) fullShare (prodV D)) ∗ chunkPt c c (restShare 15) (prodV D))
        ∗ (bigSep Finset.univ fun k : Fin 15 => posAt 3 1 c k)
        ∗ (insPt c (D c) ∗ (∃ f, wholePt c ctxM f) ∗ wholePt c accM (accV (D c)) ∗ (bigSep Finset.univ fun k : Fin 15 => iprop(∃ f, slotPt c k f)))
        ∗ (bigSep Finset.univ (sndDone 2 c)) ∗ atPos ER (barCell c) 1 ∅ 0 ∗ (bigSep Finset.univ fun k : Fin 15 => posAt 1 1 c k)
        ∗ (bigSep Finset.univ fun k : Fin 15 => posAt 2 0 c k) ∗ wholePt c outM (outV D))) ?_ ?_ ?_
  · iintro ⟨HK, Hw, Hb, Hown, Hs2, Hs0, Hp, Hp1, Hp0, Hp2, Ho⟩
    ihave Hw := (from_wait (sentV D) (prodV D) 3 c id (fun _ => rfl) 0) $$ Hw
    icases Hw with ⟨Hp3, Hpay, HO⟩
    ihave Hc := (comm_view (sentV D) (prodV D) c) $$ [Hpay Hown]
    · isplitl [Hpay]; · iexact Hpay
      iexact Hown
    icases Hc with ⟨Hc, Hback⟩
    iframe
  · iintro ⟨Hc, Ho, HK, Hback, HO, Hp3, Hb, Hs2, Hs0, Hp, Hp1, Hp0, Hp2⟩
    ihave Hc := Hback $$ Hc
    ihave Hw := (to_sent 0 c) $$ [Hs0 Hp0]
    · isplitl [Hs0]; · iexact Hs0
      iexact Hp0
    ihave Hw := (to_wait (sentV D) (prodV D) 0 c id (fun _ => rfl) 0) $$ [Hw HO]
    · iframe
    unfold outV
    iframe
  rw [WP_bind]
  refine part34_run (sentV D) (prodV D) K c ?_
  rw [WP_bind]
  refine part35_run (sentV D) (prodV D) K c ?_
  rw [WP_bind]
  refine part36_run (sentV D) (prodV D) K c
    (R1 := iprop(((bigSep Finset.univ fun k : Fin 15 => chunkPt c (peer c k) fullShare (prodV D)) ∗ chunkPt c c (restShare 15) (prodV D))
        ∗ (bigSep Finset.univ fun k : Fin 15 => posAt 0 1 c k) ∗ (bigSep Finset.univ fun k : Fin 15 => posAt 3 1 c k)
        ∗ (insPt c (D c) ∗ (∃ f, wholePt c ctxM f) ∗ wholePt c accM (accV (D c)) ∗ (bigSep Finset.univ fun k : Fin 15 => iprop(∃ f, slotPt c k f)))
        ∗ atPos ER (barCell c) 1 ∅ 0 ∗ (bigSep Finset.univ fun k : Fin 15 => posAt 1 1 c k)
        ∗ wholePt c outM (outV D))) ?_ ?_
  · iintro ⟨HK, Hw, Hc, Hp3, Hb, Hs2, Hp, Hp1, Hp2, Ho⟩
    ihave Hw := (from_wait (sentV D) (prodV D) 0 c id (fun _ => rfl) 0) $$ Hw
    icases Hw with ⟨Hp0, -, HO⟩
    ihave Hw := (to_sent 2 c) $$ [Hs2 Hp2]
    · isplitl [Hs2]; · iexact Hs2
      iexact Hp2
    ihave Hw := (to_wait (sentV D) (prodV D) 2 c id (fun _ => rfl) 0) $$ [Hw HO]
    · iframe
    iframe
  rw [WP_bind]
  refine part37_run (sentV D) (prodV D) K c ?_
  rw [WP_bind]
  refine part38_run (sentV D) (prodV D) K c ?_
  refine wait_bind (sentV D) (prodV D) K 2 id 0 (lv_agSent c) (above_zero 0) 14 rfl ?a ?b ?_
  case a => exact sem_at 2 14
  case b => exact rfl
  refine WP_ret ?_
  unfold leave
  have h4 : WtSt (sentV D) (prodV D) 2 c id 0 ((14 : Fin 15).val + 1) ⊢ _ := from_wait (sentV D) (prodV D) 2 c id (fun _ => rfl) 0
  iintro ⟨-, Hw, ⟨Hch, Hown⟩, Hp0, Hp3, ⟨Hi, Hx, Ha, Hs⟩, Hp, Hp1, Ho⟩
  ihave Hw := h4 $$ Hw
  icases Hw with ⟨Hp2, Hpay, HO⟩
  ihave Hm := (comm_end (sentV D) (prodV D) c) $$ [Hch Hown Hpay]
  · isplitl [Hch]; · iexact Hch
    isplitl [Hown]; · iexact Hown
    iexact Hpay
  ihave Hs := (slots_back c) $$ Hs
  iframe HO Hp Hp0 Hp1 Hp2 Hp3 Hi Hx Hs Ho
  isplitl [Ha]; · iexists _; iexact Ha
  iexists _; iexact Hm

end Run

end Cert.Exchange

end
-- ==== Proof.Ghost.lean ====
/-
  The exchange's ghost state around the kernel call: what is dealt to a device at launch while the call's own sixty DMA semaphores
  are still outside their cells, how the cells are opened as the call begins (`opening`) and closed as it ends (`closing`), and
  how the launch makes all of it (`deal`), every token in the hands of the device that pays with it.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-! ## The call's own semaphores -/

/-- The call's own semaphores, by array and index. -/
abbrev osem : Fin 4 × Fin 15 → SemLoc sig := fun x => .dma (dmaS x.1 x.2)

theorem osem_inj : Function.Injective osem := fun x y h => by
  have h1 : dmaS x.1 x.2 = dmaS y.1 y.2 := SemLoc.dma.inj h
  exact Prod.ext (dmaS_inj h1).1 (dmaS_inj h1).2

theorem bs_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- A family over the call's semaphores, array by array. -/
theorem bs_arrays (Φ : Fin 4 × Fin 15 → sProp 𝕄) :
    bigSep Finset.univ Φ = iprop((bigSep Finset.univ fun k : Fin 15 => Φ (0, k)) ∗ (bigSep Finset.univ fun k : Fin 15 => Φ (1, k))
      ∗ (bigSep Finset.univ fun k : Fin 15 => Φ (2, k)) ∗ bigSep Finset.univ fun k : Fin 15 => Φ (3, k)) := by
  rw [bigSep_univ_prod, bs_fin4]

/-! ## Dealt at launch -/

/-- What device `c` holds of the exchange before the call: its position on its barrier, the right to open each of its own cells, and
    the tokens of what it will pay. -/
def dealt (c : Dev nD) : sProp 𝕄 :=
  iprop(atPos ER (barCell c) 0 ∅ 0
    ∗ (bigSep Finset.univ fun x : Fin 4 × Fin 15 => Rounds.openTok ER (dmaCell c x.1 x.2))
    ∗ (bigSep Finset.univ fun k : Fin 15 => dutyTok ER (barCell (peer c k)) 0 k.rev)
    ∗ (bigSep Finset.univ fun k : Fin 15 => dutyTok ER (dmaCell c 0 k) 0 0)
    ∗ (bigSep Finset.univ fun k : Fin 15 => dutyTok ER (dmaCell (peer c k) 1 k) 0 0)
    ∗ (bigSep Finset.univ fun k : Fin 15 => dutyTok ER (dmaCell c 2 k) 0 0)
    ∗ (bigSep Finset.univ fun k : Fin 15 => dutyTok ER (dmaCell (peer c k) 3 k) 0 0))

/-- The credits it waits with. -/
def credits (c : Dev nD) : sProp 𝕄 :=
  iprop(cred (tallyAt (barCell c) () 15) ∗ (bigSep Finset.univ fun k : Fin 15 => cred (tallyAt (dmaCell c 1 k) () N))
    ∗ bigSep Finset.univ fun k : Fin 15 => cred (tallyAt (dmaCell c 3 k) () N))

/-- Every barrier is open. -/
def barOpen : sProp 𝕄 := bigSep Finset.univ fun c : Dev nD => reached ER (barCell c) 0

instance barOpen_persistent : BI.Persistent (barOpen (F := F)) := by unfold barOpen; infer_instance

theorem barOpen_at (c : Dev nD) : barOpen (F := F) ⊢ reached ER (barCell c) 0 := bigSep_elim (Finset.mem_univ c)

/-- What the body starts from, what it owes apart. -/
def entry (c : Dev nD) : sProp 𝕄 :=
  iprop((cred (tallyAt (barCell c) () 15) ∗ atPos ER (barCell c) 0 ∅ 0)
    ∗ (bigSep Finset.univ fun k : Fin 15 => barTok c k) ∗ (bigSep Finset.univ fun k : Fin 15 => openTok c k)
    ∗ (bigSep Finset.univ fun k : Fin 15 => rsTok c k) ∗ (bigSep Finset.univ fun k : Fin 15 => waitTodo 1 c k) ∗ later c)

theorem enter_eq (c : Dev nD) : enter (F := F) c = iprop(owesE c (O₀ c) ∗ entry c) := rfl

section Cells
variable (A : Dev nD → CommC F) (Z : CommC F)

/-- What rides to the call, what the body starts from. -/
def before (c : Dev nD) : sProp 𝕄 := iprop((∃ K, invs A Z K ∗ barOpen ∗ dealt c) ∗ credits c)
def ready (c : Dev nD) : sProp 𝕄 := iprop(∃ K, know A Z K ∗ entry c)

/-- The invariants of one device's DMA cells. -/
theorem invs_dev (K : GSem nD τ sig → ℕ) (c : Dev nD) :
    invs A Z K ⊢ bigSep Finset.univ fun x : Fin 4 × Fin 15 => cellInv ER (exRd A Z) (K (dmaCell c x.1 x.2)) (dmaCell c x.1 x.2) := by
  have h : (bigSep Finset.univ fun x : Dev nD × Fin 4 × Fin 15 => cellInv ER (exRd A Z) (K (dmaCell x.1 x.2.1 x.2.2)) (dmaCell x.1 x.2.1 x.2.2))
      = bigSep Finset.univ fun d : Dev nD => bigSep Finset.univ fun x : Fin 4 × Fin 15 => cellInv ER (exRd A Z) (K (dmaCell d x.1 x.2)) (dmaCell d x.1 x.2) :=
    bigSep_univ_prod _
  unfold invs
  rw [h]
  exact (Idealize.SL.BI.Entails.trans BI.sep_and and_elimR).trans (bigSep_elim (Finset.mem_univ c))

/-- The signals' tokens with the peers' barriers open. -/
theorem barToks (c : Dev nD) :
    iprop(barOpen (F := F) ∗ bigSep Finset.univ fun k : Fin 15 => dutyTok ER (barCell (peer c k)) 0 k.rev)
      ⊢ bigSep Finset.univ fun k : Fin 15 => barTok (F := F) c k := by
  refine bigSep_with_persistent (R := barOpen (F := F)) fun k _ => ?_
  unfold barTok
  iintro ⟨#H, Ht⟩
  isplitl [Ht]; · iexact Ht
  iapply (barOpen_at (F := F) (peer c k)); iexact H

theorem ownSems0_eq (c : Dev nD) :
    (Pipeline.ownSems0 osem c : sProp 𝕄) = bigSep Finset.univ fun x : Fin 4 × Fin 15 => semVal (dmaCell c x.1 x.2) 0 := rfl

/-- The opened cells, array by array. -/
theorem opened_eq (c : Dev nD) :
    (bigSep Finset.univ fun x : Fin 4 × Fin 15 => iprop(atPos ER (dmaCell c x.1 x.2) 0 ∅ 0 ∗ reached ER (dmaCell c x.1 x.2) 0) : sProp 𝕄)
      = iprop(((bigSep Finset.univ fun k : Fin 15 => posAt 0 0 c k) ∗ (bigSep Finset.univ fun k : Fin 15 => posAt 1 0 c k)
          ∗ (bigSep Finset.univ fun k : Fin 15 => posAt 2 0 c k) ∗ bigSep Finset.univ fun k : Fin 15 => posAt 3 0 c k)
        ∗ (bigSep Finset.univ fun k : Fin 15 => reached ER (dmaCell c 0 k) 0) ∗ (bigSep Finset.univ fun k : Fin 15 => reached ER (dmaCell c 1 k) 0)
          ∗ (bigSep Finset.univ fun k : Fin 15 => reached ER (dmaCell c 2 k) 0) ∗ bigSep Finset.univ fun k : Fin 15 => reached ER (dmaCell c 3 k) 0) := by
  rw [bs_sep, bs_arrays, bs_arrays]
  rfl

/-- As the call begins its semaphores go into their cells. -/
theorem opening (c : Dev nD) :
    iprop(before A Z c ∗ Pipeline.ownSems0 osem c ∗ levAts L lv) ⊢ (|={Set.univ}=> ready A Z c : sProp 𝕄) := by
  unfold before ready dealt credits
  iintro ⟨⟨⟨%K, #HI, #HB, HaB, Ho, Hbt, Ht0, Ht1, Ht2, Ht3⟩, HcB, Hc1, Hc3⟩, Hs, #Hlev⟩
  imod (Rounds.cells_open ER (exRd A Z) (Finset.univ : Finset (Fin 4 × Fin 15)) (fun x => dmaCell c x.1 x.2) (fun x => K (dmaCell c x.1 x.2))
      (Es := Set.univ) (fun _ _ => Set.mem_univ _)) $$ [Ho Hs] with H
  · isplitl [Ho]
    · rw [bs_sep]
      isplitr
      · iapply (invs_dev A Z K c); iexact HI
      · iexact Ho
    · iapply (Entails.of_eq (ownSems0_eq c)); iexact Hs
  imodintro
  ihave H2 := (Entails.of_eq (opened_eq (F := F) c)) $$ H
  icases H2 with ⟨⟨Ha0, Ha1, Ha2, Ha3⟩, Hr0, Hr1, Hr2, Hr3⟩
  iexists K
  isplitr
  · unfold know; isplitr; · iexact HI
    iexact Hlev
  unfold entry later
  isplitl [HcB HaB]; · iframe
  isplitl [Hbt]; · iapply (barToks c); isplitr; · iexact HB
                   iexact Hbt
  isplitl [Hr1 Hr3]
  · unfold openTok; rw [bs_sep]; iframe
  isplitl [Hr0 Ht0 Ht1]
  · unfold rsTok; rw [bs_sep, bs_sep]; iframe
  isplitl [Hc1 Ha1]
  · unfold waitTodo posAt; rw [bs_sep]; iframe
  isplitl [Hr2 Ht2 Ht3]
  · unfold agTok; rw [bs_sep, bs_sep]; iframe
  isplitl [Hc3 Ha3]
  · unfold waitTodo posAt; rw [bs_sep]; iframe
  unfold posAt
  iframe

/-- As it ends every cell is closed, its counter at zero. -/
theorem closing (K : GSem nD τ sig → ℕ) (c : Dev nD) :
    iprop(know A Z K ∗ leave c) ⊢ (|={Set.univ}=> iprop(owesE c 0 ∗ semVal (barCell c) 0 ∗ Pipeline.ownSems0 osem c) : sProp 𝕄) := by
  unfold know leave
  iintro ⟨⟨#HI, -⟩, HO, HaB, Ha0, Ha1, Ha2, Ha3⟩
  imod (Rounds.cell_close ER (exRd A Z) (g := barCell c) (R := 1) (Set.mem_univ (K (barCell c))) id (duties_later A Z _)) $$ [HaB] with Hb
  · isplitr; · iapply (invs_bar A Z K c); iexact HI
    iexact HaB
  imod (Rounds.cells_close ER (exRd A Z) (Finset.univ : Finset (Fin 4 × Fin 15)) (fun x => dmaCell c x.1 x.2) (fun x => K (dmaCell c x.1 x.2))
      (Es := Set.univ) (fun _ _ => Set.mem_univ _) (fun _ _ => id) (fun _ => 1) (fun _ _ => duties_later A Z _)) $$ [Ha0 Ha1 Ha2 Ha3] with Hs
  · rw [bs_sep]
    isplitr; · iapply (invs_dev A Z K c); iexact HI
    rw [bs_arrays]
    unfold posAt
    iframe
  imodintro
  isplitl [HO]; · iexact HO
  isplitl [Hb]; · iexact Hb
  iapply (Entails.of_eq (ownSems0_eq c).symm); iexact Hs

end Cells

end Cert.Exchange

end
-- ==== Proof.Launch.lean ====
/-
  The exchange at launch: every cell funded (the barriers from their counters, the call's own cells dormant), every token handed to
  the device that pays with it, and the credit that each device waits with counted from what all of them owe.
-/
module

public import proofs.«01_k».proof.Proof.Ghost

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-! ## The cells -/

theorem dev_of_cell {c d : Dev nD} {s s' : SemLoc sig} (h : (((c : Thread nD τ), s) : GSem nD τ sig) = ((d : Thread nD τ), s')) : c = d :=
  congrArg (fun g : GSem nD τ sig => g.1.1) h
theorem sem_of_cell {c d : Dev nD} {s s' : SemLoc sig} (h : (((c : Thread nD τ), s) : GSem nD τ sig) = ((d : Thread nD τ), s')) : s = s' :=
  congrArg Prod.snd h
theorem dma_cell_inj {c d : Dev nD} {x y : Fin 4 × Fin 15} (h : dmaCell c x.1 x.2 = dmaCell d y.1 y.2) : c = d ∧ x = y :=
  ⟨dev_of_cell h, osem_inj (sem_of_cell h)⟩
theorem bar_ne_dma (c d : Dev nD) (a : Fin 4) (k : Fin 15) : barCell c ≠ dmaCell d a k := fun h => by
  have := sem_of_cell h; cases this

def barEmb : Dev nD ↪ GSem nD τ sig := ⟨fun c => barCell c, fun _ _ h => dev_of_cell h⟩
def dmaEmb : Dev nD × Fin 4 × Fin 15 ↪ GSem nD τ sig :=
  ⟨fun x => dmaCell x.1 x.2.1 x.2.2, fun _ _ h => Prod.ext (dma_cell_inj h).1 (dma_cell_inj h).2⟩

abbrev barCells : Finset (GSem nD τ sig) := Finset.univ.map barEmb
abbrev dmaCells : Finset (GSem nD τ sig) := Finset.univ.map dmaEmb

theorem disjoint_cells : Disjoint barCells dmaCells := by
  rw [Finset.disjoint_left]
  rintro g h₁ h₂
  obtain ⟨c, -, rfl⟩ := Finset.mem_map.mp h₁
  obtain ⟨x, -, h⟩ := Finset.mem_map.mp h₂
  exact bar_ne_dma _ _ _ _ h.symm

/-! ## The tokens -/

def barTokEmb : Dev nD × Fin 15 ↪ GSem nD τ sig × ℕ × Fin 15 :=
  ⟨fun x => (barCell x.1, 0, x.2), fun _ _ h => Prod.ext (dev_of_cell (congrArg Prod.fst h)) (congrArg (fun t : GSem nD τ sig × ℕ × Fin 15 => t.2.2) h)⟩
def dmaTokEmb : Dev nD × Fin 4 × Fin 15 ↪ GSem nD τ sig × ℕ × Fin 15 :=
  ⟨fun x => (dmaCell x.1 x.2.1 x.2.2, 0, 0), fun _ _ h => dmaEmb.injective (congrArg Prod.fst h)⟩

abbrev barToksAt : Finset (GSem nD τ sig × ℕ × Fin 15) := Finset.univ.map barTokEmb
abbrev dmaToksAt : Finset (GSem nD τ sig × ℕ × Fin 15) := Finset.univ.map dmaTokEmb

theorem disjoint_toks : Disjoint barToksAt dmaToksAt := by
  rw [Finset.disjoint_left]
  rintro g h₁ h₂
  obtain ⟨c, -, rfl⟩ := Finset.mem_map.mp h₁
  obtain ⟨x, -, h⟩ := Finset.mem_map.mp h₂
  exact bar_ne_dma _ _ _ _ (congrArg Prod.fst h).symm

/-- Every duty of the exchange. -/
abbrev allToks : Finset (GSem nD τ sig × ℕ × Fin 15) := barToksAt ∪ dmaToksAt

/-- Going round by the index: who receives with index `k` from whom. -/
def ringEquiv : Dev nD × Fin 15 ≃ Dev nD × Fin 15 where
  toFun x := (peer x.1 x.2, x.2)
  invFun x := (peer x.1 x.2.rev, x.2)
  left_inv x := Prod.ext (peer_rev x.1 x.2) rfl
  right_inv x := Prod.ext (peer_rev' x.1 x.2) rfl
/-- The same with the index seen from the other end. -/
def turnEquiv : Dev nD × Fin 15 ≃ Dev nD × Fin 15 where
  toFun x := (peer x.1 x.2, x.2.rev)
  invFun x := (peer x.1 x.2, x.2.rev)
  left_inv x := Prod.ext (peer_rev x.1 x.2) (Fin.rev_rev x.2)
  right_inv x := Prod.ext (peer_rev x.1 x.2) (Fin.rev_rev x.2)

/-- A family over devices and indices, each member handed to the device it is paid by. -/
theorem bs_ring (Φ : Dev nD → Fin 15 → sProp 𝕄) :
    (bigSep Finset.univ fun c : Dev nD => bigSep Finset.univ fun k : Fin 15 => Φ c k)
      = bigSep Finset.univ fun c : Dev nD => bigSep Finset.univ fun k : Fin 15 => Φ (peer c k) k := by
  rw [← bigSep_univ_prod (fun x : Dev nD × Fin 15 => Φ x.1 x.2), bigSep_univ_equiv ringEquiv (fun x : Dev nD × Fin 15 => Φ x.1 x.2), bigSep_univ_prod]
  rfl
theorem bs_turn (Φ : Dev nD → Fin 15 → sProp 𝕄) :
    (bigSep Finset.univ fun c : Dev nD => bigSep Finset.univ fun k : Fin 15 => Φ c k)
      = bigSep Finset.univ fun c : Dev nD => bigSep Finset.univ fun k : Fin 15 => Φ (peer c k) k.rev := by
  rw [← bigSep_univ_prod (fun x : Dev nD × Fin 15 => Φ x.1 x.2), bigSep_univ_equiv turnEquiv (fun x : Dev nD × Fin 15 => Φ x.1 x.2), bigSep_univ_prod]
  rfl

/-- The tokens device `c` pays with. -/
def payToks (c : Dev nD) : sProp 𝕄 :=
  iprop((bigSep Finset.univ fun k : Fin 15 => dutyTok ER (barCell (peer c k)) 0 k.rev)
    ∗ (bigSep Finset.univ fun k : Fin 15 => dutyTok ER (dmaCell c 0 k) 0 0)
    ∗ (bigSep Finset.univ fun k : Fin 15 => dutyTok ER (dmaCell (peer c k) 1 k) 0 0)
    ∗ (bigSep Finset.univ fun k : Fin 15 => dutyTok ER (dmaCell c 2 k) 0 0)
    ∗ (bigSep Finset.univ fun k : Fin 15 => dutyTok ER (dmaCell (peer c k) 3 k) 0 0))

theorem toks_dealt : (bigSep allToks fun x => (dutyTok ER x.1 x.2.1 x.2.2 : sProp 𝕄)) ⊢ bigSep Finset.univ fun c : Dev nD => payToks (F := F) c := by
  have e1 : (bigSep barToksAt fun x => (dutyTok ER x.1 x.2.1 x.2.2 : sProp 𝕄))
      = bigSep Finset.univ fun c : Dev nD => bigSep Finset.univ fun k : Fin 15 => dutyTok ER (barCell (peer c k)) 0 k.rev := by
    rw [bigSep_map, bigSep_univ_prod]
    exact bs_turn fun c k => dutyTok ER (barCell c) 0 k
  have e2 : (bigSep dmaToksAt fun x => (dutyTok ER x.1 x.2.1 x.2.2 : sProp 𝕄))
      = iprop((bigSep Finset.univ fun c : Dev nD => bigSep Finset.univ fun k : Fin 15 => dutyTok ER (dmaCell c 0 k) 0 0)
        ∗ (bigSep Finset.univ fun c : Dev nD => bigSep Finset.univ fun k : Fin 15 => dutyTok ER (dmaCell (peer c k) 1 k) 0 0)
        ∗ (bigSep Finset.univ fun c : Dev nD => bigSep Finset.univ fun k : Fin 15 => dutyTok ER (dmaCell c 2 k) 0 0)
        ∗ bigSep Finset.univ fun c : Dev nD => bigSep Finset.univ fun k : Fin 15 => dutyTok ER (dmaCell (peer c k) 3 k) 0 0) := by
    rw [bigSep_map, bigSep_univ_prod, ← bs_ring (fun c k => (dutyTok ER (dmaCell c 1 k) 0 0 : sProp 𝕄)),
      ← bs_ring (fun c k => (dutyTok ER (dmaCell c 3 k) 0 0 : sProp 𝕄)), ← bs_sep, ← bs_sep, ← bs_sep]
    exact bigSep_congr fun c _ => bs_arrays fun x => dutyTok ER (dmaCell c x.1 x.2) 0 0
  rw [bigSep_union disjoint_toks, e1, e2]
  unfold payToks
  rw [bs_sep, bs_sep, bs_sep, bs_sep]
  exact .rfl

/-! ## The credit -/

theorem owes_all (c : Dev nD) : O₀ c = (∑ k, tBar c k) + ((∑ k, tRs c k) + ∑ k, tAg c k) := by
  unfold O₀ owesRs owesHigh owesAg
  rw [← add_assoc (∑ k ∈ Finset.univ.filter fun k => low c k, tRs c k), Finset.sum_filter_add_sum_filter_not]

theorem at_sum (g : GSem nD τ sig) {ι : Type} (S : Finset ι) (T : ι → CellTallies nD τ sig Unit) : (∑ k ∈ S, T k) g () = ∑ k ∈ S, T k g () := by
  rw [Finset.sum_apply, Finsupp.finset_sum_apply]
theorem at_add (g : GSem nD τ sig) (T T' : CellTallies nD τ sig Unit) : (T + T') g () = T g () + T' g () := rfl

/-- What all devices owe to a cell. -/
theorem owed_at (g : GSem nD τ sig) :
    ∑ d : Dev nD, O₀ d g () = (∑ d : Dev nD, ∑ k, tBar d k g ()) + ((∑ d : Dev nD, ∑ k, tRs d k g ()) + ∑ d : Dev nD, ∑ k, tAg d k g ()) := by
  rw [← Finset.sum_add_distrib, ← Finset.sum_add_distrib]
  refine Finset.sum_congr rfl fun d _ => ?_
  rw [owes_all, at_add, at_add, at_sum, at_sum, at_sum]

/-- Summing over who goes round to `c` with index `k`: one device does. -/
theorem sum_ring (f : Dev nD → Fin 15 → ℕ) : (∑ d : Dev nD, ∑ k, f (peer d k) k) = ∑ d : Dev nD, ∑ k, f d k := by
  rw [← Fintype.sum_prod_type' (f := fun (d : Dev nD) k => f (peer d k) k), ← Fintype.sum_prod_type' (f := f)]
  exact Equiv.sum_comp ringEquiv fun x => f x.1 x.2

theorem sum_at (c : Dev nD) (f : Dev nD → Fin 15 → ℕ) (h : ∀ d, d ≠ c → ∀ k, f d k = 0) : (∑ d : Dev nD, ∑ k, f (peer d k) k) = ∑ k, f c k := by
  rw [sum_ring]
  exact Finset.sum_eq_single c (fun d _ hd => Finset.sum_eq_zero fun k _ => h d hd k) fun hc => absurd (Finset.mem_univ c) hc

theorem tally_ne {g g' : GSem nD τ sig} (n : ℕ) (h : g' ≠ g) : (tallyAt g () n : CellTallies nD τ sig Unit) g' () = 0 := by
  rw [tallyAt_apply, if_neg fun hh => h hh.1]
theorem tally_self (g : GSem nD τ sig) (n : ℕ) : (tallyAt g () n : CellTallies nD τ sig Unit) g () = n := by
  rw [tallyAt_apply, if_pos ⟨rfl, rfl⟩]

theorem owed_bar (c : Dev nD) : ∑ d : Dev nD, O₀ d (barCell c) () = 15 := by
  rw [owed_at, show (∑ d : Dev nD, ∑ k, tBar d k (barCell c) ()) = ∑ d : Dev nD, ∑ k : Fin 15, (tallyAt (barCell (peer d k)) () 1 : CellTallies nD τ sig Unit) (barCell c) () from rfl,
    sum_at c (fun d _ => (tallyAt (barCell d) () 1 : CellTallies nD τ sig Unit) (barCell c) ())
      fun d hd k => tally_ne 1 fun h => hd (dev_of_cell h).symm,
    Finset.sum_eq_zero (f := fun d : Dev nD => ∑ k, tRs d k (barCell c) ()) fun d _ => Finset.sum_eq_zero fun k _ => tally_ne N (bar_ne_dma _ _ _ _),
    Finset.sum_eq_zero (f := fun d : Dev nD => ∑ k, tAg d k (barCell c) ()) fun d _ => Finset.sum_eq_zero fun k _ => tally_ne N (bar_ne_dma _ _ _ _)]
  simp only [tally_self]
  rfl

theorem sum_dma (c : Dev nD) (a : Fin 4) (j : Fin 15) :
    (∑ d : Dev nD, ∑ k, (tallyAt (dmaCell (peer d k) a k) () N : CellTallies nD τ sig Unit) (dmaCell c a j) ()) = N := by
  rw [sum_at c (fun d k => (tallyAt (dmaCell d a k) () N : CellTallies nD τ sig Unit) (dmaCell c a j) ())
      fun d hd k => tally_ne N fun h => hd (dev_of_cell h).symm,
    Finset.sum_eq_single j (fun k _ hk => tally_ne N fun h => hk (congrArg Prod.snd (dma_cell_inj (x := (a, j)) (y := (a, k)) h).2).symm)
      fun hj => absurd (Finset.mem_univ j) hj, tally_self]

theorem sum_dma_ne (c : Dev nD) (a a' : Fin 4) (h : a ≠ a') (j : Fin 15) :
    (∑ d : Dev nD, ∑ k, (tallyAt (dmaCell (peer d k) a k) () N : CellTallies nD τ sig Unit) (dmaCell c a' j) ()) = 0 :=
  Finset.sum_eq_zero fun d _ => Finset.sum_eq_zero fun k _ =>
    tally_ne N fun e => h (congrArg Prod.fst (dma_cell_inj (x := (a', j)) (y := (a, k)) e).2).symm

theorem sum_bar_dma (c : Dev nD) (a : Fin 4) (j : Fin 15) : (∑ d : Dev nD, ∑ k, tBar d k (dmaCell c a j) ()) = 0 :=
  Finset.sum_eq_zero fun d _ => Finset.sum_eq_zero fun k _ => tally_ne 1 (bar_ne_dma _ _ _ _).symm

theorem owed_rs (c : Dev nD) (j : Fin 15) : ∑ d : Dev nD, O₀ d (dmaCell c 1 j) () = N := by
  rw [owed_at, sum_bar_dma]
  unfold tRs tAg
  rw [sum_dma c 1 j, sum_dma_ne c 3 1 (by decide) j, Nat.zero_add, Nat.add_zero]
theorem owed_ag (c : Dev nD) (j : Fin 15) : ∑ d : Dev nD, O₀ d (dmaCell c 3 j) () = N := by
  rw [owed_at, sum_bar_dma]
  unfold tRs tAg
  rw [sum_dma c 3 j, sum_dma_ne c 1 3 (by decide) j, Nat.zero_add, Nat.zero_add]

/-- A cell's launch credit. -/
theorem credit_at (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

theorem dma_ne_reg (x : Fin 4 × Fin 15) : osem x ≠ SemLoc.reg barS := fun h => SemLoc.noConfusion rfl (heq_of_eq h)

theorem keep_odd (A B C D : sProp 𝕄) : iprop(A ∗ B ∗ C ∗ D) ⊢ iprop(B ∗ D) := by
  iintro ⟨-, H1, -, H3⟩
  isplitl [H1] <;> iassumption

/-- The credit a device waits with, out of its launch credit. -/
theorem credits_launch (c : Dev nD) : (Pipeline.launchCred O₀ c : sProp 𝕄) ⊢ credits (F := F) c := by
  unfold Pipeline.launchCred credits
  rw [bigSep_univ_at _ (SemLoc.reg barS), credit_at (barCell c) 15 (owed_bar c)]
  refine sep_mono_right ?_
  have hs : (Finset.univ.map (⟨osem, fun _ _ h => osem_inj h⟩ : Fin 4 × Fin 15 ↪ SemLoc sig)) ⊆ Finset.univ.erase (SemLoc.reg barS) := fun s hs => by
    obtain ⟨x, -, rfl⟩ := Finset.mem_map.mp hs
    exact Finset.mem_erase.mpr ⟨dma_ne_reg x, Finset.mem_univ _⟩
  refine Idealize.SL.BI.Entails.trans (bigSep_subset hs) ?_
  rw [bigSep_map, bs_arrays]
  exact (keep_odd _ _ _ _).trans (Entails.of_eq (congrArg₂ (fun X Y : sProp 𝕄 => iprop(X ∗ Y))
    (bigSep_congr fun k _ => congrArg cred (credit_at (dmaCell c 1 k) N (owed_rs c k)))
    (bigSep_congr fun k _ => congrArg cred (credit_at (dmaCell c 3 k) N (owed_ag c k)))))

end Cert.Exchange

end
-- ==== Proof.Region.lean ====
/-
  The kernel call as a segment of @main: the contents its windows are filled from, its proof data, its body obligation
  (the run of the body between the opening and the closing of the exchange), and the segment's record (`reg`).
-/
module

public import proofs.«01_k».proof.Proof.Ghost
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.Value

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-! ## A window of the whole array -/

theorem blk_emb {s : Shape} {e : EltTy} {cs : CoreSpace} (b : Memref sig .tc .hbm s e) (st : Memref sig .tc (.core cs) ⟨s.rank, s.size⟩ e)
    (isOut sync : Bool) (sem) (h1) (h2) (t : Fin Pipeline.Grid.none.N) (i : s.Idx) :
    ((Pipeline.Window.whole b isOut sync st sem h1 h2).rect t).emb i = i := by
  refine funext fun a => Fin.ext ?_
  show 0 * s.size a + 1 * (i a).val = (i a).val
  omega

theorem read_blk {s : Shape} {e : EltTy} {cs : CoreSpace} (b : Memref sig .tc .hbm s e) (st : Memref sig .tc (.core cs) ⟨s.rank, s.size⟩ e)
    (isOut sync : Bool) (sem) (h1) (h2) (t : Fin Pipeline.Grid.none.N) (f : b.view.ref.ty.Contents (Elt F)) :
    ((Pipeline.Window.whole b isOut sync st sem h1 h2).blk t).view.read (Elt F) f = b.view.read (Elt F) f :=
  funext fun i => congrArg (b.view.read (Elt F) f) (blk_emb b st isOut sync sem h1 h2 t i)

theorem mem_blk {s : Shape} {e : EltTy} {cs : CoreSpace} (b : Memref sig .tc .hbm s e) (st : Memref sig .tc (.core cs) ⟨s.rank, s.size⟩ e)
    (isOut sync : Bool) (sem) (h1) (h2) (t : Fin Pipeline.Grid.none.N) (x : s.Idx) :
    b.view.emb x ∈ ((Pipeline.Window.whole b isOut sync st sem h1 h2).blk t).view.set := by
  have h := View.emb_mem_set ((Pipeline.Window.whole b isOut sync st sem h1 h2).blk t).view x
  have e : ((Pipeline.Window.whole b isOut sync st sem h1 h2).blk t).view.emb x = b.view.emb x :=
    congrArg b.view.emb (blk_emb b st isOut sync sem h1 h2 t x)
  rwa [e] at h

/-! ## The contents -/

section Run
variable (m : (ℓ : Loc nD τ sig) → Buf (Elt F) ℓ)

/-- What device `c`'s input windows are filled with. -/
def insD (c : Dev nD) : Ins F where
  x := V1 m c main_arg0
  wq := V1 m c main_arg1
  k := V1 m c main_v15
  v := V1 m c main_v16
  wo := V1 m c main_arg4

/-- The product every device's result is. -/
def outD : Vec F S2x128x512 .f32 := outV (insD m)

/-- The exchange's contents: what each device sends, what all end with. -/
abbrev AD : Dev nD → CommC F := sentV (insD m)
abbrev ZD : CommC F := prodV (insD m)

/-- What the call leaves in the buffers it may change. -/
def outs : Outs (F := F) := fun _ r c => if h : r = main_v17 then (by subst h; exact outD m) else m ((c : Thread nD τ).loc r)

theorem V2_out (c : Dev nD) : V2 m (outs m) c (Proc.devRef .tc main_v17) = outD m := by
  have h : V2 m (outs m) c (Proc.devRef .tc main_v17) = outs m 2 main_v17 c := Function.update_self ..
  rw [h]
  exact dif_pos rfl
theorem V2_ne (c : Dev nD) (b : DevRef τ sig) (h : b ≠ Proc.devRef .tc main_v17) : V2 m (outs m) c b = V1 m c b :=
  Function.update_of_ne h ..

/-! ## The proof data -/

/-- Before the body: the exchange opened; after it: closed, its semaphores back at zero. -/
def startΦ (c : Dev nD) : sProp 𝕄 :=
  iprop(Pipeline.scopedRest spec0 c ∗ (∃ r, prngReg c r) ∗ ready (AD m) (ZD m) c)
def endΦ (c : Dev nD) : sProp 𝕄 :=
  iprop(Pipeline.scopedRest spec0 c ∗ (∃ r, prngReg c r) ∗ Pipeline.ownSems0 osem c ∗ semVal (barCell c) 0)

def dat (c : Dev nD) : Dat τ (Elt F) Unit ℕ UU ℕ cfg0 c where
  A w := V1 m c (Proc.devRef .tc (Pipeline.arrRef spec0 w))
  after w _ := match w with
    | 0 => (insD m c).x
    | 1 => (insD m c).wq
    | 2 => (insD m c).k
    | 3 => (insD m c).v
    | 4 => (insD m c).wo
    | 5 => outD m
  Φ t := if t.val = 0 then startΦ m c else endΦ c
  q _ := fullShare
  owed t := if t.val = 0 then O₀ c else 0

def pdats : (p : Fin 1) → (c : Dev nD) → Dat τ (Elt F) Unit ℕ UU ℕ (cfgs p) c
  | 0 => dat m

theorem t0_first : (t0_0.castSucc : Fin (cfg0.N + 1)).val = 0 := rfl
theorem t0_last : (t0_0.succ : Fin (cfg0.N + 1)).val = 1 := rfl

theorem phi_eq (c : Dev nD) (t : Fin (cfg0.N + 1)) : (dat m c).Φ t = if t.val = 0 then startΦ m c else endΦ c := rfl
theorem owed_eq (c : Dev nD) (t : Fin (cfg0.N + 1)) : (dat m c).owed t = if t.val = 0 then O₀ c else 0 := rfl
theorem last_val : (Fin.last cfg0.N).val = 1 := N_0

theorem phi_zero (c : Dev nD) : (dat m c).Φ 0 = startΦ m c := by rw [phi_eq]; exact if_pos rfl
theorem phi_first (c : Dev nD) : (dat m c).Φ t0_0.castSucc = startΦ m c := by rw [phi_eq, t0_first]; exact if_pos rfl
theorem phi_last (c : Dev nD) : (dat m c).Φ t0_0.succ = endΦ c := by rw [phi_eq, t0_last]; exact if_neg (by decide)
theorem phi_end (c : Dev nD) : (dat m c).Φ (Fin.last cfg0.N) = endΦ c := by rw [phi_eq, last_val]; exact if_neg (by decide)
theorem owed_zero (c : Dev nD) : (dat m c).owed 0 = O₀ c := by rw [owed_eq]; exact if_pos rfl
theorem owed_first (c : Dev nD) : (dat m c).owed t0_0.castSucc = O₀ c := by rw [owed_eq, t0_first]; exact if_pos rfl
theorem owed_last (c : Dev nD) : (dat m c).owed t0_0.succ = 0 := by rw [owed_eq, t0_last]; exact if_neg (by decide)
theorem owed_end (c : Dev nD) : (dat m c).owed (Fin.last cfg0.N) = 0 := by rw [owed_eq, last_val]; exact if_neg (by decide)

/-- What the core owes, as the loop holds it. -/
theorem owesAt_intro (c : Dev nD) (t : Fin (cfg0.N + 1)) (O : CellTallies nD τ sig Unit) (h0 : (dat m c).owed t = O) :
    (owesE c O : sProp 𝕄) ⊢ ((dat m c).owesAt () t : sProp 𝕄) := by
  unfold owesE Dat.owesAt Pipeline.owesWithin Dat.bound
  rw [h0]
  iintro ⟨%W, HO⟩
  iexists W
  isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ (owesE c O : sProp 𝕄) := by
  unfold owesE Dat.owesAt Pipeline.owesWithin
  rw [h0]
  iintro ⟨%W, -, HO⟩
  iexists W
  iexact HO

/-- Each input window holds its whole array. -/
theorem before_0 (c : Dev nD) (d) : (dat m c).before 0 t0_0 d = (insD m c).x :=
  ((dat m c).before_fetched 0 t0_0 (fetch0_0 _) d).trans
    (show (win0_0.blk t0_0).view.read (Elt F) (V1 m c (Proc.devRef .tc main_arg0)) = _ from read_blk (Memref.whole main_arg0) _ _ _ _ _ _ _ _)
theorem before_1 (c : Dev nD) (d) : (dat m c).before 1 t0_0 d = (insD m c).wq :=
  ((dat m c).before_fetched 1 t0_0 (fetch0_1 _) d).trans
    (show (win0_1.blk t0_0).view.read (Elt F) (V1 m c (Proc.devRef .tc main_arg1)) = _ from read_blk (Memref.whole main_arg1) _ _ _ _ _ _ _ _)
theorem before_2 (c : Dev nD) (d) : (dat m c).before 2 t0_0 d = (insD m c).k :=
  ((dat m c).before_fetched 2 t0_0 (fetch0_2 _) d).trans
    (show (win0_2.blk t0_0).view.read (Elt F) (V1 m c (Proc.devRef .tc main_v15)) = _ from read_blk (Memref.whole main_v15) _ _ _ _ _ _ _ _)
theorem before_3 (c : Dev nD) (d) : (dat m c).before 3 t0_0 d = (insD m c).v :=
  ((dat m c).before_fetched 3 t0_0 (fetch0_3 _) d).trans
    (show (win0_3.blk t0_0).view.read (Elt F) (V1 m c (Proc.devRef .tc main_v16)) = _ from read_blk (Memref.whole main_v16) _ _ _ _ _ _ _ _)
theorem before_4 (c : Dev nD) (d) : (dat m c).before 4 t0_0 d = (insD m c).wo :=
  ((dat m c).before_fetched 4 t0_0 (fetch0_4 _) d).trans
    (show (win0_4.blk t0_0).view.read (Elt F) (V1 m c (Proc.devRef .tc main_arg4)) = _ from read_blk (Memref.whole main_arg4) _ _ _ _ _ _ _ _)

theorem out_read (t : Fin cfg0.N) (f : (main_v17 : Ref sig .tc).ty.Contents (Elt F)) : (win0_5.blk t).view.read (Elt F) f = f :=
  read_blk (Memref.whole main_v17) _ _ _ (sem0_5 0) (Memref.isWhole_whole _) (hstage0_5 0) t f

/-- The result window is written back whole. -/
theorem arr_out (c : Dev nD) : (dat m c).arrAt 5 cfg0.N = outD m :=
  (dat m c).arrAt_eq_of_cover 5 (outD m)
    (fun t _ => show outD m = (win0_5.blk t).view.read (Elt F) (outD m) from (out_read t (outD m)).symm)
    (fun i => ⟨t0_0, flush0_5 _, mem_blk (Memref.whole main_v17) _ _ _ (sem0_5 0) (Memref.isWhole_whole _) (hstage0_5 0) _ i⟩)

/-! ## The body obligation -/

theorem owns_whole_eq (b : Ref sig .tc) (c : Dev nD) (X : b.ty.Contents (Elt F)) :
    (owns c (Memref.whole b) fullShare X : sProp 𝕄)
      = iprop(∃ f : Buf (Elt F) ((Memref.whole b).view.loc (c : Thread nD τ)), ⌜f = X⌝ ∗ ((c : Thread nD τ).loc b ↦{fullShare} f)) := by
  unfold owns; simp only [Memref.view_whole, View.read_whole, View.set_whole]

/-- A whole staging buffer, owned, is its points-to. -/
theorem owns_elim (b : Ref sig .tc) (c : Dev nD) (X : b.ty.Contents (Elt F)) :
    (owns c (Memref.whole b) fullShare X : sProp 𝕄) ⊢ ((c : Thread nD τ).loc b ↦{fullShare} X) := by
  rw [owns_whole_eq]
  iintro ⟨%f, %h, H⟩
  subst h
  iexact H
theorem owns_intro (b : Ref sig .tc) (c : Dev nD) (X : b.ty.Contents (Elt F)) :
    ((c : Thread nD τ).loc b ↦{fullShare} X : sProp 𝕄) ⊢ owns c (Memref.whole b) fullShare X := by
  rw [owns_whole_eq]
  iintro H
  iexists X
  isplitr; · ipureintro; rfl
  iexact H

/-- The scratch buffers. -/
theorem scratch_eq (c : Dev nD) : (Pipeline.scopedRest spec0 c : sProp 𝕄)
    = iprop((∃ f, wholePt c accM f) ∗ (∃ f, wholePt c ctxM f) ∗ (∃ f, wholePt c commM f) ∗ ∃ f, wholePt c stageM f) := scopedRest0_eq c

/-- The end of the body: the exchange closed. -/
theorem at_end (c : Dev nD) (K : GSem nD τ sig → ℕ) :
    iprop((leave c ∗ insPt c (insD m c) ∗ (∃ f, wholePt c ctxM f) ∗ (∃ f, wholePt c accM f) ∗ (∃ f, wholePt c commM f) ∗ (∃ f, wholePt c stageM f)
        ∗ wholePt c outM (outD m)) ∗ know (AD m) (ZD m) K ∗ ∃ r, prngReg c r)
      ⊢ (|={Set.univ}=> iprop(endΦ c ∗ owesE c 0 ∗ insPt c (insD m c) ∗ wholePt c outM (outD m)) : sProp 𝕄) := by
  unfold endΦ
  rw [scratch_eq]
  iintro ⟨⟨Hl, Hi, Hx, Ha, Hm, Hs, Ho⟩, HK, Hp⟩
  imod (closing (AD m) (ZD m) K c) $$ [Hl HK] with ⟨HO, Hb, Hos⟩
  · iframe
  imodintro
  iframe

/-- The body between the opening and the end of the exchange. -/
theorem run_closed (c : Dev nD) (fo : Vec F S2x128x512 .f32) :
    iprop(startΦ m c ∗ owesE c (O₀ c) ∗ insPt c (insD m c) ∗ wholePt c outM fo)
      ⊢ WP c (bodyAt0 (F := F) t0_0) fun _ => iprop(endΦ c ∗ owesE c 0 ∗ insPt c (insD m c) ∗ wholePt c outM (outD m)) := by
  unfold startΦ ready
  rw [scratch_eq]
  iintro ⟨⟨⟨⟨%fa, Ha⟩, ⟨%fx, Hx⟩, ⟨%fm, Hm⟩, ⟨%fs, Hs⟩⟩, Hp, ⟨%K, #HK, He⟩⟩, HO, Hi, Ho⟩
  have h := (wp_frame_r frame (wpE (defs₀ (F := F)) 𝒱₀ c none) Set.univ (p := bodyAt0 (F := F) t0_0)
      (Q := fun _ => iprop(leave c ∗ insPt c (insD m c) ∗ (∃ f, wholePt c ctxM f) ∗ (∃ f, wholePt c accM f) ∗ (∃ f, wholePt c commM f) ∗ (∃ f, wholePt c stageM f)
        ∗ wholePt c outM (outD m))) (R := iprop(know (AD m) (ZD m) K ∗ ∃ r, prngReg c r))).trans
    ((wp_mono frame (wpE (defs₀ (F := F)) 𝒱₀ c none) Set.univ fun _ => at_end m c K).trans (wp_fupd frame (wpE (defs₀ (F := F)) 𝒱₀ c none) Set.univ _ _))
  iapply h
  isplitl [He HO Hi Ho Ha Hx Hm Hs]
  · iapply (body_run (insD m) K c fx fa fm fs fo)
    isplitr; · iexact HK
    isplitl [He HO]; · iapply (Entails.of_eq (enter_eq (F := F) c).symm); iframe
    iframe
  isplitr; · iexact HK
  iexact Hp

/-- A window's buffer before the body. -/
abbrev stgPre (c : Dev nD) (b : Ref sig .tc) {D : Type} (f : D → b.ty.Contents (Elt F)) : sProp 𝕄 :=
  iprop(∃ d, owns c (Memref.whole b) fullShare (f d))

/-- The body obligation, window by window. -/
theorem body_wins (c : Dev nD) :
    iprop(startΦ m c ∗ (dat m c).owesAt () t0_0.castSucc
      ∗ stgPre c cc0_stg0_0 ((dat m c).before 0 t0_0) ∗ stgPre c cc0_stg1_0 ((dat m c).before 1 t0_0) ∗ stgPre c cc0_stg2_0 ((dat m c).before 2 t0_0)
      ∗ stgPre c cc0_stg3_0 ((dat m c).before 3 t0_0) ∗ stgPre c cc0_stg4_0 ((dat m c).before 4 t0_0) ∗ stgPre c cc0_stg5_0 ((dat m c).before 5 t0_0))
    ⊢ WP c (bodyAt0 (F := F) t0_0) fun _ => iprop(endΦ c ∗ (dat m c).owesAt () t0_0.succ ∗ owns c (Memref.whole cc0_stg0_0) fullShare (insD m c).x
        ∗ owns c (Memref.whole cc0_stg1_0) fullShare (insD m c).wq ∗ owns c (Memref.whole cc0_stg2_0) fullShare (insD m c).k
        ∗ owns c (Memref.whole cc0_stg3_0) fullShare (insD m c).v ∗ owns c (Memref.whole cc0_stg4_0) fullShare (insD m c).wo
        ∗ owns c (Memref.whole cc0_stg5_0) fullShare (outD m)) := by
  iintro ⟨HΦ, HO, ⟨%d0, H0⟩, ⟨%d1, H1⟩, ⟨%d2, H2⟩, ⟨%d3, H3⟩, ⟨%d4, H4⟩, ⟨%d5, H5⟩⟩
  ihave HO := (owesAt_elim m c _ (O₀ c) (owed_first m c)) $$ HO
  ihave H0 := (owns_elim cc0_stg0_0 c ((dat m c).before 0 t0_0 d0)) $$ H0
  ihave H1 := (owns_elim cc0_stg1_0 c ((dat m c).before 1 t0_0 d1)) $$ H1
  ihave H2 := (owns_elim cc0_stg2_0 c ((dat m c).before 2 t0_0 d2)) $$ H2
  ihave H3 := (owns_elim cc0_stg3_0 c ((dat m c).before 3 t0_0 d3)) $$ H3
  ihave H4 := (owns_elim cc0_stg4_0 c ((dat m c).before 4 t0_0 d4)) $$ H4
  ihave H5 := (owns_elim cc0_stg5_0 c ((dat m c).before 5 t0_0 d5)) $$ H5
  have e : iprop(endΦ c ∗ owesE c 0 ∗ insPt c (insD m c) ∗ wholePt c outM (outD m))
      ⊢ (iprop(endΦ c ∗ (dat m c).owesAt () t0_0.succ ∗ owns c (Memref.whole cc0_stg0_0) fullShare (insD m c).x
        ∗ owns c (Memref.whole cc0_stg1_0) fullShare (insD m c).wq ∗ owns c (Memref.whole cc0_stg2_0) fullShare (insD m c).k
        ∗ owns c (Memref.whole cc0_stg3_0) fullShare (insD m c).v ∗ owns c (Memref.whole cc0_stg4_0) fullShare (insD m c).wo
        ∗ owns c (Memref.whole cc0_stg5_0) fullShare (outD m)) : sProp 𝕄) := by
    unfold insPt
    iintro ⟨HΦ, HO, ⟨H0, H1, H2, H3, H4⟩, H5⟩
    isplitl [HΦ]; · iexact HΦ
    isplitl [HO]; · iapply (owesAt_intro m c t0_0.succ 0 (owed_last m c)); iexact HO
    isplitl [H0]; · iapply (owns_intro cc0_stg0_0 c (insD m c).x); iexact H0
    isplitl [H1]; · iapply (owns_intro cc0_stg1_0 c (insD m c).wq); iexact H1
    isplitl [H2]; · iapply (owns_intro cc0_stg2_0 c (insD m c).k); iexact H2
    isplitl [H3]; · iapply (owns_intro cc0_stg3_0 c (insD m c).v); iexact H3
    isplitl [H4]; · iapply (owns_intro cc0_stg4_0 c (insD m c).wo); iexact H4
    iapply (owns_intro cc0_stg5_0 c (outD m)); iexact H5
  have h := (run_closed m c ((dat m c).before 5 t0_0 d5)).trans (wp_mono frame (wpE (defs₀ (F := F)) 𝒱₀ c none) Set.univ fun _ => e)
  iapply h
  isplitl [HΦ]; · iexact HΦ
  isplitl [HO]; · iexact HO
  isplitr [H5]
  · unfold insPt
    rw [← before_0 m c d0, ← before_1 m c d1, ← before_2 m c d2, ← before_3 m c d3, ← before_4 m c d4]
    isplitl [H0]; · iexact H0
    isplitl [H1]; · iexact H1
    isplitl [H2]; · iexact H2
    isplitl [H3]; · iexact H3
    iexact H4
  iexact H5

/-- The body obligation. -/
theorem body_ob (c : Dev nD) : BodyObligation (dat m c) defs₀ 𝒱₀ () Set.univ := fun t => by
  obtain rfl := fin_N0 t
  rw [bigSep_W0, bigSep_W0, phi_first, phi_last]
  exact body_wins m c

/-! ## The segment's record -/

/-- The arrays, and the unscoped buffers that are none of them. -/
abbrev arrs : Finset (DevRef τ sig) := Pipeline.arrRefs (τ := τ) spec0
abbrev rest : Finset (DevRef τ sig) := Pipeline.ucRefs τ sig \ arrs

theorem arrs_sub : arrs ⊆ Pipeline.ucRefs τ sig := by decide
theorem out_mem : (Proc.devRef .tc main_v17 : DevRef τ sig) ∈ arrs := by decide

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share_full (c : Dev nD) (w : Fin cfg0.W) : (dat m c).share w = fullShare := by unfold Dat.share; split <;> rfl

theorem arr_end (c : Dev nD) (w : Fin cfg0.W) :
    (dat m c).arrAt w cfg0.N = V2 m (outs m) c (Proc.devRef .tc (Pipeline.arrRef spec0 w)) := by
  fin_cases w
  · exact ((dat m c).arrAt_in 0 rfl _).trans (V2_ne m c (Proc.devRef .tc main_arg0) (by decide)).symm
  · exact ((dat m c).arrAt_in 1 rfl _).trans (V2_ne m c (Proc.devRef .tc main_arg1) (by decide)).symm
  · exact ((dat m c).arrAt_in 2 rfl _).trans (V2_ne m c (Proc.devRef .tc main_v15) (by decide)).symm
  · exact ((dat m c).arrAt_in 3 rfl _).trans (V2_ne m c (Proc.devRef .tc main_v16) (by decide)).symm
  · exact ((dat m c).arrAt_in 4 rfl _).trans (V2_ne m c (Proc.devRef .tc main_arg4) (by decide)).symm
  · exact (arr_out m c).trans (V2_out m c).symm

theorem cut_owed (c : Dev nD) (t : Fin (cfg0.N + 1)) (g : GSem nD τ sig) (i : Unit) (h : 0 < (dat m c).owed t g i) :
    i ∈ L g ∧ (0 : ℕ) < lv g i := by
  rw [owed_eq] at h
  split at h
  · exact above_O₀ c g i h
  · exact absurd h (Nat.lt_irrefl 0)

theorem held_none (c : Dev nD) (W : Valuation τ sig (Elt F)) : (StableHlo.held (c : Thread nD τ) ∅ W : sProp 𝕄) = BI.emp := by
  unfold StableHlo.held; exact BI.bigSep_empty

theorem stage_lv (c : Dev nD) (w : Fin cfg0.W) (s : Fin (cfg0.win w).nbuf) : lv ((c : Thread nD τ), .dma ((cfg0.win w).sem s)) () ≤ 0 := by
  have h : ((cfg0.win w).sem s).val < 6 := by revert s; revert w; decide
  show (if ((cfg0.win w).sem s).val < 6 then 0 else _) ≤ 0
  rw [if_pos h]

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ rest (Finset.empty_subset _) kit0 rfl (fun c => (body_ob m c).loose)
    (fun _ => 0) O₀ (fun c => (owed_zero m c).trans (zero_add _).symm) (owed_end m) (fun _ => rfl) (share_full m)
    (V1 m) (V2 m (outs m))
    (fun c b hb => V2_ne m c b fun h => by
      subst h; exact absurd out_mem (Finset.mem_sdiff.mp (Finset.mem_sdiff.mp hb).1).2)
    (before (AD m) (ZD m)) (fun c => semVal (barCell c) 0) (ready (AD m) (ZD m)) (fun c => semVal (barCell c) 0)
    (opening (AD m) (ZD m))
    (fun c => by
      rw [held_none]
      refine (show _ ⊢ startΦ m c from ?_).trans (Entails.of_eq (phi_zero m c).symm)
      unfold startΦ
      iintro ⟨H1, H2, -, H3⟩
      isplitl [H1]; · iexact H1
      isplitl [H2]; · iexact H2
      iexact H3)
    (fun c => by
      rw [held_none]
      refine (Entails.of_eq (phi_end m c)).trans ?_
      unfold endΦ
      iintro ⟨H1, H2, H3, H4⟩
      isplitl [H1]; · iexact H1
      isplitl [H2]; · iexact H2
      isplitr; · iempintro
      isplitl [H3]; · iexact H3
      iexact H4)
    (fun c => by iintro H; imodintro; iexact H)
    (fun _ => 0)
    ⟨fun c w s => by rw [L_tc]; exact Finset.mem_singleton_self _, fun c w s => stage_lv c w s, fun c t g i h => cut_owed m c t g i h⟩
    (fun _ => iprop(emp))
    (fun _ _ => rfl) (arr_end m)

/-- What rides beside the buffers: the generator register, the exchange's state from launch, what the core owes. -/
def rides (c : Dev nD) : sProp 𝕄 := iprop((∃ r, prngReg c r) ∗ before (AD m) (ZD m) c ∗ owesE c (O₀ c))
def leaves (c : Dev nD) : sProp 𝕄 := iprop((∃ r, prngReg c r) ∗ semVal (barCell c) 0 ∗ owesE (F := F) c 0)

theorem reg_pre (c : Dev nD) : iprop(StableHlo.held (c : Thread nD τ) (Pipeline.ucRefs τ sig) (V1 m c) ∗ rides m c) ⊢ (reg m).pre c := by
  show _ ⊢ iprop(StableHlo.held (c.tc : Thread nD τ) arrs (V1 m c) ∗ (∃ r, prngReg c r)
    ∗ (StableHlo.held (c.tc : Thread nD τ) rest (V1 m c) ∗ emp) ∗ before (AD m) (ZD m) c ∗ ∃ Wd, owes (c : Thread nD τ) (0 + O₀ c) Wd)
  rw [zero_add, StableHlo.held_sub_split (c : Thread nD τ) arrs_sub (V1 m c)]
  unfold rides owesE
  iintro ⟨⟨Ha, Hr⟩, Hp, Hb, HO⟩
  isplitl [Ha]; · iexact Ha
  isplitl [Hp]; · iexact Hp
  isplitl [Hr]
  · isplitl [Hr]; · iexact Hr
    iempintro
  isplitl [Hb]; · iexact Hb
  iexact HO

theorem reg_post (c : Dev nD) : (reg m).post c
    ⊢ iprop(StableHlo.held (c : Thread nD τ) (Pipeline.ucRefs τ sig) (V2 m (outs m) c) ∗ leaves (F := F) c) := by
  show iprop(StableHlo.held (c.tc : Thread nD τ) arrs (V2 m (outs m) c) ∗ (∃ r, prngReg c r)
    ∗ (StableHlo.held (c.tc : Thread nD τ) rest (V2 m (outs m) c) ∗ emp) ∗ semVal (barCell c) 0 ∗ ∃ Wd, owes (c : Thread nD τ) (0 : CellTallies nD τ sig Unit) Wd) ⊢ _
  rw [StableHlo.held_sub_split (c : Thread nD τ) arrs_sub (V2 m (outs m) c)]
  unfold leaves owesE
  iintro ⟨Ha, Hp, ⟨Hr, -⟩, Hb, HO⟩
  isplitl [Ha Hr]
  · isplitl [Ha]; · iexact Ha
    iexact Hr
  isplitl [Hp]; · iexact Hp
  isplitl [Hb]; · iexact Hb
  iexact HO

end Run

end Cert.Exchange

end
-- ==== Proof.Run.lean ====
/-
  The run of the whole program: from any memory with zero counters, every weakly fair execution of @main on the sixteen devices
  ends, with every argument unchanged, the result holding what `outD` says on every device, and every counter at zero.
-/
module

public import proofs.«01_k».proof.Proof.Launch
public import proofs.«01_k».proof.Proof.Region

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf Seg)

variable {F : FTy → Type} [FloatOps F] [Named F]

local notation "𝕄" => MT nD τ sig Unit (Elt F) ℕ UU ℕ

/-! ## The launch -/

/-- The ghost state of the launch: the staging pipeline's and the exchange's. -/
def u₀ : UU :=
  (initOf (Pipeline.cells (Pipeline.pin (pcfgs (F := F)) adm) cellOf_inj) (Pipeline.launchToks (Pipeline.pin (pcfgs (F := F)) adm) cellOf_inj),
    launchOf barCells dmaCells allToks)

/-- One device carries the exchange's part until it is dealt out. -/
def carried (X : sProp 𝕄) (c : Dev nD) : sProp 𝕄 := if c = 0 then X else iprop(emp)
theorem bs_carried (X : sProp 𝕄) : bigSep Finset.univ (carried X) = X := by
  rw [bigSep_univ_at _ (0 : Dev nD), bigSep_congr (s := Finset.univ.erase (0 : Dev nD)) (Ψ := fun _ => BI.emp)
    fun c hc => by unfold carried; rw [if_neg (Finset.ne_of_mem_erase hc)]; rfl, BI.bigSep_emp_const]
  unfold carried
  rw [if_pos rfl]
  exact BI.equiv_iff.mp sep_emp

def G : Dev nD → sProp 𝕄 := carried (BI.own (ER (launchOf barCells dmaCells allToks)))

theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem unscoped_eq : ∀ sm : SemLoc sig, sm.isScoped .tc = false → sm = .reg barS := by decide

section Cells
variable (A : Dev nD → CommC F) (Z : CommC F)

/-- What every device knows. -/
def records (K : GSem nD τ sig → ℕ) : sProp 𝕄 := iprop(invs A Z K ∗ barOpen)
instance records_persistent (K : GSem nD τ sig → ℕ) : BI.Persistent (records A Z K) := by unfold records invs; infer_instance

/-- What one device holds besides the exchange's ghost state. -/
def purse (c : Dev nD) : sProp 𝕄 := iprop(credits c ∗ owes (c : Thread nD τ) (O₀ c) ∅ ∗ ∃ r, prngReg c r)

theorem invs_funded (K : GSem nD τ sig → ℕ) : (bigSep (barCells ∪ dmaCells) fun g => cellInv ER (exRd A Z) (K g) g) = invs A Z K := by
  rw [bigSep_union disjoint_cells, bigSep_map, bigSep_map]
  rfl

theorem bars (Φ : GSem nD τ sig → sProp 𝕄) : bigSep barCells Φ = bigSep Finset.univ fun c : Dev nD => Φ (barCell c) :=
  bigSep_map (s := Finset.univ) barEmb (Φ := Φ)
theorem dmas (Φ : GSem nD τ sig → sProp 𝕄) :
    bigSep dmaCells Φ = bigSep Finset.univ fun c : Dev nD => bigSep Finset.univ fun x : Fin 4 × Fin 15 => Φ (dmaCell c x.1 x.2) := by
  rw [bigSep_map, bigSep_univ_prod]
  rfl

theorem dealt_all : iprop((bigSep barCells fun g => atPos ER g 0 ∅ 0) ∗ (bigSep dmaCells fun g => Rounds.openTok ER g)
      ∗ bigSep allToks fun x => (dutyTok ER x.1 x.2.1 x.2.2 : sProp 𝕄))
    ⊢ (bigSep Finset.univ fun c : Dev nD => dealt (F := F) c : sProp 𝕄) := by
  refine Idealize.SL.BI.Entails.trans (sep_mono .rfl (sep_mono .rfl toks_dealt)) ?_
  rw [bars, dmas]
  unfold dealt payToks
  rw [← bs_sep, ← bs_sep]
  exact BI.Entails.refl _

end Cells

variable (m : (ℓ : Loc nD τ sig) → Buf (Elt F) ℓ) (ρ : Dev nD → PrngReg)

theorem rides_intro (K : GSem nD τ sig → ℕ) (c : Dev nD) : iprop(records (AD m) (ZD m) K ∗ dealt c ∗ purse (F := F) c) ⊢ rides m c := by
  unfold records purse rides before owesE
  iintro ⟨⟨#HI, #HB⟩, Hd, Hcr, HO, Hp⟩
  isplitl [Hp]; · iexact Hp
  isplitr [HO]
  · isplitl [Hd]
    · iexists K
      isplitr; · iexact HI
      isplitr; · iexact HB
      iexact Hd
    iexact Hcr
  · iexists ∅; iexact HO

/-- The launch's holdings, device by device. -/
theorem core (c : Dev nD) :
    iprop(unscopedSems0 c ∗ owes (c : Thread nD τ) (O₀ c) ∅ ∗ Pipeline.launchCred O₀ c ∗ prngReg c (ρ c) ∗ G c)
      ⊢ (iprop(purse c ∗ (semVal (barCell c) 0 ∗ G c)) : sProp 𝕄) := by
  rw [unscoped_sems]
  unfold purse
  iintro ⟨Hs, HO, Hcr, Hp, HG⟩
  ihave Hc := (credits_launch (F := F) c) $$ Hcr
  isplitl [Hc HO Hp]
  · isplitl [Hc]; · iexact Hc
    isplitl [HO]; · iexact HO
    iexists (ρ c); iexact Hp
  isplitl [Hs] <;> iassumption

theorem launch :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (rides m) : sProp 𝕄) := by
  have hG : bigSep Finset.univ (G (F := F)) = BI.own (ER (launchOf barCells dmaCells allToks)) := bs_carried _
  have hI (K : GSem nD τ sig → ℕ) := Entails.of_eq (invs_funded (AD m) (ZD m) K)
  have hB := Entails.of_eq (bars fun g => (reached ER g 0 : sProp 𝕄))
  have hv := Entails.of_eq (bars fun g => (semVal g 0 : sProp 𝕄)).symm
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(purse c ∗ (semVal (barCell c) 0 ∗ G c)) : sProp 𝕄) from bigSep_mono fun c _ => core ρ c) $$ H
  ihave H2 := (Entails.of_eq (bs_sep _ _ _)) $$ H'; icases H2 with ⟨HP, H3⟩
  ihave H4 := (Entails.of_eq (bs_sep _ _ _)) $$ H3; icases H4 with ⟨Hv, HG⟩
  ihave Hu := (Entails.of_eq hG) $$ HG
  imod (Rounds.fund_launch ER (exRd (AD m) (ZD m)) disjoint_cells (fun g _ h => h) allToks) $$ [Hv Hu] with ⟨%K, -, #Hinv, #Hr, Hat, Hopen, Htok⟩
  · isplitl [Hv]
    · iapply hv; iexact Hv
    · iexact Hu
  imodintro
  iapply (bigSep_with_persistent (R := records (AD m) (ZD m) K) (Φ := fun c => iprop(dealt (F := F) c ∗ purse c)) fun c _ => rides_intro m K c)
  isplitr
  · unfold records barOpen
    isplitr; · iapply (hI K); iexact Hinv
    iapply hB; iexact Hr
  iapply (Entails.of_eq (bs_sep _ _ _).symm)
  isplitr [HP]
  · iapply (dealt_all (F := F))
    isplitl [Hat]; · iexact Hat
    isplitl [Hopen] <;> iassumption
  · iexact HP

/-! ## The run -/

abbrev startAt (c : Dev nD) : sProp 𝕄 := iprop(StableHlo.held (c : Thread nD τ) (Pipeline.ucRefs τ sig) (V0 m c) ∗ rides m c)
abbrev endAt (c : Dev nD) : sProp 𝕄 := iprop(StableHlo.held (c : Thread nD τ) (Pipeline.ucRefs τ sig) (V2 m (outs m) c) ∗ semVal (barCell c) 0)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (startAt m) : sProp 𝕄) := by
  have hsplit : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ G c)) : sProp 𝕄) := by
    rw [← bigSep_sep']
    exact bigSep_mono fun c _ => by
      rw [← Pipeline.unscopedBufs_held (Ix := Unit) (Name := ℕ) (U := UU) (Lvl := ℕ) c (V0 m c)]; exact BI.Entails.refl _
  iintro ⟨H, Hla⟩
  ihave H' := hsplit $$ H
  icases H' with ⟨Hh, Hr⟩
  imod (launch m ρ) $$ [Hr Hla] with HE
  · isplitl [Hr]; · iexact Hr
    iexact Hla
  imodintro
  rw [bigSep_sep']
  isplitl [Hh]; · iexact Hh
  iexact HE

/-- What a final memory holds on device `c`. -/
def Ends (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_v17) = outD m

theorem fin (c : Dev nD) (s' : Phys nD τ sig (Elt F)) :
    iprop(endAt m c ∗ SI s') ⊢ (|={Set.univ}=> iprop(⌜Ends m c s'.mem ∧ s'.mem.sem (barCell c) = 0⌝ ∗ SI s') : sProp 𝕄) := by
  unfold endAt StableHlo.held
  iintro ⟨⟨Hh, Hb⟩, HSI⟩
  icombine HSI Hb gives %hb
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V2_main_arg0 m (outs m) c),
      (h (Proc.devRef .tc main_arg1) (Finset.mem_filter.mpr ⟨StableHlo.devRef_mem_tcRefs main_arg1, by decide⟩)).trans (V2_main_arg1 m (outs m) c),
      (h (Proc.devRef .tc main_arg2) (Finset.mem_filter.mpr ⟨StableHlo.devRef_mem_tcRefs main_arg2, by decide⟩)).trans (V2_main_arg2 m (outs m) c),
      (h (Proc.devRef .tc main_arg3) (Finset.mem_filter.mpr ⟨StableHlo.devRef_mem_tcRefs main_arg3, by decide⟩)).trans (V2_main_arg3 m (outs m) c),
      (h (Proc.devRef .tc main_arg4) (Finset.mem_filter.mpr ⟨StableHlo.devRef_mem_tcRefs main_arg4, by decide⟩)).trans (V2_main_arg4 m (outs m) c),
      (h (Proc.devRef .tc main_v17) (Finset.mem_filter.mpr ⟨StableHlo.devRef_mem_tcRefs main_v17, by decide⟩)).trans (V2_out m c)⟩, by simpa using hb⟩
  · iexact HSI

/-- What rides through the program beside the buffers. -/
def beside : Fin 2 → Dev nD → sProp 𝕄 := fun i => if i = 0 then rides m else leaves

set_option backward.isDefEq.respectTransparency.types false in
theorem run_main : θ_run defs (onTc (τ := τ) (main (F := F))) ⟨m, fun _ => 0, ρ⟩
    (fun r => (∀ c : Dev nD, Ends m c r.2) ∧ r.2.sem = fun _ => 0) :=
  Pipeline.θ_run_regions_kit_dev_sems (pcfgs (F := F)) adm (pdats m) () cellOf_inj EP defs₀ 𝒱₀ L lv m ρ main
    (segs m 𝒱₀ L lv (beside m) () (pdats m) (reg m))
    (fun c Q => by
      rewrite [main_chain c, Seg.run_eq_chain,
        show (segs m 𝒱₀ L lv (beside m) () (pdats m) (reg m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide)
    O₀ L_of_ne G u₀
    (by
      unfold u₀ G
      iintro Hu
      ihave H := (ownU_pair _ _) $$ Hu
      icases H with ⟨HP, HX⟩
      imodintro
      isplitl [HP]; · iexact HP
      rw [bs_carried]; iexact HX)
    (startAt m) (endAt m)
    (fun c => ⟨.rfl, reg_pre m c, (reg_post m c).trans (by
      unfold endAt leaves owesE
      iintro ⟨Hh, -, Hb, HO⟩
      isplitr [HO]
      · isplitl [Hh] <;> iassumption
      · iexact HO)⟩)
    (init m ρ)
    (fun c s => Ends m c s ∧ s.sem (barCell c) = 0)
    (fun c s' => fin m c s')
    (fun s h hs => ⟨fun c => (h c).1, sem_eq_zero hs fun c sm hsm => by
      obtain rfl := unscoped_eq sm hsm
      exact (h c).2⟩)

end Cert.Exchange

end
-- ==== Proof.Frames.lean ====
/-
  The frames: each of the three programs ends, its arguments unchanged and every counter at zero. The printed kernel has the
  idealized one's text but for the mask's constant: with that constant read as its own word the two are one program.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Exchange

open Idealize.ShloMosaic Idealize.SL.Sem

theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩) (run_main (F := Ideal) m ρ)

theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- A constant named at the machine's floats is its own word. -/
abbrev wordNamed : Named Bits where
  named _ _ {φ} b := Scalar.ofBits φ b

section Same
attribute [local instance] wordNamed

theorem bodies_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

theorem defs_same : Cert.Kernel.defs (F := Bits) = Cert.KernelIdeal.defs (F := Bits) :=
  congrArg (Pipeline.defs (nD := Cert.KernelIdeal.nD) (τ := Cert.KernelIdeal.τ) (Cert.KernelIdeal.pcfgs (F := Bits))) bodies_same

theorem mains_same : Cert.Kernel.main (F := Bits) = Cert.KernelIdeal.main (F := Bits) := rfl

theorem frame_kernel : Cert.quiescent_Kernel := fun m ρ _ => by
  have h := (θ_run Cert.KernelIdeal.defs _ _).mono
    (fun _ h => (⟨fun c => ⟨(h.1 c).1, (h.1 c).2.1, (h.1 c).2.2.1, (h.1 c).2.2.2.1, (h.1 c).2.2.2.2.1⟩, h.2⟩ :
      (∀ c : Dev Cert.KernelIdeal.nD, _ ∧ _ ∧ _ ∧ _ ∧ _) ∧ _)) (run_main (F := Bits) m ρ)
  exact (congrArg₂ (fun D M => θ_run D (onTc (τ := Cert.KernelIdeal.τ) M) ⟨m, fun _ => 0, ρ⟩ _) defs_same mains_same).mpr h

end Same

theorem keeps_mask : Cert.preserves_Kernel_KernelIdeal := IdealRules.named_const.statement _ _ _ _ _ rfl

end Cert.Exchange

end
-- ==== Proof.Softmax.lean ====
/-
  One row of attention over the extended reals: weights divided after the sum, as the kernel computes them, are the weights
  shifted by the row's greatest score and divided before it, as the reference computes them.
-/
module

public import Idealize.ShloMosaic.PureOps.Ideal

@[expose] public section

namespace Cert.Exchange

open Idealize.ShloMosaic

/-- A real factor that is not negative goes into a sum of extended reals. -/
theorem coe_mul_sum {ι : Type} (s : Finset ι) (f : ι → EReal) {r : ℝ} (hr : 0 ≤ r) : (r : EReal) * ∑ i ∈ s, f i = ∑ i ∈ s, (r : EReal) * f i := by
  classical
  induction s using Finset.induction_on with
  | empty => simp
  | insert a t ha ih =>
    rw [Finset.sum_insert ha, Finset.sum_insert ha, ← ih]
    exact EReal.left_distrib_of_nonneg_of_ne_top (EReal.coe_nonneg.mpr hr) (EReal.coe_ne_top r) _ _

/-- A sum of reals, read in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a t ha ih => rw [Finset.sum_insert ha, Finset.sum_insert ha, ih, EReal.coe_add]

/-- A sum of extended reals none of which is infinite is not infinite. -/
theorem sum_real {ι : Type} (s : Finset ι) (f : ι → EReal) (hf : ∀ i, ∃ r : ℝ, f i = r) : ∃ r : ℝ, ∑ i ∈ s, f i = r := by
  choose g hg using hf
  exact ⟨∑ i ∈ s, g i, by rw [← coe_sum]; exact Finset.sum_congr rfl fun i _ => hg i⟩

theorem mul_real {a b : EReal} (ha : ∃ r : ℝ, a = r) (hb : ∃ r : ℝ, b = r) : ∃ r : ℝ, a * b = r := by
  obtain ⟨r, rfl⟩ := ha
  obtain ⟨q, rfl⟩ := hb
  exact ⟨r * q, (EReal.coe_mul r q).symm⟩

section Row

variable {n : ℕ} (s : Fin n → EReal) (keep : Fin n → Prop) [DecidablePred keep]

/-- The row's scores, the masked ones at minus infinity. -/
noncomputable def masked (j : Fin n) : EReal := if keep j then s j else ⊥

/-- The greatest of them. -/
noncomputable def rowTop : EReal := Finset.univ.fold max ⊥ (masked s keep)

variable {s keep}

theorem masked_ne_top (hs : ∀ j, ∃ r : ℝ, s j = r) (j : Fin n) : masked s keep j ≠ ⊤ := by
  unfold masked
  split
  · obtain ⟨r, h⟩ := hs j
    rw [h]; exact EReal.coe_ne_top r
  · exact bot_ne_top

theorem rowTop_real (hs : ∀ j, ∃ r : ℝ, s j = r) (hk : ∃ j, keep j) : ∃ M : ℝ, rowTop s keep = M := by
  have h1 : rowTop s keep ≠ ⊤ := by
    unfold rowTop
    have : Finset.univ.fold max ⊥ (masked s keep) < ⊤ :=
      (Finset.fold_max_lt (s := Finset.univ) (f := masked s keep) (b := ⊥) ⊤).mpr ⟨bot_lt_top, fun j _ => lt_top_iff_ne_top.mpr (masked_ne_top hs j)⟩
    exact this.ne
  have h2 : rowTop s keep ≠ ⊥ := by
    obtain ⟨j, hj⟩ := hk
    obtain ⟨r, hr⟩ := hs j
    have : (r : EReal) ≤ rowTop s keep :=
      (Finset.le_fold_max (s := Finset.univ) (f := masked s keep) (b := ⊥) (r : EReal)).mpr (Or.inr ⟨j, Finset.mem_univ _, by unfold masked; rw [if_pos hj, hr]⟩)
    intro h
    rw [h] at this
    exact EReal.coe_ne_bot r (le_bot_iff.mp this)
  exact ⟨(rowTop s keep).toReal, (EReal.coe_toReal h1 h2).symm⟩

/-- THE EQUATION of one row. -/
theorem softmax_row (hs : ∀ j, ∃ r : ℝ, s j = r) (hk : ∃ j, keep j) (v : Fin n → EReal) :
    Ideal.div (∑ j, Ideal.exp (masked s keep j) * v j) (∑ j, Ideal.exp (masked s keep j))
      = ∑ j, v j * Ideal.div (Ideal.exp (masked s keep j - rowTop s keep)) (∑ k, Ideal.exp (masked s keep k - rowTop s keep)) := by
  obtain ⟨M, hM⟩ := rowTop_real hs hk
  choose r hr using hs
  let p : Fin n → ℝ := fun j => if keep j then Real.exp (r j) else 0
  have hp : ∀ j, Ideal.exp (masked s keep j) = (p j : EReal) := by
    intro j
    by_cases h : keep j
    · simp only [masked, p, if_pos h, hr, Ideal.exp_coe]
    · simp only [masked, p, if_neg h, Ideal.exp_bot, EReal.coe_zero]
  have hq : ∀ j, Ideal.exp (masked s keep j - rowTop s keep) = ((p j * Real.exp (-M) : ℝ) : EReal) := by
    intro j
    rw [hM]
    by_cases h : keep j
    · simp only [masked, p, if_pos h, hr]
      rw [← EReal.coe_sub, Ideal.exp_coe, ← Real.exp_add, sub_eq_add_neg]
    · simp only [masked, p, if_neg h]
      rw [EReal.bot_sub, Ideal.exp_bot, zero_mul, EReal.coe_zero]
  have pnn : ∀ j, 0 ≤ p j := fun j => by
    by_cases h : keep j
    · simp only [p, if_pos h]; exact (Real.exp_pos _).le
    · simp only [p, if_neg h]; exact le_rfl
  have ppos : 0 < ∑ j, p j := by
    obtain ⟨j, hj⟩ := hk
    refine Finset.sum_pos' (fun i _ => pnn i) ⟨j, Finset.mem_univ _, ?_⟩
    simp only [p, if_pos hj]; exact Real.exp_pos _
  have epos := Real.exp_pos (-M)
  simp only [hp, hq]
  rw [coe_sum, coe_sum, ← Finset.sum_mul, Ideal.div_coe ppos.ne', mul_comm, coe_mul_sum _ _ (one_div_nonneg.mpr ppos.le)]
  refine Finset.sum_congr rfl fun j _ => ?_
  rw [Ideal.div_coe (mul_pos ppos epos).ne', ← EReal.coe_mul, ← mul_assoc, ← EReal.coe_mul, mul_comm]
  congr 2
  field_simp

end Row

end Cert.Exchange
-- ==== Proof.RefValue.lean ====
/-
  What the reference computes, piece by piece, and what each piece holds at an index: the block mask, the scores, the weights, the
  context of every head, the product with the output projection.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.Exchange.Ref

open Cert.ReferenceIdeal Cert.ReferenceIdeal.Gen
open Idealize.ShloMosaic Cert.Exchange

/-! ## The pieces -/

/-- Sixty-four, at every row. -/
def sixtyFour : IVec S128 32 := broadcastInDim S128 ![] bcast_S_S128 (id (constantI S_ 32 64#32))

/-- The block a row lies in. -/
def blockIx : IVec S128 32 :=
  select (andi (cmpi .ne (signi (iotaInDim S128 32 0)) (broadcastInDim S128 ![] bcast_S_S128 (signi (id (constantI S_ 32 64#32)))))
      (cmpi .ne (Host.remsi (iotaInDim S128 32 0) sixtyFour) (broadcastInDim S128 ![] bcast_S_S128 (constantI S_ 32 0#32))))
    (subi (Host.divsi (iotaInDim S128 32 0) sixtyFour) (broadcastInDim S128 ![] bcast_S_S128 (constantI S_ 32 1#32)))
    (Host.divsi (iotaInDim S128 32 0) sixtyFour)

/-- Which keys a row attends to. -/
def maskW : IVec S128x128 1 :=
  cmpi .sle (broadcastInDim S128x128 ![0, 1] bcast_S1x128_S128x128_0_1 (broadcastInDim S1x128 ![1] bcast_S128_S1x128_1 blockIx))
    (broadcastInDim S128x128 ![0, 1] bcast_S128x1_S128x128_0_1 (broadcastInDim S128x1 ![0] bcast_S128_S128x1_0 blockIx))

/-- Whether a row attends to any key. -/
def keepW : IVec S128 1 := Host.reduce IntOp.ori maskW (constantI S_ 1 0#1) reducesTo_S128x128_S128_d1 h_S_

def keepB : IVec S1x1x128x1 1 := broadcastInDim S1x1x128x1 ![2] bcast_S128_S1x1x128x1_2 keepW

/-- The scores. -/
def scoreR (x : FVec Ideal S2x128x512 .f32) (wq : FVec Ideal S512x4096 .f32) (k : FVec Ideal S2x128x64x64 .f32) : FVec Ideal S2x64x128x128 .f32 :=
  mulf (Host.dotGeneral dot_S2x128x64x64_S2x128x64x64_S2x64x128x128_3_3_1_1_02_02 none
      (shapeCast _ (Host.dotGeneral dot_S2x128x512_S512x4096_S2x128x4096_2_0_01_1_n_n none x wq) shapeCasts_S2x128x4096_S2x128x64x64) k)
    (broadcastInDim S2x64x128x128 ![] bcast_S_S2x64x128x128 (constant S_ .f32 0x3E000000#32))

/-- The scores, the masked ones at minus infinity. -/
def maskedR (s : FVec Ideal S2x64x128x128 .f32) : FVec Ideal S2x64x128x128 .f32 :=
  select (broadcastInDim S2x64x128x128 ![0, 1, 2, 3] bcast_S1x1x128x128_S2x64x128x128_0_1_2_3
      (broadcastInDim S1x1x128x128 ![2, 3] bcast_S128x128_S1x1x128x128_2_3 maskW))
    s (broadcastInDim S2x64x128x128 ![] bcast_S_S2x64x128x128 (id (constant S_ .f32 0xFF800000#32)))

/-- The exponentials, each row shifted by its greatest score. -/
def expR (s : FVec Ideal S2x64x128x128 .f32) : FVec Ideal S2x64x128x128 .f32 :=
  Host.exp (subf s (broadcastInDim S2x64x128x128 ![0, 1, 2, 3] bcast_S2x64x128x1_S2x64x128x128_0_1_2_3
    (broadcastInDim S2x64x128x1 ![0, 1, 2] bcast_S2x64x128_S2x64x128x1_0_1_2
      (Host.reduce FloatOps.maximumf s (constant S_ .f32 0xFF800000#32) reducesTo_S2x64x128x128_S2x64x128_d3 h_S_))))

/-- The weights. -/
def weightR (e : FVec Ideal S2x64x128x128 .f32) : FVec Ideal S2x64x128x128 .f32 :=
  select (broadcastInDim S2x64x128x128 ![0, 1, 2, 3] bcast_S1x1x128x1_S2x64x128x128_0_1_2_3 keepB)
    (Host.divf e (broadcastInDim S2x64x128x128 ![0, 1, 2, 3] bcast_S2x64x128x1_S2x64x128x128_0_1_2_3
      (select (broadcastInDim S2x64x128x1 ![0, 1, 2, 3] bcast_S1x1x128x1_S2x64x128x1_0_1_2_3 keepB)
        (broadcastInDim S2x64x128x1 ![0, 1, 2] bcast_S2x64x128_S2x64x128x1_0_1_2
          (Host.reduceAdd e (constant S_ .f32 0x00000000#32) reducesTo_S2x64x128x128_S2x64x128_d3 h_S_))
        (broadcastInDim S2x64x128x1 ![] bcast_S_S2x64x128x1 (id (constant S_ .f32 0x3F800000#32))))))
    (broadcastInDim S2x64x128x128 ![] bcast_S_S2x64x128x128 (id (constant S_ .f32 0x00000000#32)))

/-- The context of every head, side by side. -/
def ctxR (v : FVec Ideal S2x128x64x64 .f32) (w : FVec Ideal S2x64x128x128 .f32) : FVec Ideal S2x128x4096 .f32 :=
  shapeCast _ (transpose S2x128x64x64 [0, 3, 1, 2] (Host.dotGeneral dot_S2x128x64x64_S2x64x128x128_S2x64x64x128_1_3_3_2_02_01 none v w)
    transposes_S2x64x64x128_S2x128x64x64_0_3_1_2) shapeCasts_S2x128x64x64_S2x128x4096

/-- The result. -/
def outR (x : FVec Ideal S2x128x512 .f32) (wq : FVec Ideal S512x4096 .f32) (k v : FVec Ideal S2x128x64x64 .f32) (wo : FVec Ideal S4096x512 .f32) :
    FVec Ideal S2x128x512 .f32 :=
  Host.dotGeneral dot_S2x128x4096_S4096x512_S2x128x512_2_0_01_1_n_n none (ctxR v (weightR (expR (maskedR (scoreR x wq k))))) wo

theorem res_eq (m : (ℓ : Loc nD τ sig) → Buf (Elt Ideal) ℓ) (c : Dev nD) : Value.res_main_v33 (F := Ideal) m c
    = outR (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  unfold Value.res_main_v33
  rfl

/-! ## The mask -/

theorem signed_block : ∀ i : Fin 128,
    Scalar.select
      (IntOp.andi (IntOp.cmpi .ne (if BitVec.ofNat 32 i.val = 0 then 0 else if (BitVec.ofNat 32 i.val).msb = true then -1 else 1)
          (if (64#32 : BitVec 32) = 0 then (0 : BitVec 32) else if (64#32 : BitVec 32).msb = true then -1 else 1))
        (IntOp.cmpi .ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32) = BitVec.ofNat 32 (i.val / 64) := by
  decide

theorem blockIx_apply (i : Fin 128) : blockIx (ix1 i) = BitVec.ofNat 32 (i.val / 64) := signed_block i

theorem block_le : ∀ a b : Fin 2, IntOp.cmpi .sle (BitVec.ofNat 32 a.val) (BitVec.ofNat 32 b.val) = BitVec.ofBool (decide (a.val ≤ b.val)) := by decide

theorem maskW_apply (i j : Fin 128) : maskW (ix2 i j) = BitVec.ofBool (decide (j.val / 64 ≤ i.val / 64)) := by
  pointwise [maskW, blockIx_apply]
  exact block_le ⟨j.val / 64, by omega⟩ ⟨i.val / 64, by omega⟩

theorem ori_one (r : BitVec 1) : IntOp.ori (1#1) r = 1#1 := by
  revert r; decide

theorem keepW_apply (i : Fin 128) : keepW (ix1 i) = 1#1 := by
  pointwise [keepW, maskW_apply]
  rw [← Finset.insert_erase (Finset.mem_univ (0 : Fin 128)), Finset.fold_insert (Finset.notMem_erase _ _),
    show BitVec.ofBool (decide ((0 : Fin 128).val / 64 ≤ i.val / 64)) = 1#1 by simp]
  exact ori_one _

/-! ## The rest -/

/-- One eighth, the scale of the scores. -/
abbrev scale : EReal := Ideal.ofBits .f32 0x3E000000#32

theorem scale_real : ∃ r : ℝ, scale = r := by
  simp only [scale, Ideal.ofBits, Ideal.ieee]
  norm_num [-EReal.coe_mul]
  exact ⟨_, rfl⟩

theorem low_bot : Ideal.ofBits .f32 0xFF800000#32 = ⊥ := by simp [Ideal.ofBits, Ideal.ieee]

/-- The score of row `i` against key `j` in head `h` of batch `b`. -/
def score (x : FVec Ideal S2x128x512 .f32) (wq : FVec Ideal S512x4096 .f32) (k : FVec Ideal S2x128x64x64 .f32)
    (b : Fin 2) (h : Fin 64) (i j : Fin 128) : EReal :=
  (∑ e : Fin 64, (∑ t : Fin 512, x (ix3 b i t) * wq (ix2 t ⟨h.val * 64 + e.val, by omega⟩)) * k (ix4 b j h e)) * scale

/-- Row `i` attends to key `j` where `j`'s block is not after `i`'s. -/
abbrev attends (i j : Fin 128) : Prop := j.val / 64 ≤ i.val / 64

theorem scoreR_apply (x : FVec Ideal S2x128x512 .f32) (wq : FVec Ideal S512x4096 .f32) (k : FVec Ideal S2x128x64x64 .f32)
    (b : Fin 2) (h : Fin 64) (i j : Fin 128) : scoreR x wq k (ix4 b h i j) = score x wq k b h i j := by
  pointwise [scoreR, score]

theorem maskedR_apply (s : FVec Ideal S2x64x128x128 .f32) (b : Fin 2) (h : Fin 64) (i j : Fin 128) :
    maskedR s (ix4 b h i j) = masked (fun j => s (ix4 b h i j)) (attends i) j := by
  pointwise [maskedR, maskW_apply, masked]
  rw [show id (constant (F := Ideal) S_ FTy.f32 4286578688#32) ix0 = ⊥ from low_bot]

theorem expR_apply (s : FVec Ideal S2x64x128x128 .f32) (b : Fin 2) (h : Fin 64) (i j : Fin 128) :
    expR s (ix4 b h i j) = Ideal.exp (s (ix4 b h i j) - Finset.univ.fold max ⊥ (fun k => s (ix4 b h i k))) := by
  pointwise [expR]
  rw [low_bot]

theorem weightR_apply (e : FVec Ideal S2x64x128x128 .f32) (b : Fin 2) (h : Fin 64) (i j : Fin 128) :
    weightR e (ix4 b h i j) = Ideal.div (e (ix4 b h i j)) (∑ k, e (ix4 b h i k)) := by
  pointwise [weightR, keepB, keepW_apply]

theorem ctxR_apply (v : FVec Ideal S2x128x64x64 .f32) (w : FVec Ideal S2x64x128x128 .f32) (b : Fin 2) (i : Fin 128) (c : Fin 4096) :
    ctxR v w (ix3 b i c) = ∑ j, v (ix4 b j ⟨c.val / 64, by omega⟩ ⟨c.val % 64, by omega⟩) * w (ix4 b ⟨c.val / 64, by omega⟩ i j) := by
  pointwise [ctxR]

/-- What the kernel computes of one context entry: the exponentials' sum, divided at the end. -/
def context (x : FVec Ideal S2x128x512 .f32) (wq : FVec Ideal S512x4096 .f32) (k v : FVec Ideal S2x128x64x64 .f32)
    (b : Fin 2) (i : Fin 128) (h d : Fin 64) : EReal :=
  Ideal.div (∑ j, Ideal.exp (masked (score x wq k b h i) (attends i) j) * v (ix4 b j h d))
    (∑ j, Ideal.exp (masked (score x wq k b h i) (attends i) j))

/-- THE REFERENCE, at an index. -/
theorem outR_apply (x : FVec Ideal S2x128x512 .f32) (wq : FVec Ideal S512x4096 .f32) (k v : FVec Ideal S2x128x64x64 .f32) (wo : FVec Ideal S4096x512 .f32)
    (hx : ∀ i, ∃ r : ℝ, x i = r) (hq : ∀ i, ∃ r : ℝ, wq i = r) (hk : ∀ i, ∃ r : ℝ, k i = r) (b : Fin 2) (i : Fin 128) (n : Fin 512) :
    outR x wq k v wo (ix3 b i n)
      = ∑ c : Fin 4096, context x wq k v b i ⟨c.val / 64, by omega⟩ ⟨c.val % 64, by omega⟩ * wo (ix2 c n) := by
  have hs : ∀ h j, ∃ r : ℝ, score x wq k b h i j = r := fun h j =>
    mul_real (sum_real _ _ fun e => mul_real (sum_real _ _ fun t => mul_real (hx _) (hq _)) (hk _)) scale_real
  pointwise [outR]
  refine Finset.sum_congr rfl fun c _ => congrArg (· * wo (ix2 c n)) ?_
  rw [ctxR_apply]
  simp only [weightR_apply, expR_apply, maskedR_apply, scoreR_apply]
  exact (softmax_row (hs ⟨c.val / 64, by omega⟩) ⟨0, by show (0 : ℕ) / 64 ≤ i.val / 64; simp⟩ _).symm

end Cert.Exchange.Ref

end
-- ==== Proof.KernelValue.lean ====
/-
  What one device's body computes, at an index: the mask, the projected queries, a head's output, the context, the partial
  product.
-/
module

public import proofs.«01_k».proof.Proof.Values
public import proofs.«01_k».proof.Proof.RefValue

@[expose] public section

set_option maxRecDepth 16384

noncomputable section

namespace Cert.Exchange

open Cert.KernelIdeal Cert.KernelIdeal.Gen
open Idealize.ShloMosaic Cert.Exchange.Ref

/-! ## The mask -/

theorem signed_block_vector : ∀ i : Fin 128,
    Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32) = BitVec.ofNat 32 (i.val / 64) := by
  decide

theorem mask_bot : (Named.named κ "mask" (0xCE6E6B28#32 : BitVec (FTy.bits .f32)) : Ideal .f32) = (⊥ : EReal) :=
  IdealRules.named_const.ideal_named_scalar _ _ _ _ rfl

/-- What is added to a score: zero where the row attends to the key, minus infinity elsewhere. -/
theorem maskV_apply (i j : Fin 128) : maskV (F := Ideal) (ix2 i j) = if attends i j then 0 else (⊥ : EReal) := by
  pointwise [maskV, k0_pay5, k0_pay2, k0_pay3, k0_pay4]
  rw [signed_block_vector, signed_block_vector, mask_bot, show IntOp.cmpi .sle (BitVec.ofNat 32 (j.val / 64)) (BitVec.ofNat 32 (i.val / 64))
    = BitVec.ofBool (decide (j.val / 64 ≤ i.val / 64)) from block_le ⟨j.val / 64, by omega⟩ ⟨i.val / 64, by omega⟩]
  pointwise

theorem score_mask (s : Fin 128 → EReal) (i j : Fin 128) : s j + maskV (F := Ideal) (ix2 i j) = masked s (attends i) j := by
  rw [maskV_apply]
  unfold masked
  split
  · exact add_zero _
  · exact EReal.add_bot _

/-! ## One head -/

/-- The scores of one head, from its queries and keys. -/
def headScore (q : Fin 128 → Fin 64 → EReal) (k : Fin 128 → Fin 64 → EReal) (i j : Fin 128) : EReal := (∑ e, q i e * k j e) * scale

/-- The output of one head, from its queries, keys and values. -/
def headOut (q k v : Fin 128 → Fin 64 → EReal) (i : Fin 128) (d : Fin 64) : EReal :=
  Ideal.div (∑ j, Ideal.exp (masked (headScore q k i) (attends i) j) * v j d) (∑ j, Ideal.exp (masked (headScore q k i) (attends i) j))

/-- The queries of head `h` of batch `b`. -/
def queries (q : FVec Ideal S256x256 .f32) (b : Fin 2) (h : Fin 4) (i : Fin 128) (e : Fin 64) : EReal :=
  q (ix2 ⟨128 * b.val + i.val, by omega⟩ ⟨64 * h.val + e.val, by omega⟩)

theorem headOf_apply (f : Vec Ideal S2x4x128x64 .f32) (b : Fin 2) (h : Fin 4) (j : Fin 128) (d : Fin 64) :
    headOf (F := Ideal) f b h (ix4 0 0 j d) = f (ix4 b h j d) := by
  show f ((Rect.unit (s := S2x4x128x64) ![b.val, h.val, 0, 0] S1x1x128x64.size (head_inb b h)).emb (ix4 0 0 j d)) = _
  refine congrArg f ?_
  funext a
  apply Fin.ext
  match a with
  | ⟨0, _⟩ => show b.val + 1 * 0 = b.val; omega
  | ⟨1, _⟩ => show h.val + 1 * 0 = h.val; omega
  | ⟨2, _⟩ => show 0 + 1 * j.val = j.val; omega
  | ⟨3, _⟩ => show 0 + 1 * d.val = d.val; omega

/-- EVERY HEAD is that one function of its queries, keys and values. -/
theorem headV_apply (D : Ins Ideal) (b : Fin 2) (h : Fin 4) (i : Fin 128) (d : Fin 64) :
    headV D b h (ix2 i d) = headOut (queries (qV D) b h) (fun j e => D.k (ix4 b h j e)) (fun j e => D.v (ix4 b h j e)) i d := by
  unfold headOut
  simp only [← score_mask]
  fin_cases b <;> fin_cases h
  all_goals
    dsimp only [headV]
    pointwise [k0_pay6, k0_pay7, k0_pay8, k0_pay9, k0_pay10, k0_pay11, k0_pay12, k0_pay13, k0_pay14, k0_pay17, k0_pay18, k0_pay19, k0_pay20,
      k0_pay21, k0_pay22, k0_pay23, k0_pay24, headOf_apply, headScore, queries]

/-! ## The rest of one device -/

theorem qV_apply (D : Ins Ideal) (b : Fin 2) (h : Fin 4) (i : Fin 128) (e : Fin 64) :
    queries (qV D) b h i e = ∑ t : Fin 512, D.x (ix3 b i t) * D.wq (ix2 t ⟨64 * h.val + e.val, by omega⟩) := by
  pointwise [queries, qV, k0_pay1]

theorem ctxV_apply (D : Ins Ideal) (b : Fin 2) (i : Fin 128) (c : Fin 256) :
    ctxV D b (ix2 i c) = headV D b ⟨c.val / 64, by omega⟩ (ix2 i ⟨c.val % 64, by omega⟩) := by
  unfold ctxV
  rw [ix2_eq_valueIdx, ix2_eq_valueIdx]

theorem accH_apply (D : Ins Ideal) (b : Fin 2) (i : Fin 128) (n : Fin 512) :
    accH D b (ix2 i n) = ∑ c : Fin 256, ctxV D b (ix2 i c) * D.wo (ix2 c n) := by
  fin_cases b
  · dsimp only [accH]
    pointwise [k0_pay15]
  · dsimp only [accH]
    pointwise [k0_pay25]

theorem commH_apply (D : Ins Ideal) (b : Fin 2) (i : Fin 128) (n : Fin 512) : commH D b (ix2 i n) = accH D b (ix2 i n) := by
  fin_cases b
  · dsimp only [commH]
    pointwise [k0_pay16]
  · dsimp only [commH]
    pointwise [k0_pay26]

/-- The partial product, whole. -/
theorem accV_apply (D : Ins Ideal) (r : Fin 256) (n : Fin 512) :
    accV D (ix2 r n) = accH D ⟨r.val / 128, by omega⟩ (ix2 ⟨r.val % 128, by omega⟩ n) := by
  unfold accV stack
  rw [ix2_eq_valueIdx, ix2_eq_valueIdx]

/-- Rounding is nothing over the reals: what is sent is the partial product. -/
theorem commV_eq (D : Ins Ideal) (i : S256x512.Idx) : commV D i = accV D i := by
  unfold commV accV stack
  rw [← ix2_eq_valueIdx]
  exact commH_apply D _ _ _

/-! ## The sum over the devices -/

/-- Row `r` of chunk `c`. -/
def chunkRow (c : Fin 16) (r : Fin 16) : Fin 256 := ⟨16 * c.val + r.val, by omega⟩

theorem rowsOf_apply (f : Vec Ideal S256x512 .f32) (c : Fin 16) (r : Fin 16) (n : Fin 512) :
    rowsOf f c (ix2 r n) = f (ix2 (chunkRow c r) n) := by
  show f ((Rect.unit (s := S256x512) ![16 * c.val, 0] S16x512.size (chunk_inb c)).emb (ix2 r n)) = _
  refine congrArg f ?_
  funext a
  apply Fin.ext
  match a with
  | ⟨0, _⟩ => show 16 * c.val + 1 * r.val = 16 * c.val + r.val; omega
  | ⟨1, _⟩ => show 0 + 1 * n.val = n.val; omega

/-- What lies in slot `k` of device `c`. -/
theorem slotVal_apply (A : Dev nD → Vec Ideal S256x512 .bf16) (c : Dev nD) (k : Fin 15) (r : Fin 16) (n : Fin 512) :
    slotVal (F := Ideal) A c k (ix3 0 r n) = A (peer c k.rev) (ix2 (chunkRow c r) n) := by
  have e : ix3 0 r n = Shape.reshapeEquiv squeezes_S1x16x512_S16x512.numel_eq (ix2 r n) := by pointwise
  show A (peer c k.rev) ((Rect.unit (s := S256x512) ![16 * c.val, 0] S16x512.size (chunk_inb c)).emb
    ((Shape.reshapeEquiv squeezes_S1x16x512_S16x512.numel_eq).symm (ix3 0 r n))) = _
  rw [e, Equiv.symm_apply_apply]
  refine congrArg _ ?_
  funext a
  apply Fin.ext
  match a with
  | ⟨0, _⟩ => show 16 * c.val + 1 * r.val = 16 * c.val + r.val; omega
  | ⟨1, _⟩ => show 0 + 1 * n.val = n.val; omega

/-- A sum over the devices is the device's own term and its fifteen peers', in any order. -/
theorem sum_peers (f : Dev nD → EReal) (c : Dev nD) : ∑ d, f d = f c + ∑ k : Fin 15, f (peer c k.rev) := by
  classical
  rw [← Finset.add_sum_erase _ _ (Finset.mem_univ c)]
  congr 1
  refine (Finset.sum_bij (fun (k : Fin 15) _ => peer c k.rev) (fun k _ => Finset.mem_erase.mpr ⟨peer_ne c _, Finset.mem_univ _⟩)
    (fun a _ b _ h => Fin.rev_injective (peer_inj c h)) (fun d hd => ?_) fun _ _ => rfl).symm
  obtain ⟨k, hk⟩ := peer_surj c d (Finset.ne_of_mem_erase hd)
  exact ⟨k.rev, Finset.mem_univ _, by rw [Fin.rev_rev, hk]⟩

/-- The order of the waits does not matter to the sum. -/
theorem wait_order (a : EReal) (g : Fin 15 → EReal) :
    a + g 0 + g 2 + g 3 + g 11 + g 12 + g 14 + g 4 + g 7 + g 10 + g 1 + g 13 + g 6 + g 8 + g 5 + g 9 = a + ∑ k, g k := by
  have h : ∑ k, g k = g 0 + g 1 + g 2 + g 3 + g 4 + g 5 + g 6 + g 7 + g 8 + g 9 + g 10 + g 11 + g 12 + g 13 + g 14 := by
    simp only [Fin.sum_univ_castSucc, Finset.univ_eq_empty, Finset.sum_empty, zero_add]
    rfl
  rw [h]
  ac_rfl

theorem redV_apply (D : Dev nD → Ins Ideal) (c : Dev nD) (r : Fin 16) (n : Fin 512) :
    redV D c (ix2 r n) = ∑ d, accV (D d) (ix2 (chunkRow c r) n) := by
  rw [sum_peers _ c, ← wait_order]
  pointwise [redV, k0_pay27, k0_pay28, k0_pay29, k0_pay30, k0_pay31, k0_pay32, k0_pay33, k0_pay34, slotVal_apply, rowsOf_apply, commV_eq]

theorem prodV_apply (D : Dev nD → Ins Ideal) (r : Fin 256) (n : Fin 512) : prodV D (ix2 r n) = ∑ d, accV (D d) (ix2 r n) := by
  have e : prodV D (ix2 r n) = redV D ⟨r.val / 16, by show r.val / 16 < 16; omega⟩ (ix2 ⟨r.val % 16, by omega⟩ n) := by
    unfold prodV
    rw [ix2_eq_valueIdx, ix2_eq_valueIdx]
  rw [e, redV_apply]
  have hr : chunkRow ⟨r.val / 16, by omega⟩ ⟨r.val % 16, by omega⟩ = r := Fin.ext (by show 16 * (r.val / 16) + r.val % 16 = r.val; omega)
  exact Finset.sum_congr rfl fun d _ => congrArg (fun q => accV (D d) (ix2 q n)) hr

/-- THE RESULT of the kernel, at an index: over the devices and each one's 256 columns, context times projection. -/
theorem outV_apply (D : Dev nD → Ins Ideal) (b : Fin 2) (i : Fin 128) (n : Fin 512) :
    outV D (ix3 b i n) = ∑ d, ∑ c : Fin 256, headV (D d) b ⟨c.val / 64, by omega⟩ (ix2 i ⟨c.val % 64, by omega⟩) * (D d).wo (ix2 c n) := by
  have e : outV D (ix3 b i n) = prodV D (ix2 ⟨b.val * 128 + i.val, by omega⟩ n) := by pointwise [outV, k0_pay35]
  rw [e, prodV_apply]
  refine Finset.sum_congr rfl fun d _ => ?_
  have hb : (⟨(b.val * 128 + i.val) / 128, by omega⟩ : Fin 2) = b := Fin.ext (by show (b.val * 128 + i.val) / 128 = b.val; omega)
  have hi : (⟨(b.val * 128 + i.val) % 128, by omega⟩ : Fin 128) = i := Fin.ext (by show (b.val * 128 + i.val) % 128 = i.val; omega)
  rw [accV_apply]
  show accH (D d) ⟨(b.val * 128 + i.val) / 128, _⟩ (ix2 ⟨(b.val * 128 + i.val) % 128, _⟩ n) = _
  rw [hb, hi, accH_apply]
  simp only [ctxV_apply]

end Cert.Exchange

end
-- ==== Proof.HostValue.lean ====
/-
  What the host hands the kernel on device `c`: of the keys and of the values the four heads `4 c … 4 c + 3`, the head axis
  moved before the rows'.
-/
module

public import proofs.«01_k».proof.Proof.Region
public import proofs.«01_k».proof.Proof.KernelValue
public import Idealize.ShloMosaic.Lib.StableHlo.RunClose

@[expose] public section

set_option maxRecDepth 16384

noncomputable section

namespace Cert.Exchange

open Cert.KernelIdeal Cert.KernelIdeal.Gen
open Idealize.ShloMosaic Idealize.ShloMosaic.StableHlo Cert.Exchange.Ref
open Idealize.ShloMosaic.TcCoe

/-- The first head of device `c`, as the host computes it. -/
def headWord (c : Dev nD) : IVec S_ 32 :=
  select (cmpi .slt (muli (Host.remui (Host.divui (constantI S_ 32 (Dev.word c)) (constantI S_ 32 1#32)) (constantI S_ 32 16#32)) (constantI S_ 32 4#32)) (constantI S_ 32 0#32))
    (addi (muli (Host.remui (Host.divui (constantI S_ 32 (Dev.word c)) (constantI S_ 32 1#32)) (constantI S_ 32 16#32)) (constantI S_ 32 4#32)) (constantI S_ 32 64#32))
    (muli (Host.remui (Host.divui (constantI S_ 32 (Dev.word c)) (constantI S_ 32 1#32)) (constantI S_ 32 16#32)) (constantI S_ 32 4#32))

theorem headWord_first : ∀ c : Dev nD, (headWord c (Shape.Idx.first h_S_)).toInt = 4 * (c.val : ℤ) := by decide

/-- Four heads of a whole array, from the head `headWord c`, the head axis first. -/
def fourHeads (c : Dev nD) (f : FVec Ideal S2x128x64x64 .f32) : FVec Ideal S2x4x128x64 .f32 :=
  transpose S2x4x128x64 [0, 2, 1, 3]
    (Host.dynamicSlice S2x128x4x64 f (fun k => ((![constantI S_ 32 0#32, constantI S_ 32 0#32, headWord c, constantI S_ 32 0#32] : Fin 4 → IVec S_ 32) k (Shape.Idx.first h_S_)).toInt)
      sliceFits_S2x128x64x64_S2x128x4x64) transposes_S2x128x4x64_S2x4x128x64_0_2_1_3

theorem fourHeads_apply (c : Dev nD) (f : FVec Ideal S2x128x64x64 .f32) (b : Fin 2) (h : Fin 4) (j : Fin 128) (d : Fin 64) :
    fourHeads c f (ix4 b h j d) = f (ix4 b j ⟨4 * c.val + h.val, by have := c.isLt; change c.val < 16 at this; omega⟩ d) := by
  have h0 : (constantI S_ 32 0#32 (Shape.Idx.first h_S_)).toInt = ((0 : ℕ) : ℤ) := by decide
  have hc := c.isLt
  change c.val < 16 at hc
  have h2 := headWord_first c
  pointwise [fourHeads]
  refine congrArg f ?_
  generalize hs : (fun k : Fin 4 => ((![constantI S_ 32 0#32, constantI S_ 32 0#32, headWord c, constantI S_ 32 0#32] : Fin 4 → IVec S_ 32) k (Shape.Idx.first h_S_)).toInt) = start
  have e : ∀ (a : Fin 4) (n : ℕ) (_ : start a = n) (_ : n + S2x128x4x64.size a ≤ S2x128x64x64.size a),
      Host.clampedStart S2x128x64x64 S2x128x4x64 rfl start a = n := fun a n h1 h2 => Host.clampedStart_of_le (s := S2x128x64x64) (t := S2x128x4x64) rfl start a n h1 h2
  have e0 := e 0 0 (by rw [← hs]; exact h0) (by decide)
  have e1 := e 1 0 (by rw [← hs]; exact h0) (by decide)
  have e2 := e 2 (4 * c.val) (by rw [← hs]; exact h2.trans (by push_cast; rfl)) (by show 4 * c.val + 4 ≤ 64; omega)
  have e3 := e 3 0 (by rw [← hs]; exact h0) (by decide)
  funext a
  apply Fin.ext
  match a with
  | ⟨0, _⟩ => exact (congrArg (· + b.val) e0).trans (Nat.zero_add _)
  | ⟨1, _⟩ => exact (congrArg (· + j.val) e1).trans (Nat.zero_add _)
  | ⟨2, _⟩ => exact congrArg (· + h.val) e2
  | ⟨3, _⟩ => exact (congrArg (· + d.val) e3).trans (Nat.zero_add _)

set_option maxHeartbeats 4000000 in
theorem keys_eq (m : (ℓ : Loc nD τ sig) → Buf (Elt Ideal) ℓ) (c : Dev nD) :
    V1 m c main_v15 = fourHeads c (m ((c : Thread nD τ).loc main_arg2)) := by
  show StableHlo.after (hostOps0 c) (V0 m c) main_v15 = _
  after_results_simp_entrywise
  rfl

set_option maxHeartbeats 4000000 in
theorem values_eq (m : (ℓ : Loc nD τ sig) → Buf (Elt Ideal) ℓ) (c : Dev nD) :
    V1 m c main_v16 = fourHeads c (m ((c : Thread nD τ).loc main_arg3)) := by
  show StableHlo.after (hostOps0 c) (V0 m c) main_v16 = _
  after_results_simp_entrywise
  rfl

end Cert.Exchange

end
-- ==== Proof.Equation.lean ====
/-
  The equation: what every device ends with is the reference's result on the whole arrays, where x, the query projection and the
  keys are finite.
-/
module

public import proofs.«01_k».proof.Defs
public import proofs.«01_k».proof.Proof.HostValue
public import proofs.«01_k».proof.Proof.KernelValue
public import proofs.«01_k».proof.Proof.RefValue
public import proofs.«01_k».proof.Proof.Run
public import Idealize.ShloMosaic.Lib.StableHlo.RunHlo

@[expose] public section

set_option maxRecDepth 16384

noncomputable section

namespace Cert.Exchange

open Cert.KernelIdeal Cert.KernelIdeal.Gen
open Idealize.ShloMosaic Cert.Exchange.Ref
open Idealize.ShloMosaic.TcCoe

/-! ## Finite entries -/

/-- An extended real whose absolute value is below +∞ is a real number. -/
theorem real_of_abs_lt {x : EReal} (h : Ideal.cmp .olt (max x (-x)) (Ideal.ofBits .f32 0x7F800000#32) = 1#1) : ∃ r : ℝ, x = r := by
  rw [show Ideal.ofBits .f32 0x7F800000#32 = ⊤ by simp [Ideal.ofBits, Ideal.ieee]] at h
  induction x using EReal.rec with
  | coe r => exact ⟨r, rfl⟩
  | bot => exact absurd h (by simp [Ideal.cmp])
  | top => exact absurd h (by simp [Ideal.cmp])

/-- An array whose every entry passes the finiteness test has real entries. -/
theorem real_of_finite {s : Shape} {x : FVec Ideal s .f32} {hb : (⟨0, ![]⟩ : Shape).BroadcastsInDim s (![] : Fin 0 → Fin s.rank)}
    (h : cmpf .olt (Host.absf x) (broadcastInDim s ![] hb (constant (F := Ideal) ⟨0, ![]⟩ .f32 0x7F800000#32)) = fun _ => 1#1) (i : s.Idx) :
    ∃ r : ℝ, x i = r := real_of_abs_lt (congrFun h i)

/-! ## The devices' columns -/

/-- A sum over the 4096 columns is a sum over the devices of each one's 256. -/
theorem sum_columns (f : Fin 4096 → EReal) : ∑ c, f c = ∑ d : Fin 16, ∑ l : Fin 256, f ⟨256 * d.val + l.val, by omega⟩ := by
  rw [← Finset.sum_product', Finset.univ_product_univ]
  refine (Fintype.sum_equiv (finProdFinEquiv (m := 16) (n := 256)) _ f fun p => congrArg f (Fin.ext ?_)).symm
  show 256 * p.1.val + p.2.val = p.2.val + 256 * p.1.val
  omega

section

variable (x : FVec Ideal S2x128x512 .f32) (wq : FVec Ideal ⟨2, ![512, 4096]⟩ .f32) (k v : FVec Ideal S2x128x64x64 .f32) (wo : FVec Ideal ⟨2, ![4096, 512]⟩ .f32)

/-- What device `d`'s windows hold, of the whole arrays. -/
def insOf (d : Dev nD) : Ins Ideal where
  x := x
  wq := Layout.block ⟨2, ![512, 256]⟩ ⟨2, ![512, 4096]⟩ 1 16 d wq
  k := fourHeads d k
  v := fourHeads d v
  wo := Layout.block ⟨2, ![256, 512]⟩ ⟨2, ![4096, 512]⟩ 0 16 d wo

theorem block_cols (d : Fin 16) (t : Fin 512) (l : Fin 256) :
    (Layout.block ⟨2, ![512, 256]⟩ ⟨2, ![512, 4096]⟩ 1 16 d wq) (ix2 t l) = wq (ix2 t ⟨256 * d.val + l.val, by omega⟩) := by
  refine congrArg wq (funext fun a => Fin.ext ?_)
  match a with
  | ⟨0, _⟩ => rfl
  | ⟨1, _⟩ => show d.val * 256 + l.val = 256 * d.val + l.val; omega

theorem block_rows (d : Fin 16) (l : Fin 256) (n : Fin 512) :
    (Layout.block ⟨2, ![256, 512]⟩ ⟨2, ![4096, 512]⟩ 0 16 d wo) (ix2 l n) = wo (ix2 ⟨256 * d.val + l.val, by omega⟩ n) := by
  refine congrArg wo (funext fun a => Fin.ext ?_)
  match a with
  | ⟨0, _⟩ => show d.val * 256 + l.val = 256 * d.val + l.val; omega
  | ⟨1, _⟩ => rfl

/-- Head `h` of device `d` is head `4 d + h` of the whole. -/
theorem head_context (d : Fin 16) (b : Fin 2) (h : Fin 4) (i : Fin 128) (e : Fin 64) :
    headV (insOf x wq k v wo d) b h (ix2 i e) = context x wq k v b i ⟨4 * d.val + h.val, by omega⟩ e := by
  have hs : headScore (queries (qV (insOf x wq k v wo d)) b h) (fun j e => (insOf x wq k v wo d).k (ix4 b h j e)) i
      = score x wq k b ⟨4 * d.val + h.val, by omega⟩ i := by
    funext j
    unfold headScore score
    refine congrArg (· * scale) (Finset.sum_congr rfl fun e _ => congrArg₂ (· * ·) ?_ (fourHeads_apply d k b h j e))
    rw [qV_apply]
    refine Finset.sum_congr rfl fun t _ => congrArg (x (ix3 b i t) * ·) ((block_cols wq d t _).trans ?_)
    refine congrArg (fun c => wq (ix2 t c)) (Fin.ext ?_)
    show 256 * d.val + (64 * h.val + e.val) = (4 * d.val + h.val) * 64 + e.val
    omega
  rw [headV_apply]
  unfold headOut context
  rw [hs]
  refine congrArg (fun s => Ideal.div s _) (Finset.sum_congr rfl fun j _ => congrArg (_ * ·) (fourHeads_apply d v b h j e))

/-- THE EQUATION. -/
theorem kernel_is_reference (hx : ∀ i, ∃ r : ℝ, x i = r) (hq : ∀ i, ∃ r : ℝ, wq i = r) (hk : ∀ i, ∃ r : ℝ, k i = r) :
    outV (insOf x wq k v wo) = outR x wq k v wo := by
  funext j
  obtain ⟨b, i, n, rfl⟩ : ∃ (b : Fin 2) (i : Fin 128) (n : Fin 512), j = ix3 b i n := ⟨j 0, j 1, j 2, eq_ix3 j⟩
  rw [outV_apply, outR_apply x wq k v wo hx hq hk, sum_columns]
  refine Finset.sum_congr rfl fun d _ => Finset.sum_congr rfl fun l _ => congrArg₂ (· * ·) ?_ (block_rows wo d l n)
  rw [head_context]
  refine congrArg₂ (context x wq k v b i) (Fin.ext ?_) (Fin.ext ?_)
  · show 4 * d.val + l.val / 64 = (256 * d.val + l.val) / 64
    omega
  · show l.val % 64 = (256 * d.val + l.val) % 64
    omega

end

/-! ## The runs -/

section

variable (m : (ℓ : Loc nD τ sig) → Buf (Elt Ideal) ℓ)

/-- Where device `c` holds all of x, K and V and its block of the two projections, its windows hold what the whole arrays say. -/
theorem insD_eq (c : Dev nD) {x : FVec Ideal S2x128x512 .f32} {wq : FVec Ideal ⟨2, ![512, 4096]⟩ .f32} {k v : FVec Ideal S2x128x64x64 .f32}
    {wo : FVec Ideal ⟨2, ![4096, 512]⟩ .f32}
    (h0 : m ((c : Thread nD τ).loc main_arg0) = x)
    (h1 : m ((c : Thread nD τ).loc main_arg1) = Layout.block ⟨2, ![512, 256]⟩ ⟨2, ![512, 4096]⟩ 1 16 c wq)
    (h2 : m ((c : Thread nD τ).loc main_arg2) = k)
    (h3 : m ((c : Thread nD τ).loc main_arg3) = v)
    (h4 : m ((c : Thread nD τ).loc main_arg4) = Layout.block ⟨2, ![256, 512]⟩ ⟨2, ![4096, 512]⟩ 0 16 c wo) :
    insD m c = insOf x wq k v wo c := by
  unfold insD insOf
  rw [keys_eq, values_eq, V1_of m c main_arg0 (by decide), V1_of m c main_arg1 (by decide), V1_of m c main_arg4 (by decide), h2, h3]
  exact (Ins.mk.injEq ..).mpr ⟨h0, h1, rfl, rfl, h4⟩

end

/-- The value claim: every device ends with the reference's result on the whole arrays. -/
theorem same_result [hPre : Cert.Pre_finite_KernelIdeal.Facts] : Cert.algebraic_KernelIdeal_ReferenceIdeal_pre_finite_KernelIdeal := by
  intro m g m' g' hp ha
  have hq : ∀ i, ∃ r : ℝ, m' (((0 : Dev Cert.ReferenceIdeal.nD).tc : Thread Cert.ReferenceIdeal.nD Cert.ReferenceIdeal.τ).loc Cert.ReferenceIdeal.main_arg1) i = (r : EReal) := by
    intro i
    obtain ⟨t, n, rfl⟩ : ∃ (t : Fin 512) (n : Fin 4096), i = ix2 t n := ⟨i 0, i 1, eq_ix2 i⟩
    obtain ⟨r, hr⟩ := real_of_finite (hp ⟨n.val / 256, by change _ < 16; omega⟩).2.1 (ix2 t ⟨n.val % 256, by omega⟩)
    refine ⟨r, Eq.trans ?_ hr⟩
    rw [(ha _).2.1]
    refine Eq.trans ?_ (block_cols _ (⟨n.val / 256, by omega⟩ : Fin 16) t ⟨n.val % 256, by omega⟩).symm
    refine congrArg (m' (((0 : Dev Cert.ReferenceIdeal.nD).tc : Thread Cert.ReferenceIdeal.nD Cert.ReferenceIdeal.τ).loc Cert.ReferenceIdeal.main_arg1)) ?_
    exact congrArg (fun c : Fin 4096 => ix2 t c) (Fin.ext (Nat.div_add_mod n.val 256).symm)
  have hx := fun i => (ha 0).1 ▸ real_of_finite (hp 0).1 i
  have hk := fun i => (ha 0).2.2.1 ▸ real_of_finite (hp 0).2.2 i
  have he : outD m = Cert.ReferenceIdeal.Value.res_main_v33 (F := Ideal) m' 0 := by
    rw [res_eq, ← kernel_is_reference _ _ _ _ _ hx hq hk]
    exact congrArg outV (funext fun c => insD_eq m c (ha c).1 (ha c).2.1 (ha c).2.2.1 (ha c).2.2.2.1 (ha c).2.2.2.2)
  refine ⟨outD m, ?_, ?_⟩
  · exact θ_run_mono (run_main (F := Ideal) m g) fun _ h c =>
      ⟨(h.1 c).2.2.2.2.2, (h.1 c).1, (h.1 c).2.1, (h.1 c).2.2.1, (h.1 c).2.2.2.1, (h.1 c).2.2.2.2.1⟩
  · exact θ_run_mono (Cert.ReferenceIdeal.Value.run (F := Ideal) m' g') fun _ h => ⟨(h 0).1.trans he.symm, (h 0).2⟩

end Cert.Exchange

end
-- ==== Proof.lean ====
/-
  The certificate: the frames of the three programs, the naming of the mask's constant, and the value: what every device ends with
  is the reference's result.
-/
module

public import proofs.«01_k».proof.Defs
public import proofs.«01_k».proof.Proof.Run
public import proofs.«01_k».proof.Proof.Frames
public import proofs.«01_k».proof.Proof.Equation
public import proofs.«01_k».proof.Proof.Gen.Kernel
public import proofs.«01_k».proof.Proof.Gen.KernelIdeal
public import proofs.«01_k».proof.Proof.Gen.ReferenceIdeal.Run

@[expose] public section

namespace Cert.Proof

open Cert.Exchange

/-- The finiteness test's broadcasts, on one device's blocks and on the whole arrays. -/
theorem tests_block : Cert.Pre_finite_KernelIdeal.Facts := ⟨by decide, by decide, by decide⟩
theorem tests_whole : Cert.Pre_finite_ReferenceIdeal.Facts := ⟨by decide, by decide, by decide⟩

theorem claim : Cert.Claim :=
  ⟨Cert.Kernel.Gen.facts, Cert.KernelIdeal.Gen.facts, Cert.ReferenceIdeal.Gen.facts, tests_block, tests_whole,
    frame_kernel, frame_ideal, fun m ρ _ => frame_ideal m ρ trivial, frame_reference, fun m ρ _ => frame_reference m ρ trivial,
    keeps_mask, same_result (hPre := tests_block)⟩

end Cert.Proof
